-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounds_finite [hPre_bounds_finite : Cert.Pre_bounds_finite.Facts] (m : (ℓ : Loc Cert.KernelIdeal.nD Cert.KernelIdeal.τ Cert.KernelIdeal.sig) → Buf (Elt Ideal) ℓ) : Prop :=
  ∀ c : Dev Cert.KernelIdeal.nD,
    (Cert.Pre_bounds_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounds_finite [hPre_bounds_finite : Cert.Pre_bounds_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounds_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_bounds_finite [hKernelIdeal : Cert.KernelIdeal.Facts] [hPre_bounds_finite : Cert.Pre_bounds_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounds_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_bounds_finite [hReferenceIdeal : Cert.ReferenceIdeal.Facts] [hPre_bounds_finite : Cert.Pre_bounds_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounds_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_bounds_finite [hKernelIdeal : Cert.KernelIdeal.Facts] [hReferenceIdeal : Cert.ReferenceIdeal.Facts] [hPre_bounds_finite : Cert.Pre_bounds_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounds_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v668) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_bounds_finite : Cert.Pre_bounds_finite.Facts),
    quiescent_Kernel (hKernel := hKernel)
    ∧ quiescent_KernelIdeal (hKernelIdeal := hKernelIdeal)
    ∧ quiescent_KernelIdeal_pre_bounds_finite (hKernelIdeal := hKernelIdeal) (hPre_bounds_finite := hPre_bounds_finite)
    ∧ quiescent_ReferenceIdeal (hReferenceIdeal := hReferenceIdeal)
    ∧ quiescent_ReferenceIdeal_pre_bounds_finite (hReferenceIdeal := hReferenceIdeal) (hPre_bounds_finite := hPre_bounds_finite)
    ∧ preserves_Kernel_KernelIdeal
    ∧ algebraic_KernelIdeal_ReferenceIdeal_pre_bounds_finite (hKernelIdeal := hKernelIdeal) (hReferenceIdeal := hReferenceIdeal) (hPre_bounds_finite := hPre_bounds_finite)
-- ==== Pre_bounds_finite.lean ====
abbrev S16x256 : Shape := ⟨2, ![16, 256]⟩
abbrev S288x256 : Shape := ⟨2, ![288, 256]⟩
abbrev S256 : Shape := ⟨1, ![256]⟩
abbrev S256x1 : Shape := ⟨2, ![256, 1]⟩
abbrev S1 : Shape := ⟨1, ![1]⟩
abbrev S2x32 : Shape := ⟨2, ![2, 32]⟩
abbrev S_ : Shape := ⟨0, ![]⟩

class Facts : Prop where
  bcast_S_S2x32 : S_.BroadcastsInDim S2x32 (![] : Fin 0 → Fin S2x32.rank)
  reducesTo_S2x32_S_d0_1 : S2x32.ReducesTo [0, 1] S_
  h_S_ : 0 < S_.numel

variable [Facts]

def fn {F : FTy → Type} [FloatOps F] (main_arg0 : FVec F S16x256 .f32) (main_arg1 : FVec F S288x256 .f32) (main_arg2 : FVec F S256 .f32) (main_arg3 : FVec F S256x1 .f32) (main_arg4 : FVec F S1 .f32) (main_arg5 : FVec F S2x32 .f32) : IVec S_ 1 :=
  let main_v0 : FVec F S2x32 .f32 := Host.absf main_arg5
  let main_cst : FVec F S_ .f32 := constant S_ .f32 0x7F800000#32
  let main_v1 : FVec F S2x32 .f32 := broadcastInDim S2x32 ![] bcast_S_S2x32 main_cst
  let main_v2 : IVec S2x32 1 := cmpf .olt main_v0 main_v1
  let main_c : IVec S_ 1 := constantI S_ 1 1#1
  let main_v3 : IVec S_ 1 := (fun x v => Host.reduce IntOp.andi x v reducesTo_S2x32_S_d0_1 h_S_) main_v2 main_c
  main_v3
-- ==== Kernel.lean ====
abbrev S16x256 : Shape := ⟨2, ![16, 256]⟩
abbrev S288x256 : Shape := ⟨2, ![288, 256]⟩
abbrev S256 : Shape := ⟨1, ![256]⟩
abbrev S256x1 : Shape := ⟨2, ![256, 1]⟩
abbrev S1 : Shape := ⟨1, ![1]⟩
abbrev S2x32 : Shape := ⟨2, ![2, 32]⟩
abbrev S16x1x256 : Shape := ⟨3, ![16, 1, 256]⟩
abbrev S256x256 : Shape := ⟨2, ![256, 256]⟩
abbrev S32x256 : Shape := ⟨2, ![32, 256]⟩
abbrev S1x256 : Shape := ⟨2, ![1, 256]⟩
abbrev S1x1 : Shape := ⟨2, ![1, 1]⟩
abbrev S_ : Shape := ⟨0, ![]⟩
abbrev S16x2048x32 : Shape := ⟨3, ![16, 2048, 32]⟩
abbrev S1x2048x32 : Shape := ⟨3, ![1, 2048, 32]⟩
abbrev S2048x32 : Shape := ⟨2, ![2048, 32]⟩
abbrev S1x32 : Shape := ⟨2, ![1, 32]⟩
abbrev S32 : Shape := ⟨1, ![32]⟩
abbrev S1x1x256 : Shape := ⟨3, ![1, 1, 256]⟩
abbrev S1x256x32 : Shape := ⟨3, ![1, 256, 32]⟩
abbrev S1x2048 : Shape := ⟨2, ![1, 2048]⟩
abbrev S2048x256 : Shape := ⟨2, ![2048, 256]⟩
abbrev S2048x1 : Shape := ⟨2, ![2048, 1]⟩
abbrev S2048 : Shape := ⟨1, ![2048]⟩
abbrev S256x2048 : Shape := ⟨2, ![256, 2048]⟩
abbrev S256x32 : Shape := ⟨2, ![256, 32]⟩
abbrev S16x1x32 : Shape := ⟨3, ![16, 1, 32]⟩
abbrev S1x1x32 : Shape := ⟨3, ![1, 1, 32]⟩
abbrev S16x32 : Shape := ⟨2, ![16, 32]⟩

abbrev nBuf : Space → Nat
  | .hbm => 23
  | .vmem => 62
  | .smem => 4
  | _ => 0

abbrev bufTy : (tb : Table) → Fin (tcTables nBuf tb) → BufTy
  | .hbm, ⟨0, _⟩ => ⟨S16x256, .f32⟩
  | .hbm, ⟨1, _⟩ => ⟨S288x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S2x32, .f32⟩
  | .hbm, ⟨6, _⟩ => ⟨S16x1x256, .f32⟩
  | .hbm, ⟨7, _⟩ => ⟨S16x1x256, .bf16⟩
  | .hbm, ⟨8, _⟩ => ⟨S256x256, .f32⟩
  | .hbm, ⟨9, _⟩ => ⟨S256x256, .bf16⟩
  | .hbm, ⟨10, _⟩ => ⟨S32x256, .f32⟩
  | .hbm, ⟨11, _⟩ => ⟨S32x256, .bf16⟩
  | .hbm, ⟨12, _⟩ => ⟨S1x256, .f32⟩
  | .hbm, ⟨13, _⟩ => ⟨S256x1, .bf16⟩
  | .hbm, ⟨14, _⟩ => ⟨S1x1, .f32⟩
  | .hbm, ⟨15, _⟩ => ⟨S_, .i32⟩
  | .hbm, ⟨16, _⟩ => ⟨S1, .i32⟩
  | .hbm, ⟨17, _⟩ => ⟨S16x2048x32, .f32⟩
  | .hbm, ⟨18, _⟩ => ⟨S16x2048x32, .f32⟩
  | .hbm, ⟨19, _⟩ => ⟨S16x2048x32, .f32⟩
  | .hbm, ⟨20, _⟩ => ⟨S16x2048x32, .f32⟩
  | .hbm, ⟨21, _⟩ => ⟨S16x1x32, .f32⟩
  | .hbm, ⟨22, _⟩ => ⟨S16x32, .f32⟩
  | .local _ .vmem, ⟨0, _⟩ => ⟨S2x32, .f32⟩
  | .local _ .vmem, ⟨1, _⟩ => ⟨S1x2048x32, .f32⟩
  | .local _ .vmem, ⟨2, _⟩ => ⟨S1x2048x32, .f32⟩
  | .local _ .vmem, ⟨3, _⟩ => ⟨S1x1x256, .bf16⟩
  | .local _ .vmem, ⟨4, _⟩ => ⟨S1x1x256, .bf16⟩
  | .local _ .vmem, ⟨5, _⟩ => ⟨S256x256, .bf16⟩
  | .local _ .vmem, ⟨6, _⟩ => ⟨S32x256, .bf16⟩
  | .local _ .vmem, ⟨7, _⟩ => ⟨S1x256, .f32⟩
  | .local _ .vmem, ⟨8, _⟩ => ⟨S256x1, .bf16⟩
  | .local _ .vmem, ⟨9, _⟩ => ⟨S1x1, .f32⟩
  | .local _ .vmem, ⟨10, _⟩ => ⟨S1x2048x32, .f32⟩
  | .local _ .vmem, ⟨11, _⟩ => ⟨S1x2048x32, .f32⟩
  | .local _ .vmem, ⟨12, _⟩ => ⟨S2x32, .f32⟩
  | .local _ .vmem, ⟨13, _⟩ => ⟨S1x256x32, .f32⟩
  | .local _ .vmem, ⟨14, _⟩ => ⟨S1x256x32, .f32⟩
  | .local _ .vmem, ⟨15, _⟩ => ⟨S1x2048, .f32⟩
  | .local _ .vmem, ⟨16, _⟩ => ⟨S2048x32, .bf16⟩
  | .local _ .vmem, ⟨17, _⟩ => ⟨S2048x32, .bf16⟩
  | .local _ .vmem, ⟨18, _⟩ => ⟨S2048x32, .bf16⟩
  | .local _ .vmem, ⟨19, _⟩ => ⟨S1x1x256, .bf16⟩
  | .local _ .vmem, ⟨20, _⟩ => ⟨S1x1x256, .bf16⟩
  | .local _ .vmem, ⟨21, _⟩ => ⟨S256x256, .bf16⟩
  | .local _ .vmem, ⟨22, _⟩ => ⟨S32x256, .bf16⟩
  | .local _ .vmem, ⟨23, _⟩ => ⟨S1x256, .f32⟩
  | .local _ .vmem, ⟨24, _⟩ => ⟨S256x1, .bf16⟩
  | .local _ .vmem, ⟨25, _⟩ => ⟨S1x1, .f32⟩
  | .local _ .vmem, ⟨26, _⟩ => ⟨S1x2048x32, .f32⟩
  | .local _ .vmem, ⟨27, _⟩ => ⟨S1x2048x32, .f32⟩
  | .local _ .vmem, ⟨28, _⟩ => ⟨S2x32, .f32⟩
  | .local _ .vmem, ⟨29, _⟩ => ⟨S1x256x32, .f32⟩
  | .local _ .vmem, ⟨30, _⟩ => ⟨S1x256x32, .f32⟩
  | .local _ .vmem, ⟨31, _⟩ => ⟨S1x2048, .f32⟩
  | .local _ .vmem, ⟨32, _⟩ => ⟨S2048x32, .bf16⟩
  | .local _ .vmem, ⟨33, _⟩ => ⟨S2048x32, .bf16⟩
  | .local _ .vmem, ⟨34, _⟩ => ⟨S2048x32, .bf16⟩
  | .local _ .vmem, ⟨35, _⟩ => ⟨S1x1x256, .bf16⟩
  | .local _ .vmem, ⟨36, _⟩ => ⟨S1x1x256, .bf16⟩
  | .local _ .vmem, ⟨37, _⟩ => ⟨S256x256, .bf16⟩
  | .local _ .vmem, ⟨38, _⟩ => ⟨S32x256, .bf16⟩
  | .local _ .vmem, ⟨39, _⟩ => ⟨S1x256, .f32⟩
  | .local _ .vmem, ⟨40, _⟩ => ⟨S256x1, .bf16⟩
  | .local _ .vmem, ⟨41, _⟩ => ⟨S1x1, .f32⟩
  | .local _ .vmem, ⟨42, _⟩ => ⟨S1x2048x32, .f32⟩
  | .local _ .vmem, ⟨43, _⟩ => ⟨S1x2048x32, .f32⟩
  | .local _ .vmem, ⟨44, _⟩ => ⟨S2x32, .f32⟩
  | .local _ .vmem, ⟨45, _⟩ => ⟨S1x256x32, .f32⟩
  | .local _ .vmem, ⟨46, _⟩ => ⟨S1x256x32, .f32⟩
  | .local _ .vmem, ⟨47, _⟩ => ⟨S1x2048, .f32⟩
  | .local _ .vmem, ⟨48, _⟩ => ⟨S2048x32, .bf16⟩
  | .local _ .vmem, ⟨49, _⟩ => ⟨S2048x32, .bf16⟩
  | .local _ .vmem, ⟨50, _⟩ => ⟨S2048x32, .bf16⟩
  | .local _ .vmem, ⟨51, _⟩ => ⟨S1x1x256, .bf16⟩
  | .local _ .vmem, ⟨52, _⟩ => ⟨S1x1x256, .bf16⟩
  | .local _ .vmem, ⟨53, _⟩ => ⟨S256x256, .bf16⟩
  | .local _ .vmem, ⟨54, _⟩ => ⟨S32x256, .bf16⟩
  | .local _ .vmem, ⟨55, _⟩ => ⟨S1x256, .f32⟩
  | .local _ .vmem, ⟨56, _⟩ => ⟨S256x1, .bf16⟩
  | .local _ .vmem, ⟨57, _⟩ => ⟨S1x1, .f32⟩
  | .local _ .vmem, ⟨58, _⟩ => ⟨S1x2048x32, .f32⟩
  | .local _ .vmem, ⟨59, _⟩ => ⟨S1x2048x32, .f32⟩
  | .local _ .vmem, ⟨60, _⟩ => ⟨S1x1x32, .f32⟩
  | .local _ .vmem, ⟨61, _⟩ => ⟨S1x1x32, .f32⟩
  | .local _ .smem, ⟨0, _⟩ => ⟨S1, .i32⟩
  | .local _ .smem, ⟨1, _⟩ => ⟨S1, .i32⟩
  | .local _ .smem, ⟨2, _⟩ => ⟨S1, .i32⟩
  | .local _ .smem, ⟨3, _⟩ => ⟨S1, .i32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg7_1 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg9_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc1_scratch3 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg9_1 : Ref sig .tc := ⟨.vmem, 30, rfl⟩
abbrev cc2_scratch0 : Ref sig .tc := ⟨.vmem, 31, rfl⟩
abbrev cc2_scratch1 : Ref sig .tc := ⟨.vmem, 32, rfl⟩
abbrev cc2_scratch2 : Ref sig .tc := ⟨.vmem, 33, rfl⟩
abbrev cc2_scratch3 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc3_stg8_0 : Ref sig .tc := ⟨.vmem, 44, rfl⟩
abbrev cc3_stg9_0 : Ref sig .tc := ⟨.vmem, 45, rfl⟩
abbrev cc3_stg9_1 : Ref sig .tc := ⟨.vmem, 46, rfl⟩
abbrev cc3_scratch0 : Ref sig .tc := ⟨.vmem, 47, rfl⟩
abbrev cc3_scratch1 : Ref sig .tc := ⟨.vmem, 48, rfl⟩
abbrev cc3_scratch2 : Ref sig .tc := ⟨.vmem, 49, rfl⟩
abbrev cc3_scratch3 : Ref sig .tc := ⟨.vmem, 50, rfl⟩
abbrev cc4_stg0_0 : Ref sig .tc := ⟨.vmem, 51, rfl⟩
abbrev cc4_stg0_1 : Ref sig .tc := ⟨.vmem, 52, rfl⟩
abbrev cc4_stg1_0 : Ref sig .tc := ⟨.vmem, 53, rfl⟩
abbrev cc4_stg2_0 : Ref sig .tc := ⟨.vmem, 54, rfl⟩
abbrev cc4_stg3_0 : Ref sig .tc := ⟨.vmem, 55, rfl⟩
abbrev cc4_stg4_0 : Ref sig .tc := ⟨.vmem, 56, rfl⟩
abbrev cc4_stg5_0 : Ref sig .tc := ⟨.vmem, 57, rfl⟩
abbrev cc4_stg6_0 : Ref sig .tc := ⟨.vmem, 58, rfl⟩
abbrev cc4_stg6_1 : Ref sig .tc := ⟨.vmem, 59, rfl⟩
abbrev cc4_stg7_0 : Ref sig .tc := ⟨.vmem, 60, rfl⟩
abbrev cc4_stg7_1 : Ref sig .tc := ⟨.vmem, 61, rfl⟩
abbrev cc0_stg0_0 : Ref sig .tc := ⟨.smem, 0, rfl⟩
abbrev cc1_stg0_0 : Ref sig .tc := ⟨.smem, 1, rfl⟩
abbrev cc2_stg0_0 : Ref sig .tc := ⟨.smem, 2, rfl⟩
abbrev cc3_stg0_0 : Ref sig .tc := ⟨.smem, 3, rfl⟩
abbrev cc0_sem0_0 : DmaSem sig := 0
abbrev cc0_sem1_0 : DmaSem sig := 1
abbrev cc0_sem2_0 : DmaSem sig := 2
abbrev cc0_sem2_1 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem7_1 : DmaSem sig := 13
abbrev cc1_sem8_0 : DmaSem sig := 14
abbrev cc1_sem9_0 : DmaSem sig := 15
abbrev cc1_sem9_1 : DmaSem sig := 16
abbrev cc2_sem0_0 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem7_1 : DmaSem sig := 26
abbrev cc2_sem8_0 : DmaSem sig := 27
abbrev cc2_sem9_0 : DmaSem sig := 28
abbrev cc2_sem9_1 : DmaSem sig := 29
abbrev cc3_sem0_0 : DmaSem sig := 30
abbrev cc3_sem1_0 : DmaSem sig := 31
abbrev cc3_sem1_1 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39
abbrev cc3_sem8_0 : DmaSem sig := 40
abbrev cc3_sem9_0 : DmaSem sig := 41
abbrev cc3_sem9_1 : DmaSem sig := 42
abbrev cc4_sem0_0 : DmaSem sig := 43
abbrev cc4_sem0_1 : DmaSem sig := 44
abbrev cc4_sem1_0 : DmaSem sig := 45
abbrev cc4_sem2_0 : DmaSem sig := 46
abbrev cc4_sem3_0 : DmaSem sig := 47
abbrev cc4_sem4_0 : DmaSem sig := 48
abbrev cc4_sem5_0 : DmaSem sig := 49
abbrev cc4_sem6_0 : DmaSem sig := 50
abbrev cc4_sem6_1 : DmaSem sig := 51
abbrev cc4_sem7_0 : DmaSem sig := 52
abbrev cc4_sem7_1 : DmaSem sig := 53

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 8], ![false, false]⟩

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 1 → Memref sig .tc .smem S1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x1x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S32x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x1 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x2048x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 1 → Memref sig .tc .vmem S2x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S1x256x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev grid2 : Pipeline.Grid := ⟨2, ![16, 8], ![false, false]⟩

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 1 → Memref sig .tc .smem S1 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1x1x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S256x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S32x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S256x1 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1x2048x32 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 1 → Memref sig .tc .vmem S2x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 2 → Memref sig .tc .vmem S1x256x32 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev grid3 : Pipeline.Grid := ⟨2, ![16, 8], ![false, false]⟩

def cc3_transform_0 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 1 → Memref sig .tc .smem S1 .i32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 2 → Memref sig .tc .vmem S1x1x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 1 → Memref sig .tc .vmem S256x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S32x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S256x1 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S1x2048x32 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false]

abbrev stage3_8 : Fin 1 → Memref sig .tc .vmem S2x32 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 2 → Memref sig .tc .vmem S1x256x32 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev grid4 : Pipeline.Grid := ⟨1, ![16], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_7 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x1x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S32x256 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x1 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S1x2048x32 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S1x1x32 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]
-- ==== ReferenceIdeal.lean ====
abbrev S16x256 : Shape := ⟨2, ![16, 256]⟩
abbrev S288x256 : Shape := ⟨2, ![288, 256]⟩
abbrev S256 : Shape := ⟨1, ![256]⟩
abbrev S256x1 : Shape := ⟨2, ![256, 1]⟩
abbrev S1 : Shape := ⟨1, ![1]⟩
abbrev S2x32 : Shape := ⟨2, ![2, 32]⟩
abbrev S_ : Shape := ⟨0, ![]⟩
abbrev S1x1x1 : Shape := ⟨3, ![1, 1, 1]⟩
abbrev S1x1x1x1 : Shape := ⟨4, ![1, 1, 1, 1]⟩
abbrev S4x1x1x1 : Shape := ⟨4, ![4, 1, 1, 1]⟩
abbrev S1048576 : Shape := ⟨1, ![1048576]⟩
abbrev S1x16x2048x32 : Shape := ⟨4, ![1, 16, 2048, 32]⟩
abbrev S4x16x2048x32 : Shape := ⟨4, ![4, 16, 2048, 32]⟩
abbrev S16x2048x32 : Shape := ⟨3, ![16, 2048, 32]⟩
abbrev S3x16x2048x32 : Shape := ⟨4, ![3, 16, 2048, 32]⟩
abbrev S3x1x1x1 : Shape := ⟨4, ![3, 1, 1, 1]⟩
abbrev S67108864 : Shape := ⟨1, ![67108864]⟩
abbrev S1x16x2048x2048 : Shape := ⟨4, ![1, 16, 2048, 2048]⟩
abbrev S3x16x2048x2048 : Shape := ⟨4, ![3, 16, 2048, 2048]⟩
abbrev S1x32 : Shape := ⟨2, ![1, 32]⟩
abbrev S32 : Shape := ⟨1, ![32]⟩
abbrev S1x1x32 : Shape := ⟨3, ![1, 1, 32]⟩
abbrev S16x1x256 : Shape := ⟨3, ![16, 1, 256]⟩
abbrev S16x2048x256 : Shape := ⟨3, ![16, 2048, 256]⟩
abbrev S16x2048x288 : Shape := ⟨3, ![16, 2048, 288]⟩
abbrev S1x1x256 : Shape := ⟨3, ![1, 1, 256]⟩
abbrev S16x2048x1 : Shape := ⟨3, ![16, 2048, 1]⟩
abbrev S16x2048 : Shape := ⟨2, ![16, 2048]⟩
abbrev S16x2048x2048 : Shape := ⟨3, ![16, 2048, 2048]⟩
abbrev S16x1x2048 : Shape := ⟨3, ![16, 1, 2048]⟩
abbrev S2048 : Shape := ⟨1, ![2048]⟩
abbrev S16 : Shape := ⟨1, ![16]⟩
abbrev S16x1 : Shape := ⟨2, ![16, 1]⟩
abbrev S16x1x1 : Shape := ⟨3, ![16, 1, 1]⟩
abbrev S16x1x32 : Shape := ⟨3, ![16, 1, 32]⟩
abbrev S16x32 : Shape := ⟨2, ![16, 32]⟩

abbrev nBuf : Space → Nat
  | .hbm => 987
  | .vmem => 0
  | .smem => 0
  | _ => 0

abbrev hbmTy0_0 (i : Nat) : BufTy := match i % 128 with
  | 0 => ⟨S16x256, .f32⟩
  | 1 => ⟨S288x256, .f32⟩
  | 2 => ⟨S256, .f32⟩
  | 3 => ⟨S256x1, .f32⟩
  | 4 => ⟨S1, .f32⟩
  | 5 => ⟨S2x32, .f32⟩
  | 6 => ⟨S_, .i32⟩
  | 7 => ⟨S1x1x1, .i32⟩
  | 8 => ⟨S_, .i32⟩
  | 9 => ⟨S1x1x1, .i32⟩
  | 10 => ⟨S_, .i32⟩
  | 11 => ⟨S1x1x1, .i32⟩
  | 12 => ⟨S_, .i32⟩
  | 13 => ⟨S1x1x1, .i32⟩
  | 14 => ⟨S1x1x1x1, .i32⟩
  | 15 => ⟨S1x1x1x1, .i32⟩
  | 16 => ⟨S1x1x1x1, .i32⟩
  | 17 => ⟨S1x1x1x1, .i32⟩
  | 18 => ⟨S4x1x1x1, .i32⟩
  | 19 => ⟨S_, .i32⟩
  | 20 => ⟨S1x1x1, .i32⟩
  | 21 => ⟨S_, .i32⟩
  | 22 => ⟨S1x1x1, .i32⟩
  | 23 => ⟨S_, .i32⟩
  | 24 => ⟨S1x1x1, .i32⟩
  | 25 => ⟨S_, .i32⟩
  | 26 => ⟨S1x1x1, .i32⟩
  | 27 => ⟨S1x1x1x1, .i32⟩
  | 28 => ⟨S1x1x1x1, .i32⟩
  | 29 => ⟨S1x1x1x1, .i32⟩
  | 30 => ⟨S1x1x1x1, .i32⟩
  | 31 => ⟨S4x1x1x1, .i32⟩
  | 32 => ⟨S_, .i32⟩
  | 33 => ⟨S1x1x1, .i32⟩
  | 34 => ⟨S_, .i32⟩
  | 35 => ⟨S1x1x1, .i32⟩
  | 36 => ⟨S_, .i32⟩
  | 37 => ⟨S1x1x1, .i32⟩
  | 38 => ⟨S_, .i32⟩
  | 39 => ⟨S1x1x1, .i32⟩
  | 40 => ⟨S1x1x1x1, .i32⟩
  | 41 => ⟨S1x1x1x1, .i32⟩
  | 42 => ⟨S1x1x1x1, .i32⟩
  | 43 => ⟨S1x1x1x1, .i32⟩
  | 44 => ⟨S4x1x1x1, .i32⟩
  | 45 => ⟨S1048576, .i32⟩
  | 46 => ⟨S1x16x2048x32, .i32⟩
  | 47 => ⟨S4x16x2048x32, .i32⟩
  | 48 => ⟨S4x16x2048x32, .i32⟩
  | 49 => ⟨S4x16x2048x32, .i32⟩
  | 50 => ⟨S4x16x2048x32, .i32⟩
  | 51 => ⟨S4x16x2048x32, .i32⟩
  | 52 => ⟨S_, .i32⟩
  | 53 => ⟨S4x16x2048x32, .i32⟩
  | 54 => ⟨S4x16x2048x32, .i32⟩
  | 55 => ⟨S_, .i32⟩
  | 56 => ⟨S4x16x2048x32, .i32⟩
  | 57 => ⟨S4x16x2048x32, .i32⟩
  | 58 => ⟨S4x16x2048x32, .i32⟩
  | 59 => ⟨S4x16x2048x32, .i32⟩
  | 60 => ⟨S4x16x2048x32, .i32⟩
  | 61 => ⟨S_, .i32⟩
  | 62 => ⟨S4x16x2048x32, .i32⟩
  | 63 => ⟨S4x16x2048x32, .i32⟩
  | 64 => ⟨S_, .i32⟩
  | 65 => ⟨S4x16x2048x32, .i32⟩
  | 66 => ⟨S4x16x2048x32, .i32⟩
  | 67 => ⟨S4x16x2048x32, .i32⟩
  | 68 => ⟨S4x16x2048x32, .i32⟩
  | 69 => ⟨S4x16x2048x32, .i32⟩
  | 70 => ⟨S_, .i32⟩
  | 71 => ⟨S4x16x2048x32, .i32⟩
  | 72 => ⟨S4x16x2048x32, .i32⟩
  | 73 => ⟨S_, .i32⟩
  | 74 => ⟨S4x16x2048x32, .i32⟩
  | 75 => ⟨S4x16x2048x32, .i32⟩
  | 76 => ⟨S4x16x2048x32, .i32⟩
  | 77 => ⟨S4x16x2048x32, .i32⟩
  | 78 => ⟨S4x16x2048x32, .i32⟩
  | 79 => ⟨S_, .i32⟩
  | 80 => ⟨S4x16x2048x32, .i32⟩
  | 81 => ⟨S4x16x2048x32, .i32⟩
  | 82 => ⟨S_, .i32⟩
  | 83 => ⟨S4x16x2048x32, .i32⟩
  | 84 => ⟨S4x16x2048x32, .i32⟩
  | 85 => ⟨S4x16x2048x32, .i32⟩
  | 86 => ⟨S4x16x2048x32, .i32⟩
  | 87 => ⟨S4x16x2048x32, .i32⟩
  | 88 => ⟨S4x16x2048x32, .i32⟩
  | 89 => ⟨S_, .i32⟩
  | 90 => ⟨S4x1x1x1, .i32⟩
  | 91 => ⟨S4x1x1x1, .i32⟩
  | 92 => ⟨S4x16x2048x32, .i32⟩
  | 93 => ⟨S4x16x2048x32, .i32⟩
  | 94 => ⟨S4x16x2048x32, .i32⟩
  | 95 => ⟨S_, .i32⟩
  | 96 => ⟨S4x16x2048x32, .i32⟩
  | 97 => ⟨S4x16x2048x32, .i32⟩
  | 98 => ⟨S_, .i32⟩
  | 99 => ⟨S4x16x2048x32, .i32⟩
  | 100 => ⟨S4x16x2048x32, .i32⟩
  | 101 => ⟨S4x16x2048x32, .i32⟩
  | 102 => ⟨S4x16x2048x32, .i32⟩
  | 103 => ⟨S4x16x2048x32, .i32⟩
  | 104 => ⟨S_, .i32⟩
  | 105 => ⟨S4x16x2048x32, .i32⟩
  | 106 => ⟨S4x16x2048x32, .i32⟩
  | 107 => ⟨S_, .i32⟩
  | 108 => ⟨S4x16x2048x32, .i32⟩
  | 109 => ⟨S4x16x2048x32, .i32⟩
  | 110 => ⟨S4x16x2048x32, .i32⟩
  | 111 => ⟨S4x16x2048x32, .i32⟩
  | 112 => ⟨S4x16x2048x32, .i32⟩
  | 113 => ⟨S_, .i32⟩
  | 114 => ⟨S4x16x2048x32, .i32⟩
  | 115 => ⟨S4x16x2048x32, .i32⟩
  | 116 => ⟨S_, .i32⟩
  | 117 => ⟨S4x16x2048x32, .i32⟩
  | 118 => ⟨S4x16x2048x32, .i32⟩
  | 119 => ⟨S4x16x2048x32, .i32⟩
  | 120 => ⟨S4x16x2048x32, .i32⟩
  | 121 => ⟨S4x16x2048x32, .i32⟩
  | 122 => ⟨S_, .i32⟩
  | 123 => ⟨S4x16x2048x32, .i32⟩
  | 124 => ⟨S4x16x2048x32, .i32⟩
  | 125 => ⟨S_, .i32⟩
  | 126 => ⟨S4x16x2048x32, .i32⟩
  | 127 => ⟨S4x16x2048x32, .i32⟩
  | _ => ⟨S16x256, .f32⟩

abbrev hbmTy0_1 (i : Nat) : BufTy := match i % 128 with
  | 0 => ⟨S4x16x2048x32, .i32⟩
  | 1 => ⟨S4x16x2048x32, .i32⟩
  | 2 => ⟨S4x16x2048x32, .i32⟩
  | 3 => ⟨S4x16x2048x32, .i32⟩
  | 4 => ⟨S_, .i32⟩
  | 5 => ⟨S4x1x1x1, .i32⟩
  | 6 => ⟨S4x1x1x1, .i32⟩
  | 7 => ⟨S4x16x2048x32, .i32⟩
  | 8 => ⟨S4x16x2048x32, .i32⟩
  | 9 => ⟨S4x16x2048x32, .i32⟩
  | 10 => ⟨S_, .i32⟩
  | 11 => ⟨S4x16x2048x32, .i32⟩
  | 12 => ⟨S4x16x2048x32, .i32⟩
  | 13 => ⟨S_, .i32⟩
  | 14 => ⟨S4x16x2048x32, .i32⟩
  | 15 => ⟨S4x16x2048x32, .i32⟩
  | 16 => ⟨S4x16x2048x32, .i32⟩
  | 17 => ⟨S4x16x2048x32, .i32⟩
  | 18 => ⟨S4x16x2048x32, .i32⟩
  | 19 => ⟨S_, .i32⟩
  | 20 => ⟨S4x16x2048x32, .i32⟩
  | 21 => ⟨S4x16x2048x32, .i32⟩
  | 22 => ⟨S_, .i32⟩
  | 23 => ⟨S4x16x2048x32, .i32⟩
  | 24 => ⟨S4x16x2048x32, .i32⟩
  | 25 => ⟨S4x16x2048x32, .i32⟩
  | 26 => ⟨S4x16x2048x32, .i32⟩
  | 27 => ⟨S4x16x2048x32, .i32⟩
  | 28 => ⟨S_, .i32⟩
  | 29 => ⟨S4x16x2048x32, .i32⟩
  | 30 => ⟨S4x16x2048x32, .i32⟩
  | 31 => ⟨S_, .i32⟩
  | 32 => ⟨S4x16x2048x32, .i32⟩
  | 33 => ⟨S4x16x2048x32, .i32⟩
  | 34 => ⟨S4x16x2048x32, .i32⟩
  | 35 => ⟨S4x16x2048x32, .i32⟩
  | 36 => ⟨S4x16x2048x32, .i32⟩
  | 37 => ⟨S_, .i32⟩
  | 38 => ⟨S4x16x2048x32, .i32⟩
  | 39 => ⟨S4x16x2048x32, .i32⟩
  | 40 => ⟨S_, .i32⟩
  | 41 => ⟨S4x16x2048x32, .i32⟩
  | 42 => ⟨S4x16x2048x32, .i32⟩
  | 43 => ⟨S4x16x2048x32, .i32⟩
  | 44 => ⟨S4x16x2048x32, .i32⟩
  | 45 => ⟨S4x16x2048x32, .i32⟩
  | 46 => ⟨S4x16x2048x32, .i32⟩
  | 47 => ⟨S_, .i32⟩
  | 48 => ⟨S4x1x1x1, .i32⟩
  | 49 => ⟨S4x1x1x1, .i32⟩
  | 50 => ⟨S4x16x2048x32, .i32⟩
  | 51 => ⟨S4x16x2048x32, .i32⟩
  | 52 => ⟨S4x16x2048x32, .i32⟩
  | 53 => ⟨S_, .i32⟩
  | 54 => ⟨S4x16x2048x32, .i32⟩
  | 55 => ⟨S4x16x2048x32, .i32⟩
  | 56 => ⟨S_, .i32⟩
  | 57 => ⟨S4x16x2048x32, .i32⟩
  | 58 => ⟨S4x16x2048x32, .i32⟩
  | 59 => ⟨S4x16x2048x32, .i32⟩
  | 60 => ⟨S4x16x2048x32, .i32⟩
  | 61 => ⟨S4x16x2048x32, .i32⟩
  | 62 => ⟨S_, .i32⟩
  | 63 => ⟨S4x16x2048x32, .i32⟩
  | 64 => ⟨S4x16x2048x32, .i32⟩
  | 65 => ⟨S_, .i32⟩
  | 66 => ⟨S4x16x2048x32, .i32⟩
  | 67 => ⟨S4x16x2048x32, .i32⟩
  | 68 => ⟨S4x16x2048x32, .i32⟩
  | 69 => ⟨S4x16x2048x32, .i32⟩
  | 70 => ⟨S4x16x2048x32, .i32⟩
  | 71 => ⟨S_, .i32⟩
  | 72 => ⟨S4x16x2048x32, .i32⟩
  | 73 => ⟨S4x16x2048x32, .i32⟩
  | 74 => ⟨S_, .i32⟩
  | 75 => ⟨S4x16x2048x32, .i32⟩
  | 76 => ⟨S4x16x2048x32, .i32⟩
  | 77 => ⟨S4x16x2048x32, .i32⟩
  | 78 => ⟨S4x16x2048x32, .i32⟩
  | 79 => ⟨S4x16x2048x32, .i32⟩
  | 80 => ⟨S_, .i32⟩
  | 81 => ⟨S4x16x2048x32, .i32⟩
  | 82 => ⟨S4x16x2048x32, .i32⟩
  | 83 => ⟨S_, .i32⟩
  | 84 => ⟨S4x16x2048x32, .i32⟩
  | 85 => ⟨S4x16x2048x32, .i32⟩
  | 86 => ⟨S4x16x2048x32, .i32⟩
  | 87 => ⟨S4x16x2048x32, .i32⟩
  | 88 => ⟨S4x16x2048x32, .i32⟩
  | 89 => ⟨S4x16x2048x32, .i32⟩
  | 90 => ⟨S_, .i32⟩
  | 91 => ⟨S4x1x1x1, .i32⟩
  | 92 => ⟨S4x1x1x1, .i32⟩
  | 93 => ⟨S4x16x2048x32, .i32⟩
  | 94 => ⟨S4x16x2048x32, .i32⟩
  | 95 => ⟨S4x16x2048x32, .i32⟩
  | 96 => ⟨S_, .i32⟩
  | 97 => ⟨S4x16x2048x32, .i32⟩
  | 98 => ⟨S4x16x2048x32, .i32⟩
  | 99 => ⟨S_, .i32⟩
  | 100 => ⟨S4x16x2048x32, .i32⟩
  | 101 => ⟨S4x16x2048x32, .i32⟩
  | 102 => ⟨S4x16x2048x32, .i32⟩
  | 103 => ⟨S4x16x2048x32, .i32⟩
  | 104 => ⟨S4x16x2048x32, .i32⟩
  | 105 => ⟨S_, .i32⟩
  | 106 => ⟨S4x16x2048x32, .i32⟩
  | 107 => ⟨S4x16x2048x32, .i32⟩
  | 108 => ⟨S_, .i32⟩
  | 109 => ⟨S4x16x2048x32, .i32⟩
  | 110 => ⟨S4x16x2048x32, .i32⟩
  | 111 => ⟨S4x16x2048x32, .i32⟩
  | 112 => ⟨S4x16x2048x32, .i32⟩
  | 113 => ⟨S4x16x2048x32, .i32⟩
  | 114 => ⟨S_, .i32⟩
  | 115 => ⟨S4x16x2048x32, .i32⟩
  | 116 => ⟨S4x16x2048x32, .i32⟩
  | 117 => ⟨S_, .i32⟩
  | 118 => ⟨S4x16x2048x32, .i32⟩
  | 119 => ⟨S4x16x2048x32, .i32⟩
  | 120 => ⟨S4x16x2048x32, .i32⟩
  | 121 => ⟨S4x16x2048x32, .i32⟩
  | 122 => ⟨S4x16x2048x32, .i32⟩
  | 123 => ⟨S_, .i32⟩
  | 124 => ⟨S4x16x2048x32, .i32⟩
  | 125 => ⟨S4x16x2048x32, .i32⟩
  | 126 => ⟨S_, .i32⟩
  | 127 => ⟨S4x16x2048x32, .i32⟩
  | _ => ⟨S16x256, .f32⟩

abbrev hbmTy0_2 (i : Nat) : BufTy := match i % 128 with
  | 0 => ⟨S4x16x2048x32, .i32⟩
  | 1 => ⟨S4x16x2048x32, .i32⟩
  | 2 => ⟨S4x16x2048x32, .i32⟩
  | 3 => ⟨S4x16x2048x32, .i32⟩
  | 4 => ⟨S4x16x2048x32, .i32⟩
  | 5 => ⟨S_, .i32⟩
  | 6 => ⟨S4x1x1x1, .i32⟩
  | 7 => ⟨S4x1x1x1, .i32⟩
  | 8 => ⟨S4x16x2048x32, .i32⟩
  | 9 => ⟨S4x16x2048x32, .i32⟩
  | 10 => ⟨S4x16x2048x32, .i32⟩
  | 11 => ⟨S1x16x2048x32, .i32⟩
  | 12 => ⟨S16x2048x32, .i32⟩
  | 13 => ⟨S_, .i32⟩
  | 14 => ⟨S16x2048x32, .i32⟩
  | 15 => ⟨S16x2048x32, .i32⟩
  | 16 => ⟨S_, .i32⟩
  | 17 => ⟨S16x2048x32, .i32⟩
  | 18 => ⟨S16x2048x32, .i32⟩
  | 19 => ⟨S16x2048x32, .f32⟩
  | 20 => ⟨S_, .f32⟩
  | 21 => ⟨S16x2048x32, .f32⟩
  | 22 => ⟨S16x2048x32, .f32⟩
  | 23 => ⟨S_, .f32⟩
  | 24 => ⟨S16x2048x32, .f32⟩
  | 25 => ⟨S16x2048x32, .f32⟩
  | 26 => ⟨S_, .f32⟩
  | 27 => ⟨S16x2048x32, .f32⟩
  | 28 => ⟨S16x2048x32, .f32⟩
  | 29 => ⟨S_, .f32⟩
  | 30 => ⟨S16x2048x32, .f32⟩
  | 31 => ⟨S16x2048x32, .f32⟩
  | 32 => ⟨S3x16x2048x32, .i32⟩
  | 33 => ⟨S_, .i32⟩
  | 34 => ⟨S3x16x2048x32, .i32⟩
  | 35 => ⟨S3x16x2048x32, .i32⟩
  | 36 => ⟨S_, .i32⟩
  | 37 => ⟨S3x16x2048x32, .i32⟩
  | 38 => ⟨S3x16x2048x32, .i32⟩
  | 39 => ⟨S3x16x2048x32, .f32⟩
  | 40 => ⟨S_, .f32⟩
  | 41 => ⟨S3x16x2048x32, .f32⟩
  | 42 => ⟨S3x16x2048x32, .f32⟩
  | 43 => ⟨S_, .f32⟩
  | 44 => ⟨S3x16x2048x32, .f32⟩
  | 45 => ⟨S3x16x2048x32, .f32⟩
  | 46 => ⟨S_, .f32⟩
  | 47 => ⟨S3x16x2048x32, .f32⟩
  | 48 => ⟨S3x16x2048x32, .f32⟩
  | 49 => ⟨S_, .f32⟩
  | 50 => ⟨S3x16x2048x32, .f32⟩
  | 51 => ⟨S3x16x2048x32, .f32⟩
  | 52 => ⟨S3x16x2048x32, .f32⟩
  | 53 => ⟨S3x16x2048x32, .f32⟩
  | 54 => ⟨S3x16x2048x32, .f32⟩
  | 55 => ⟨S3x16x2048x32, .f32⟩
  | 56 => ⟨S_, .f32⟩
  | 57 => ⟨S3x16x2048x32, .f32⟩
  | 58 => ⟨S3x16x2048x32, .i1⟩
  | 59 => ⟨S_, .f32⟩
  | 60 => ⟨S3x16x2048x32, .f32⟩
  | 61 => ⟨S3x16x2048x32, .f32⟩
  | 62 => ⟨S3x16x2048x32, .f32⟩
  | 63 => ⟨S_, .f32⟩
  | 64 => ⟨S3x16x2048x32, .f32⟩
  | 65 => ⟨S3x16x2048x32, .f32⟩
  | 66 => ⟨S3x16x2048x32, .f32⟩
  | 67 => ⟨S_, .f32⟩
  | 68 => ⟨S_, .f32⟩
  | 69 => ⟨S3x16x2048x32, .f32⟩
  | 70 => ⟨S3x16x2048x32, .f32⟩
  | 71 => ⟨S3x16x2048x32, .f32⟩
  | 72 => ⟨S_, .f32⟩
  | 73 => ⟨S_, .f32⟩
  | 74 => ⟨S3x16x2048x32, .f32⟩
  | 75 => ⟨S3x16x2048x32, .f32⟩
  | 76 => ⟨S3x16x2048x32, .f32⟩
  | 77 => ⟨S3x16x2048x32, .f32⟩
  | 78 => ⟨S3x16x2048x32, .f32⟩
  | 79 => ⟨S3x16x2048x32, .f32⟩
  | 80 => ⟨S3x16x2048x32, .f32⟩
  | 81 => ⟨S_, .f32⟩
  | 82 => ⟨S_, .f32⟩
  | 83 => ⟨S3x16x2048x32, .f32⟩
  | 84 => ⟨S3x16x2048x32, .f32⟩
  | 85 => ⟨S3x16x2048x32, .f32⟩
  | 86 => ⟨S3x16x2048x32, .f32⟩
  | 87 => ⟨S3x16x2048x32, .f32⟩
  | 88 => ⟨S3x16x2048x32, .f32⟩
  | 89 => ⟨S_, .f32⟩
  | 90 => ⟨S_, .f32⟩
  | 91 => ⟨S3x16x2048x32, .f32⟩
  | 92 => ⟨S3x16x2048x32, .f32⟩
  | 93 => ⟨S3x16x2048x32, .f32⟩
  | 94 => ⟨S3x16x2048x32, .f32⟩
  | 95 => ⟨S3x16x2048x32, .f32⟩
  | 96 => ⟨S3x16x2048x32, .f32⟩
  | 97 => ⟨S_, .f32⟩
  | 98 => ⟨S_, .f32⟩
  | 99 => ⟨S3x16x2048x32, .f32⟩
  | 100 => ⟨S3x16x2048x32, .f32⟩
  | 101 => ⟨S3x16x2048x32, .f32⟩
  | 102 => ⟨S3x16x2048x32, .f32⟩
  | 103 => ⟨S3x16x2048x32, .f32⟩
  | 104 => ⟨S3x16x2048x32, .f32⟩
  | 105 => ⟨S_, .f32⟩
  | 106 => ⟨S_, .f32⟩
  | 107 => ⟨S3x16x2048x32, .f32⟩
  | 108 => ⟨S3x16x2048x32, .f32⟩
  | 109 => ⟨S3x16x2048x32, .f32⟩
  | 110 => ⟨S3x16x2048x32, .f32⟩
  | 111 => ⟨S3x16x2048x32, .f32⟩
  | 112 => ⟨S3x16x2048x32, .f32⟩
  | 113 => ⟨S_, .f32⟩
  | 114 => ⟨S_, .f32⟩
  | 115 => ⟨S3x16x2048x32, .f32⟩
  | 116 => ⟨S3x16x2048x32, .f32⟩
  | 117 => ⟨S3x16x2048x32, .f32⟩
  | 118 => ⟨S3x16x2048x32, .f32⟩
  | 119 => ⟨S3x16x2048x32, .f32⟩
  | 120 => ⟨S3x16x2048x32, .f32⟩
  | 121 => ⟨S_, .f32⟩
  | 122 => ⟨S_, .f32⟩
  | 123 => ⟨S3x16x2048x32, .f32⟩
  | 124 => ⟨S3x16x2048x32, .f32⟩
  | 125 => ⟨S3x16x2048x32, .f32⟩
  | 126 => ⟨S3x16x2048x32, .f32⟩
  | 127 => ⟨S3x16x2048x32, .f32⟩
  | _ => ⟨S16x256, .f32⟩

abbrev hbmTy0_3 (i : Nat) : BufTy := match i % 128 with
  | 0 => ⟨S3x16x2048x32, .f32⟩
  | 1 => ⟨S_, .f32⟩
  | 2 => ⟨S_, .f32⟩
  | 3 => ⟨S3x16x2048x32, .f32⟩
  | 4 => ⟨S3x16x2048x32, .f32⟩
  | 5 => ⟨S3x16x2048x32, .f32⟩
  | 6 => ⟨S3x16x2048x32, .f32⟩
  | 7 => ⟨S3x16x2048x32, .f32⟩
  | 8 => ⟨S3x16x2048x32, .f32⟩
  | 9 => ⟨S3x16x2048x32, .f32⟩
  | 10 => ⟨S_, .f32⟩
  | 11 => ⟨S3x16x2048x32, .f32⟩
  | 12 => ⟨S3x16x2048x32, .i1⟩
  | 13 => ⟨S_, .f32⟩
  | 14 => ⟨S3x16x2048x32, .f32⟩
  | 15 => ⟨S3x16x2048x32, .f32⟩
  | 16 => ⟨S3x16x2048x32, .f32⟩
  | 17 => ⟨S3x16x2048x32, .f32⟩
  | 18 => ⟨S_, .f32⟩
  | 19 => ⟨S3x16x2048x32, .f32⟩
  | 20 => ⟨S3x16x2048x32, .f32⟩
  | 21 => ⟨S_, .i32⟩
  | 22 => ⟨S1x1x1, .i32⟩
  | 23 => ⟨S_, .i32⟩
  | 24 => ⟨S1x1x1, .i32⟩
  | 25 => ⟨S_, .i32⟩
  | 26 => ⟨S1x1x1, .i32⟩
  | 27 => ⟨S1x1x1x1, .i32⟩
  | 28 => ⟨S1x1x1x1, .i32⟩
  | 29 => ⟨S1x1x1x1, .i32⟩
  | 30 => ⟨S3x1x1x1, .i32⟩
  | 31 => ⟨S_, .i32⟩
  | 32 => ⟨S1x1x1, .i32⟩
  | 33 => ⟨S_, .i32⟩
  | 34 => ⟨S1x1x1, .i32⟩
  | 35 => ⟨S_, .i32⟩
  | 36 => ⟨S1x1x1, .i32⟩
  | 37 => ⟨S1x1x1x1, .i32⟩
  | 38 => ⟨S1x1x1x1, .i32⟩
  | 39 => ⟨S1x1x1x1, .i32⟩
  | 40 => ⟨S3x1x1x1, .i32⟩
  | 41 => ⟨S_, .i32⟩
  | 42 => ⟨S1x1x1, .i32⟩
  | 43 => ⟨S_, .i32⟩
  | 44 => ⟨S1x1x1, .i32⟩
  | 45 => ⟨S_, .i32⟩
  | 46 => ⟨S1x1x1, .i32⟩
  | 47 => ⟨S1x1x1x1, .i32⟩
  | 48 => ⟨S1x1x1x1, .i32⟩
  | 49 => ⟨S1x1x1x1, .i32⟩
  | 50 => ⟨S3x1x1x1, .i32⟩
  | 51 => ⟨S67108864, .i32⟩
  | 52 => ⟨S1x16x2048x2048, .i32⟩
  | 53 => ⟨S3x16x2048x2048, .i32⟩
  | 54 => ⟨S3x16x2048x2048, .i32⟩
  | 55 => ⟨S3x16x2048x2048, .i32⟩
  | 56 => ⟨S3x16x2048x2048, .i32⟩
  | 57 => ⟨S3x16x2048x2048, .i32⟩
  | 58 => ⟨S_, .i32⟩
  | 59 => ⟨S3x16x2048x2048, .i32⟩
  | 60 => ⟨S3x16x2048x2048, .i32⟩
  | 61 => ⟨S_, .i32⟩
  | 62 => ⟨S3x16x2048x2048, .i32⟩
  | 63 => ⟨S3x16x2048x2048, .i32⟩
  | 64 => ⟨S3x16x2048x2048, .i32⟩
  | 65 => ⟨S3x16x2048x2048, .i32⟩
  | 66 => ⟨S3x16x2048x2048, .i32⟩
  | 67 => ⟨S_, .i32⟩
  | 68 => ⟨S3x16x2048x2048, .i32⟩
  | 69 => ⟨S3x16x2048x2048, .i32⟩
  | 70 => ⟨S_, .i32⟩
  | 71 => ⟨S3x16x2048x2048, .i32⟩
  | 72 => ⟨S3x16x2048x2048, .i32⟩
  | 73 => ⟨S3x16x2048x2048, .i32⟩
  | 74 => ⟨S3x16x2048x2048, .i32⟩
  | 75 => ⟨S3x16x2048x2048, .i32⟩
  | 76 => ⟨S_, .i32⟩
  | 77 => ⟨S3x16x2048x2048, .i32⟩
  | 78 => ⟨S3x16x2048x2048, .i32⟩
  | 79 => ⟨S_, .i32⟩
  | 80 => ⟨S3x16x2048x2048, .i32⟩
  | 81 => ⟨S3x16x2048x2048, .i32⟩
  | 82 => ⟨S3x16x2048x2048, .i32⟩
  | 83 => ⟨S3x16x2048x2048, .i32⟩
  | 84 => ⟨S3x16x2048x2048, .i32⟩
  | 85 => ⟨S_, .i32⟩
  | 86 => ⟨S3x16x2048x2048, .i32⟩
  | 87 => ⟨S3x16x2048x2048, .i32⟩
  | 88 => ⟨S_, .i32⟩
  | 89 => ⟨S3x16x2048x2048, .i32⟩
  | 90 => ⟨S3x16x2048x2048, .i32⟩
  | 91 => ⟨S3x16x2048x2048, .i32⟩
  | 92 => ⟨S3x16x2048x2048, .i32⟩
  | 93 => ⟨S3x16x2048x2048, .i32⟩
  | 94 => ⟨S3x16x2048x2048, .i32⟩
  | 95 => ⟨S_, .i32⟩
  | 96 => ⟨S3x1x1x1, .i32⟩
  | 97 => ⟨S3x1x1x1, .i32⟩
  | 98 => ⟨S3x16x2048x2048, .i32⟩
  | 99 => ⟨S3x16x2048x2048, .i32⟩
  | 100 => ⟨S3x16x2048x2048, .i32⟩
  | 101 => ⟨S_, .i32⟩
  | 102 => ⟨S3x16x2048x2048, .i32⟩
  | 103 => ⟨S3x16x2048x2048, .i32⟩
  | 104 => ⟨S_, .i32⟩
  | 105 => ⟨S3x16x2048x2048, .i32⟩
  | 106 => ⟨S3x16x2048x2048, .i32⟩
  | 107 => ⟨S3x16x2048x2048, .i32⟩
  | 108 => ⟨S3x16x2048x2048, .i32⟩
  | 109 => ⟨S3x16x2048x2048, .i32⟩
  | 110 => ⟨S_, .i32⟩
  | 111 => ⟨S3x16x2048x2048, .i32⟩
  | 112 => ⟨S3x16x2048x2048, .i32⟩
  | 113 => ⟨S_, .i32⟩
  | 114 => ⟨S3x16x2048x2048, .i32⟩
  | 115 => ⟨S3x16x2048x2048, .i32⟩
  | 116 => ⟨S3x16x2048x2048, .i32⟩
  | 117 => ⟨S3x16x2048x2048, .i32⟩
  | 118 => ⟨S3x16x2048x2048, .i32⟩
  | 119 => ⟨S_, .i32⟩
  | 120 => ⟨S3x16x2048x2048, .i32⟩
  | 121 => ⟨S3x16x2048x2048, .i32⟩
  | 122 => ⟨S_, .i32⟩
  | 123 => ⟨S3x16x2048x2048, .i32⟩
  | 124 => ⟨S3x16x2048x2048, .i32⟩
  | 125 => ⟨S3x16x2048x2048, .i32⟩
  | 126 => ⟨S3x16x2048x2048, .i32⟩
  | 127 => ⟨S3x16x2048x2048, .i32⟩
  | _ => ⟨S16x256, .f32⟩

abbrev hbmTy0_4 (i : Nat) : BufTy := match i % 128 with
  | 0 => ⟨S_, .i32⟩
  | 1 => ⟨S3x16x2048x2048, .i32⟩
  | 2 => ⟨S3x16x2048x2048, .i32⟩
  | 3 => ⟨S_, .i32⟩
  | 4 => ⟨S3x16x2048x2048, .i32⟩
  | 5 => ⟨S3x16x2048x2048, .i32⟩
  | 6 => ⟨S3x16x2048x2048, .i32⟩
  | 7 => ⟨S3x16x2048x2048, .i32⟩
  | 8 => ⟨S3x16x2048x2048, .i32⟩
  | 9 => ⟨S3x16x2048x2048, .i32⟩
  | 10 => ⟨S_, .i32⟩
  | 11 => ⟨S3x1x1x1, .i32⟩
  | 12 => ⟨S3x1x1x1, .i32⟩
  | 13 => ⟨S3x16x2048x2048, .i32⟩
  | 14 => ⟨S3x16x2048x2048, .i32⟩
  | 15 => ⟨S3x16x2048x2048, .i32⟩
  | 16 => ⟨S_, .i32⟩
  | 17 => ⟨S3x16x2048x2048, .i32⟩
  | 18 => ⟨S3x16x2048x2048, .i32⟩
  | 19 => ⟨S_, .i32⟩
  | 20 => ⟨S3x16x2048x2048, .i32⟩
  | 21 => ⟨S3x16x2048x2048, .i32⟩
  | 22 => ⟨S3x16x2048x2048, .i32⟩
  | 23 => ⟨S3x16x2048x2048, .i32⟩
  | 24 => ⟨S3x16x2048x2048, .i32⟩
  | 25 => ⟨S_, .i32⟩
  | 26 => ⟨S3x16x2048x2048, .i32⟩
  | 27 => ⟨S3x16x2048x2048, .i32⟩
  | 28 => ⟨S_, .i32⟩
  | 29 => ⟨S3x16x2048x2048, .i32⟩
  | 30 => ⟨S3x16x2048x2048, .i32⟩
  | 31 => ⟨S3x16x2048x2048, .i32⟩
  | 32 => ⟨S3x16x2048x2048, .i32⟩
  | 33 => ⟨S3x16x2048x2048, .i32⟩
  | 34 => ⟨S_, .i32⟩
  | 35 => ⟨S3x16x2048x2048, .i32⟩
  | 36 => ⟨S3x16x2048x2048, .i32⟩
  | 37 => ⟨S_, .i32⟩
  | 38 => ⟨S3x16x2048x2048, .i32⟩
  | 39 => ⟨S3x16x2048x2048, .i32⟩
  | 40 => ⟨S3x16x2048x2048, .i32⟩
  | 41 => ⟨S3x16x2048x2048, .i32⟩
  | 42 => ⟨S3x16x2048x2048, .i32⟩
  | 43 => ⟨S_, .i32⟩
  | 44 => ⟨S3x16x2048x2048, .i32⟩
  | 45 => ⟨S3x16x2048x2048, .i32⟩
  | 46 => ⟨S_, .i32⟩
  | 47 => ⟨S3x16x2048x2048, .i32⟩
  | 48 => ⟨S3x16x2048x2048, .i32⟩
  | 49 => ⟨S3x16x2048x2048, .i32⟩
  | 50 => ⟨S3x16x2048x2048, .i32⟩
  | 51 => ⟨S3x16x2048x2048, .i32⟩
  | 52 => ⟨S3x16x2048x2048, .i32⟩
  | 53 => ⟨S_, .i32⟩
  | 54 => ⟨S3x1x1x1, .i32⟩
  | 55 => ⟨S3x1x1x1, .i32⟩
  | 56 => ⟨S3x16x2048x2048, .i32⟩
  | 57 => ⟨S3x16x2048x2048, .i32⟩
  | 58 => ⟨S3x16x2048x2048, .i32⟩
  | 59 => ⟨S_, .i32⟩
  | 60 => ⟨S3x16x2048x2048, .i32⟩
  | 61 => ⟨S3x16x2048x2048, .i32⟩
  | 62 => ⟨S_, .i32⟩
  | 63 => ⟨S3x16x2048x2048, .i32⟩
  | 64 => ⟨S3x16x2048x2048, .i32⟩
  | 65 => ⟨S3x16x2048x2048, .i32⟩
  | 66 => ⟨S3x16x2048x2048, .i32⟩
  | 67 => ⟨S3x16x2048x2048, .i32⟩
  | 68 => ⟨S_, .i32⟩
  | 69 => ⟨S3x16x2048x2048, .i32⟩
  | 70 => ⟨S3x16x2048x2048, .i32⟩
  | 71 => ⟨S_, .i32⟩
  | 72 => ⟨S3x16x2048x2048, .i32⟩
  | 73 => ⟨S3x16x2048x2048, .i32⟩
  | 74 => ⟨S3x16x2048x2048, .i32⟩
  | 75 => ⟨S3x16x2048x2048, .i32⟩
  | 76 => ⟨S3x16x2048x2048, .i32⟩
  | 77 => ⟨S_, .i32⟩
  | 78 => ⟨S3x16x2048x2048, .i32⟩
  | 79 => ⟨S3x16x2048x2048, .i32⟩
  | 80 => ⟨S_, .i32⟩
  | 81 => ⟨S3x16x2048x2048, .i32⟩
  | 82 => ⟨S3x16x2048x2048, .i32⟩
  | 83 => ⟨S3x16x2048x2048, .i32⟩
  | 84 => ⟨S3x16x2048x2048, .i32⟩
  | 85 => ⟨S3x16x2048x2048, .i32⟩
  | 86 => ⟨S_, .i32⟩
  | 87 => ⟨S3x16x2048x2048, .i32⟩
  | 88 => ⟨S3x16x2048x2048, .i32⟩
  | 89 => ⟨S_, .i32⟩
  | 90 => ⟨S3x16x2048x2048, .i32⟩
  | 91 => ⟨S3x16x2048x2048, .i32⟩
  | 92 => ⟨S3x16x2048x2048, .i32⟩
  | 93 => ⟨S3x16x2048x2048, .i32⟩
  | 94 => ⟨S3x16x2048x2048, .i32⟩
  | 95 => ⟨S3x16x2048x2048, .i32⟩
  | 96 => ⟨S_, .i32⟩
  | 97 => ⟨S3x1x1x1, .i32⟩
  | 98 => ⟨S3x1x1x1, .i32⟩
  | 99 => ⟨S3x16x2048x2048, .i32⟩
  | 100 => ⟨S3x16x2048x2048, .i32⟩
  | 101 => ⟨S3x16x2048x2048, .i32⟩
  | 102 => ⟨S_, .i32⟩
  | 103 => ⟨S3x16x2048x2048, .i32⟩
  | 104 => ⟨S3x16x2048x2048, .i32⟩
  | 105 => ⟨S_, .i32⟩
  | 106 => ⟨S3x16x2048x2048, .i32⟩
  | 107 => ⟨S3x16x2048x2048, .i32⟩
  | 108 => ⟨S3x16x2048x2048, .i32⟩
  | 109 => ⟨S3x16x2048x2048, .i32⟩
  | 110 => ⟨S3x16x2048x2048, .i32⟩
  | 111 => ⟨S_, .i32⟩
  | 112 => ⟨S3x16x2048x2048, .i32⟩
  | 113 => ⟨S3x16x2048x2048, .i32⟩
  | 114 => ⟨S_, .i32⟩
  | 115 => ⟨S3x16x2048x2048, .i32⟩
  | 116 => ⟨S3x16x2048x2048, .i32⟩
  | 117 => ⟨S3x16x2048x2048, .i32⟩
  | 118 => ⟨S3x16x2048x2048, .i32⟩
  | 119 => ⟨S3x16x2048x2048, .i32⟩
  | 120 => ⟨S_, .i32⟩
  | 121 => ⟨S3x16x2048x2048, .i32⟩
  | 122 => ⟨S3x16x2048x2048, .i32⟩
  | 123 => ⟨S_, .i32⟩
  | 124 => ⟨S3x16x2048x2048, .i32⟩
  | 125 => ⟨S3x16x2048x2048, .i32⟩
  | 126 => ⟨S3x16x2048x2048, .i32⟩
  | 127 => ⟨S3x16x2048x2048, .i32⟩
  | _ => ⟨S16x256, .f32⟩

abbrev hbmTy0_5 (i : Nat) : BufTy := match i % 128 with
  | 0 => ⟨S3x16x2048x2048, .i32⟩
  | 1 => ⟨S_, .i32⟩
  | 2 => ⟨S3x16x2048x2048, .i32⟩
  | 3 => ⟨S3x16x2048x2048, .i32⟩
  | 4 => ⟨S_, .i32⟩
  | 5 => ⟨S3x16x2048x2048, .i32⟩
  | 6 => ⟨S3x16x2048x2048, .i32⟩
  | 7 => ⟨S3x16x2048x2048, .i32⟩
  | 8 => ⟨S3x16x2048x2048, .i32⟩
  | 9 => ⟨S3x16x2048x2048, .i32⟩
  | 10 => ⟨S3x16x2048x2048, .i32⟩
  | 11 => ⟨S_, .i32⟩
  | 12 => ⟨S3x1x1x1, .i32⟩
  | 13 => ⟨S3x1x1x1, .i32⟩
  | 14 => ⟨S3x16x2048x2048, .i32⟩
  | 15 => ⟨S3x16x2048x2048, .i32⟩
  | 16 => ⟨S3x16x2048x2048, .i32⟩
  | 17 => ⟨S_, .i32⟩
  | 18 => ⟨S3x16x2048x2048, .i32⟩
  | 19 => ⟨S3x16x2048x2048, .i32⟩
  | 20 => ⟨S_, .i32⟩
  | 21 => ⟨S3x16x2048x2048, .i32⟩
  | 22 => ⟨S3x16x2048x2048, .i32⟩
  | 23 => ⟨S3x16x2048x2048, .f32⟩
  | 24 => ⟨S_, .f32⟩
  | 25 => ⟨S3x16x2048x2048, .f32⟩
  | 26 => ⟨S3x16x2048x2048, .f32⟩
  | 27 => ⟨S_, .f32⟩
  | 28 => ⟨S3x16x2048x2048, .f32⟩
  | 29 => ⟨S3x16x2048x2048, .f32⟩
  | 30 => ⟨S_, .f32⟩
  | 31 => ⟨S3x16x2048x2048, .f32⟩
  | 32 => ⟨S3x16x2048x2048, .f32⟩
  | 33 => ⟨S_, .f32⟩
  | 34 => ⟨S3x16x2048x2048, .f32⟩
  | 35 => ⟨S3x16x2048x2048, .f32⟩
  | 36 => ⟨S3x16x2048x2048, .f32⟩
  | 37 => ⟨S3x16x2048x2048, .f32⟩
  | 38 => ⟨S3x16x2048x2048, .f32⟩
  | 39 => ⟨S3x16x2048x2048, .f32⟩
  | 40 => ⟨S1x32, .f32⟩
  | 41 => ⟨S32, .f32⟩
  | 42 => ⟨S1x32, .f32⟩
  | 43 => ⟨S32, .f32⟩
  | 44 => ⟨S1x32, .f32⟩
  | 45 => ⟨S32, .f32⟩
  | 46 => ⟨S32, .f32⟩
  | 47 => ⟨S1x1x32, .f32⟩
  | 48 => ⟨S16x2048x32, .f32⟩
  | 49 => ⟨S16x2048x32, .f32⟩
  | 50 => ⟨S1x1x32, .f32⟩
  | 51 => ⟨S16x2048x32, .f32⟩
  | 52 => ⟨S16x2048x32, .f32⟩
  | 53 => ⟨S16x1x256, .f32⟩
  | 54 => ⟨S16x2048x256, .f32⟩
  | 55 => ⟨S16x2048x288, .f32⟩
  | 56 => ⟨S16x2048x256, .f32⟩
  | 57 => ⟨S1x1x256, .f32⟩
  | 58 => ⟨S16x2048x256, .f32⟩
  | 59 => ⟨S16x2048x256, .f32⟩
  | 60 => ⟨S_, .f32⟩
  | 61 => ⟨S16x2048x256, .f32⟩
  | 62 => ⟨S16x2048x256, .f32⟩
  | 63 => ⟨S16x2048x1, .f32⟩
  | 64 => ⟨S1x1x1, .f32⟩
  | 65 => ⟨S16x2048x1, .f32⟩
  | 66 => ⟨S16x2048x1, .f32⟩
  | 67 => ⟨S16x2048, .f32⟩
  | 68 => ⟨S_, .f32⟩
  | 69 => ⟨S16x2048, .f32⟩
  | 70 => ⟨S16x2048, .f32⟩
  | 71 => ⟨S1x16x2048x2048, .f32⟩
  | 72 => ⟨S16x2048x2048, .f32⟩
  | 73 => ⟨S16x1x2048, .f32⟩
  | 74 => ⟨S16x2048x2048, .f32⟩
  | 75 => ⟨S16x2048x2048, .f32⟩
  | 76 => ⟨S_, .f32⟩
  | 77 => ⟨S16x2048, .f32⟩
  | 78 => ⟨S16x2048x1, .f32⟩
  | 79 => ⟨S16x2048x2048, .f32⟩
  | 80 => ⟨S16x2048x2048, .i1⟩
  | 81 => ⟨S2048, .i32⟩
  | 82 => ⟨S_, .i32⟩
  | 83 => ⟨S_, .i32⟩
  | 84 => ⟨S16x2048x2048, .i32⟩
  | 85 => ⟨S16x2048x2048, .i32⟩
  | 86 => ⟨S16x2048x2048, .i32⟩
  | 87 => ⟨S_, .i32⟩
  | 88 => ⟨S16x2048, .i32⟩
  | 89 => ⟨S16x2048x1, .i32⟩
  | 90 => ⟨S_, .i32⟩
  | 91 => ⟨S16x2048x1, .i32⟩
  | 92 => ⟨S16x2048x1, .i1⟩
  | 93 => ⟨S_, .i32⟩
  | 94 => ⟨S16x2048x1, .i32⟩
  | 95 => ⟨S16x2048x1, .i32⟩
  | 96 => ⟨S16x2048x1, .i32⟩
  | 97 => ⟨S1, .i32⟩
  | 98 => ⟨S_, .i32⟩
  | 99 => ⟨S16x2048x1, .i32⟩
  | 100 => ⟨S16x2048x1, .i1⟩
  | 101 => ⟨S1x1x1, .i32⟩
  | 102 => ⟨S16x2048x1, .i32⟩
  | 103 => ⟨S16x2048x1, .i1⟩
  | 104 => ⟨S16x2048x1, .i1⟩
  | 105 => ⟨S_, .i1⟩
  | 106 => ⟨S16x2048, .i1⟩
  | 107 => ⟨S16x2048x32, .f32⟩
  | 108 => ⟨S16x2048x32, .i1⟩
  | 109 => ⟨S_, .f32⟩
  | 110 => ⟨S16x2048x32, .f32⟩
  | 111 => ⟨S16x2048x32, .f32⟩
  | 112 => ⟨S1x16x2048x32, .f32⟩
  | 113 => ⟨S16x2048x32, .f32⟩
  | 114 => ⟨S_, .f32⟩
  | 115 => ⟨S16x2048x32, .f32⟩
  | 116 => ⟨S16x2048x32, .f32⟩
  | 117 => ⟨S16x2048x32, .f32⟩
  | 118 => ⟨S1x32, .f32⟩
  | 119 => ⟨S32, .f32⟩
  | 120 => ⟨S1x32, .f32⟩
  | 121 => ⟨S32, .f32⟩
  | 122 => ⟨S1x1x32, .f32⟩
  | 123 => ⟨S16x2048x32, .f32⟩
  | 124 => ⟨S16x2048x32, .f32⟩
  | 125 => ⟨S1x1x32, .f32⟩
  | 126 => ⟨S16x2048x32, .f32⟩
  | 127 => ⟨S16x2048x32, .f32⟩
  | _ => ⟨S16x256, .f32⟩

abbrev hbmTy0_6 (i : Nat) : BufTy := match i % 128 with
  | 0 => ⟨S16x1x256, .f32⟩
  | 1 => ⟨S16x2048x256, .f32⟩
  | 2 => ⟨S16x2048x288, .f32⟩
  | 3 => ⟨S16x2048x256, .f32⟩
  | 4 => ⟨S1x1x256, .f32⟩
  | 5 => ⟨S16x2048x256, .f32⟩
  | 6 => ⟨S16x2048x256, .f32⟩
  | 7 => ⟨S_, .f32⟩
  | 8 => ⟨S16x2048x256, .f32⟩
  | 9 => ⟨S16x2048x256, .f32⟩
  | 10 => ⟨S16x2048x1, .f32⟩
  | 11 => ⟨S1x1x1, .f32⟩
  | 12 => ⟨S16x2048x1, .f32⟩
  | 13 => ⟨S16x2048x1, .f32⟩
  | 14 => ⟨S16x2048, .f32⟩
  | 15 => ⟨S_, .f32⟩
  | 16 => ⟨S16x2048, .f32⟩
  | 17 => ⟨S16x2048, .f32⟩
  | 18 => ⟨S1x16x2048x2048, .f32⟩
  | 19 => ⟨S16x2048x2048, .f32⟩
  | 20 => ⟨S16x1x2048, .f32⟩
  | 21 => ⟨S16x2048x2048, .f32⟩
  | 22 => ⟨S16x2048x2048, .f32⟩
  | 23 => ⟨S_, .f32⟩
  | 24 => ⟨S16x2048, .f32⟩
  | 25 => ⟨S16x2048x1, .f32⟩
  | 26 => ⟨S16x2048x2048, .f32⟩
  | 27 => ⟨S16x2048x2048, .i1⟩
  | 28 => ⟨S2048, .i32⟩
  | 29 => ⟨S_, .i32⟩
  | 30 => ⟨S_, .i32⟩
  | 31 => ⟨S16x2048x2048, .i32⟩
  | 32 => ⟨S16x2048x2048, .i32⟩
  | 33 => ⟨S16x2048x2048, .i32⟩
  | 34 => ⟨S_, .i32⟩
  | 35 => ⟨S16x2048, .i32⟩
  | 36 => ⟨S16x2048x1, .i32⟩
  | 37 => ⟨S_, .i32⟩
  | 38 => ⟨S16x2048x1, .i32⟩
  | 39 => ⟨S16x2048x1, .i1⟩
  | 40 => ⟨S_, .i32⟩
  | 41 => ⟨S16x2048x1, .i32⟩
  | 42 => ⟨S16x2048x1, .i32⟩
  | 43 => ⟨S16x2048x1, .i32⟩
  | 44 => ⟨S1, .i32⟩
  | 45 => ⟨S_, .i32⟩
  | 46 => ⟨S16x2048x1, .i32⟩
  | 47 => ⟨S16x2048x1, .i1⟩
  | 48 => ⟨S1x1x1, .i32⟩
  | 49 => ⟨S16x2048x1, .i32⟩
  | 50 => ⟨S16x2048x1, .i1⟩
  | 51 => ⟨S16x2048x1, .i1⟩
  | 52 => ⟨S_, .i1⟩
  | 53 => ⟨S16x2048, .i1⟩
  | 54 => ⟨S16x2048x32, .f32⟩
  | 55 => ⟨S16x2048x32, .i1⟩
  | 56 => ⟨S_, .f32⟩
  | 57 => ⟨S16x2048x32, .f32⟩
  | 58 => ⟨S16x2048x32, .f32⟩
  | 59 => ⟨S1x16x2048x32, .f32⟩
  | 60 => ⟨S16x2048x32, .f32⟩
  | 61 => ⟨S_, .f32⟩
  | 62 => ⟨S16x2048x32, .f32⟩
  | 63 => ⟨S16x2048x32, .f32⟩
  | 64 => ⟨S16x2048x32, .f32⟩
  | 65 => ⟨S1x32, .f32⟩
  | 66 => ⟨S32, .f32⟩
  | 67 => ⟨S1x32, .f32⟩
  | 68 => ⟨S32, .f32⟩
  | 69 => ⟨S1x1x32, .f32⟩
  | 70 => ⟨S16x2048x32, .f32⟩
  | 71 => ⟨S16x2048x32, .f32⟩
  | 72 => ⟨S1x1x32, .f32⟩
  | 73 => ⟨S16x2048x32, .f32⟩
  | 74 => ⟨S16x2048x32, .f32⟩
  | 75 => ⟨S16x1x256, .f32⟩
  | 76 => ⟨S16x2048x256, .f32⟩
  | 77 => ⟨S16x2048x288, .f32⟩
  | 78 => ⟨S16x2048x256, .f32⟩
  | 79 => ⟨S1x1x256, .f32⟩
  | 80 => ⟨S16x2048x256, .f32⟩
  | 81 => ⟨S16x2048x256, .f32⟩
  | 82 => ⟨S_, .f32⟩
  | 83 => ⟨S16x2048x256, .f32⟩
  | 84 => ⟨S16x2048x256, .f32⟩
  | 85 => ⟨S16x2048x1, .f32⟩
  | 86 => ⟨S1x1x1, .f32⟩
  | 87 => ⟨S16x2048x1, .f32⟩
  | 88 => ⟨S16x2048x1, .f32⟩
  | 89 => ⟨S16x2048, .f32⟩
  | 90 => ⟨S_, .f32⟩
  | 91 => ⟨S16x2048, .f32⟩
  | 92 => ⟨S16x2048, .f32⟩
  | 93 => ⟨S1x16x2048x2048, .f32⟩
  | 94 => ⟨S16x2048x2048, .f32⟩
  | 95 => ⟨S16x1x2048, .f32⟩
  | 96 => ⟨S16x2048x2048, .f32⟩
  | 97 => ⟨S16x2048x2048, .f32⟩
  | 98 => ⟨S_, .f32⟩
  | 99 => ⟨S16x2048, .f32⟩
  | 100 => ⟨S16x2048x1, .f32⟩
  | 101 => ⟨S16x2048x2048, .f32⟩
  | 102 => ⟨S16x2048x2048, .i1⟩
  | 103 => ⟨S2048, .i32⟩
  | 104 => ⟨S_, .i32⟩
  | 105 => ⟨S_, .i32⟩
  | 106 => ⟨S16x2048x2048, .i32⟩
  | 107 => ⟨S16x2048x2048, .i32⟩
  | 108 => ⟨S16x2048x2048, .i32⟩
  | 109 => ⟨S_, .i32⟩
  | 110 => ⟨S16x2048, .i32⟩
  | 111 => ⟨S16x2048x1, .i32⟩
  | 112 => ⟨S_, .i32⟩
  | 113 => ⟨S16x2048x1, .i32⟩
  | 114 => ⟨S16x2048x1, .i1⟩
  | 115 => ⟨S_, .i32⟩
  | 116 => ⟨S16x2048x1, .i32⟩
  | 117 => ⟨S16x2048x1, .i32⟩
  | 118 => ⟨S16x2048x1, .i32⟩
  | 119 => ⟨S1, .i32⟩
  | 120 => ⟨S_, .i32⟩
  | 121 => ⟨S16x2048x1, .i32⟩
  | 122 => ⟨S16x2048x1, .i1⟩
  | 123 => ⟨S1x1x1, .i32⟩
  | 124 => ⟨S16x2048x1, .i32⟩
  | 125 => ⟨S16x2048x1, .i1⟩
  | 126 => ⟨S16x2048x1, .i1⟩
  | 127 => ⟨S_, .i1⟩
  | _ => ⟨S16x256, .f32⟩

abbrev hbmTy0_7 (i : Nat) : BufTy := match i % 128 with
  | 0 => ⟨S16x2048, .i1⟩
  | 1 => ⟨S16x2048x32, .f32⟩
  | 2 => ⟨S16x2048x32, .i1⟩
  | 3 => ⟨S_, .f32⟩
  | 4 => ⟨S16x2048x32, .f32⟩
  | 5 => ⟨S16x2048x32, .f32⟩
  | 6 => ⟨S1x16x2048x32, .f32⟩
  | 7 => ⟨S16x2048x32, .f32⟩
  | 8 => ⟨S_, .f32⟩
  | 9 => ⟨S16x2048x32, .f32⟩
  | 10 => ⟨S16x2048x32, .f32⟩
  | 11 => ⟨S16x2048x32, .f32⟩
  | 12 => ⟨S1x32, .f32⟩
  | 13 => ⟨S32, .f32⟩
  | 14 => ⟨S1x32, .f32⟩
  | 15 => ⟨S32, .f32⟩
  | 16 => ⟨S1x1x32, .f32⟩
  | 17 => ⟨S16x2048x32, .f32⟩
  | 18 => ⟨S16x2048x32, .f32⟩
  | 19 => ⟨S1x1x32, .f32⟩
  | 20 => ⟨S16x2048x32, .f32⟩
  | 21 => ⟨S16x2048x32, .f32⟩
  | 22 => ⟨S16x1x256, .f32⟩
  | 23 => ⟨S16x2048x256, .f32⟩
  | 24 => ⟨S16x2048x288, .f32⟩
  | 25 => ⟨S16x2048x256, .f32⟩
  | 26 => ⟨S1x1x256, .f32⟩
  | 27 => ⟨S16x2048x256, .f32⟩
  | 28 => ⟨S16x2048x256, .f32⟩
  | 29 => ⟨S_, .f32⟩
  | 30 => ⟨S16x2048x256, .f32⟩
  | 31 => ⟨S16x2048x256, .f32⟩
  | 32 => ⟨S16x2048x1, .f32⟩
  | 33 => ⟨S1x1x1, .f32⟩
  | 34 => ⟨S16x2048x1, .f32⟩
  | 35 => ⟨S16x2048x1, .f32⟩
  | 36 => ⟨S16x2048, .f32⟩
  | 37 => ⟨S_, .f32⟩
  | 38 => ⟨S16x2048, .f32⟩
  | 39 => ⟨S16x2048, .f32⟩
  | 40 => ⟨S_, .f32⟩
  | 41 => ⟨S16, .f32⟩
  | 42 => ⟨S_, .f32⟩
  | 43 => ⟨S16, .f32⟩
  | 44 => ⟨S16, .f32⟩
  | 45 => ⟨S16x1, .f32⟩
  | 46 => ⟨S16x2048, .f32⟩
  | 47 => ⟨S16x2048, .f32⟩
  | 48 => ⟨S16x2048, .f32⟩
  | 49 => ⟨S_, .f32⟩
  | 50 => ⟨S16, .f32⟩
  | 51 => ⟨S16x1, .f32⟩
  | 52 => ⟨S16x2048, .f32⟩
  | 53 => ⟨S16x2048, .f32⟩
  | 54 => ⟨S_, .f32⟩
  | 55 => ⟨S16, .f32⟩
  | 56 => ⟨S16x1, .f32⟩
  | 57 => ⟨S16x2048, .f32⟩
  | 58 => ⟨S16x2048, .i1⟩
  | 59 => ⟨S2048, .i32⟩
  | 60 => ⟨S_, .i32⟩
  | 61 => ⟨S_, .i32⟩
  | 62 => ⟨S16x2048, .i32⟩
  | 63 => ⟨S16x2048, .i32⟩
  | 64 => ⟨S16x2048, .i32⟩
  | 65 => ⟨S_, .i32⟩
  | 66 => ⟨S16, .i32⟩
  | 67 => ⟨S16x1x1, .i32⟩
  | 68 => ⟨S_, .i32⟩
  | 69 => ⟨S16x1x1, .i32⟩
  | 70 => ⟨S16x1x1, .i1⟩
  | 71 => ⟨S_, .i32⟩
  | 72 => ⟨S16x1x1, .i32⟩
  | 73 => ⟨S16x1x1, .i32⟩
  | 74 => ⟨S16x1x1, .i32⟩
  | 75 => ⟨S1, .i32⟩
  | 76 => ⟨S_, .i32⟩
  | 77 => ⟨S16x1x1, .i32⟩
  | 78 => ⟨S16x1x1, .i1⟩
  | 79 => ⟨S1x1x1, .i32⟩
  | 80 => ⟨S16x1x1, .i32⟩
  | 81 => ⟨S16x1x1, .i1⟩
  | 82 => ⟨S16x1x1, .i1⟩
  | 83 => ⟨S_, .i1⟩
  | 84 => ⟨S16x1, .i1⟩
  | 85 => ⟨S16x1x32, .f32⟩
  | 86 => ⟨S16x1x32, .i1⟩
  | 87 => ⟨S_, .f32⟩
  | 88 => ⟨S16x1x32, .f32⟩
  | 89 => ⟨S16x1x32, .f32⟩
  | 90 => ⟨S16x32, .f32⟩
  | _ => ⟨S16x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S16x256, .f32⟩

abbrev bufTy : (tb : Table) → Fin (tcTables nBuf tb) → BufTy
  | .hbm, ⟨i, _⟩ => hbmTy i
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_c_0 : Ref sig .tc := ⟨.hbm, 8, rfl⟩
abbrev main_v1 : Ref sig .tc := ⟨.hbm, 9, rfl⟩
abbrev main_c_1 : Ref sig .tc := ⟨.hbm, 10, rfl⟩
abbrev main_v2 : Ref sig .tc := ⟨.hbm, 11, rfl⟩
abbrev main_c_2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_c_4 : Ref sig .tc := ⟨.hbm, 21, rfl⟩
abbrev main_v10 : Ref sig .tc := ⟨.hbm, 22, rfl⟩
abbrev main_c_5 : Ref sig .tc := ⟨.hbm, 23, rfl⟩
abbrev main_v11 : Ref sig .tc := ⟨.hbm, 24, rfl⟩
abbrev main_c_6 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_7 : Ref sig .tc := ⟨.hbm, 32, rfl⟩
abbrev main_v18 : Ref sig .tc := ⟨.hbm, 33, rfl⟩
abbrev main_c_8 : Ref sig .tc := ⟨.hbm, 34, rfl⟩
abbrev main_v19 : Ref sig .tc := ⟨.hbm, 35, rfl⟩
abbrev main_c_9 : Ref sig .tc := ⟨.hbm, 36, rfl⟩
abbrev main_v20 : Ref sig .tc := ⟨.hbm, 37, rfl⟩
abbrev main_c_10 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_11 : Ref sig .tc := ⟨.hbm, 52, rfl⟩
abbrev main_v34 : Ref sig .tc := ⟨.hbm, 53, rfl⟩
abbrev main_v35 : Ref sig .tc := ⟨.hbm, 54, rfl⟩
abbrev main_c_12 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_13 : Ref sig .tc := ⟨.hbm, 61, rfl⟩
abbrev main_v41 : Ref sig .tc := ⟨.hbm, 62, rfl⟩
abbrev main_v42 : Ref sig .tc := ⟨.hbm, 63, rfl⟩
abbrev main_c_14 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_15 : Ref sig .tc := ⟨.hbm, 70, rfl⟩
abbrev main_v48 : Ref sig .tc := ⟨.hbm, 71, rfl⟩
abbrev main_v49 : Ref sig .tc := ⟨.hbm, 72, rfl⟩
abbrev main_c_16 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_17 : Ref sig .tc := ⟨.hbm, 79, rfl⟩
abbrev main_v55 : Ref sig .tc := ⟨.hbm, 80, rfl⟩
abbrev main_v56 : Ref sig .tc := ⟨.hbm, 81, rfl⟩
abbrev main_c_18 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_19 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_20 : Ref sig .tc := ⟨.hbm, 95, rfl⟩
abbrev main_v68 : Ref sig .tc := ⟨.hbm, 96, rfl⟩
abbrev main_v69 : Ref sig .tc := ⟨.hbm, 97, rfl⟩
abbrev main_c_21 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_22 : Ref sig .tc := ⟨.hbm, 104, rfl⟩
abbrev main_v75 : Ref sig .tc := ⟨.hbm, 105, rfl⟩
abbrev main_v76 : Ref sig .tc := ⟨.hbm, 106, rfl⟩
abbrev main_c_23 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c_24 : Ref sig .tc := ⟨.hbm, 113, rfl⟩
abbrev main_v82 : Ref sig .tc := ⟨.hbm, 114, rfl⟩
abbrev main_v83 : Ref sig .tc := ⟨.hbm, 115, rfl⟩
abbrev main_c_25 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_c_26 : Ref sig .tc := ⟨.hbm, 122, rfl⟩
abbrev main_v89 : Ref sig .tc := ⟨.hbm, 123, rfl⟩
abbrev main_v90 : Ref sig .tc := ⟨.hbm, 124, rfl⟩
abbrev main_c_27 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_c_28 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_c_29 : Ref sig .tc := ⟨.hbm, 138, rfl⟩
abbrev main_v102 : Ref sig .tc := ⟨.hbm, 139, rfl⟩
abbrev main_v103 : Ref sig .tc := ⟨.hbm, 140, rfl⟩
abbrev main_c_30 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_c_31 : Ref sig .tc := ⟨.hbm, 147, rfl⟩
abbrev main_v109 : Ref sig .tc := ⟨.hbm, 148, rfl⟩
abbrev main_v110 : Ref sig .tc := ⟨.hbm, 149, rfl⟩
abbrev main_c_32 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_c_33 : Ref sig .tc := ⟨.hbm, 156, rfl⟩
abbrev main_v116 : Ref sig .tc := ⟨.hbm, 157, rfl⟩
abbrev main_v117 : Ref sig .tc := ⟨.hbm, 158, rfl⟩
abbrev main_c_34 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_c_35 : Ref sig .tc := ⟨.hbm, 165, rfl⟩
abbrev main_v123 : Ref sig .tc := ⟨.hbm, 166, rfl⟩
abbrev main_v124 : Ref sig .tc := ⟨.hbm, 167, rfl⟩
abbrev main_c_36 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_c_37 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_c_38 : Ref sig .tc := ⟨.hbm, 181, rfl⟩
abbrev main_v136 : Ref sig .tc := ⟨.hbm, 182, rfl⟩
abbrev main_v137 : Ref sig .tc := ⟨.hbm, 183, rfl⟩
abbrev main_c_39 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_c_40 : Ref sig .tc := ⟨.hbm, 190, rfl⟩
abbrev main_v143 : Ref sig .tc := ⟨.hbm, 191, rfl⟩
abbrev main_v144 : Ref sig .tc := ⟨.hbm, 192, rfl⟩
abbrev main_c_41 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_c_42 : Ref sig .tc := ⟨.hbm, 199, rfl⟩
abbrev main_v150 : Ref sig .tc := ⟨.hbm, 200, rfl⟩
abbrev main_v151 : Ref sig .tc := ⟨.hbm, 201, rfl⟩
abbrev main_c_43 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_c_44 : Ref sig .tc := ⟨.hbm, 208, rfl⟩
abbrev main_v157 : Ref sig .tc := ⟨.hbm, 209, rfl⟩
abbrev main_v158 : Ref sig .tc := ⟨.hbm, 210, rfl⟩
abbrev main_c_45 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_c_46 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_c_47 : Ref sig .tc := ⟨.hbm, 224, rfl⟩
abbrev main_v170 : Ref sig .tc := ⟨.hbm, 225, rfl⟩
abbrev main_v171 : Ref sig .tc := ⟨.hbm, 226, rfl⟩
abbrev main_c_48 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_c_49 : Ref sig .tc := ⟨.hbm, 233, rfl⟩
abbrev main_v177 : Ref sig .tc := ⟨.hbm, 234, rfl⟩
abbrev main_v178 : Ref sig .tc := ⟨.hbm, 235, rfl⟩
abbrev main_c_50 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_c_51 : Ref sig .tc := ⟨.hbm, 242, rfl⟩
abbrev main_v184 : Ref sig .tc := ⟨.hbm, 243, rfl⟩
abbrev main_v185 : Ref sig .tc := ⟨.hbm, 244, rfl⟩
abbrev main_c_52 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_c_53 : Ref sig .tc := ⟨.hbm, 251, rfl⟩
abbrev main_v191 : Ref sig .tc := ⟨.hbm, 252, rfl⟩
abbrev main_v192 : Ref sig .tc := ⟨.hbm, 253, rfl⟩
abbrev main_c_54 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_c_55 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_c_56 : Ref sig .tc := ⟨.hbm, 269, rfl⟩
abbrev main_v206 : Ref sig .tc := ⟨.hbm, 270, rfl⟩
abbrev main_v207 : Ref sig .tc := ⟨.hbm, 271, rfl⟩
abbrev main_c_57 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_cst : Ref sig .tc := ⟨.hbm, 276, rfl⟩
abbrev main_v211 : Ref sig .tc := ⟨.hbm, 277, rfl⟩
abbrev main_v212 : Ref sig .tc := ⟨.hbm, 278, rfl⟩
abbrev main_cst_58 : Ref sig .tc := ⟨.hbm, 279, rfl⟩
abbrev main_v213 : Ref sig .tc := ⟨.hbm, 280, rfl⟩
abbrev main_v214 : Ref sig .tc := ⟨.hbm, 281, rfl⟩
abbrev main_cst_59 : Ref sig .tc := ⟨.hbm, 282, rfl⟩
abbrev main_v215 : Ref sig .tc := ⟨.hbm, 283, rfl⟩
abbrev main_v216 : Ref sig .tc := ⟨.hbm, 284, rfl⟩
abbrev main_cst_60 : Ref sig .tc := ⟨.hbm, 285, rfl⟩
abbrev main_v217 : Ref sig .tc := ⟨.hbm, 286, rfl⟩
abbrev main_v218 : Ref sig .tc := ⟨.hbm, 287, rfl⟩
abbrev main_v219 : Ref sig .tc := ⟨.hbm, 288, rfl⟩
abbrev main_c_61 : Ref sig .tc := ⟨.hbm, 289, rfl⟩
abbrev main_v220 : Ref sig .tc := ⟨.hbm, 290, rfl⟩
abbrev main_v221 : Ref sig .tc := ⟨.hbm, 291, rfl⟩
abbrev main_c_62 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_cst_63 : Ref sig .tc := ⟨.hbm, 296, rfl⟩
abbrev main_v225 : Ref sig .tc := ⟨.hbm, 297, rfl⟩
abbrev main_v226 : Ref sig .tc := ⟨.hbm, 298, rfl⟩
abbrev main_cst_64 : Ref sig .tc := ⟨.hbm, 299, rfl⟩
abbrev main_v227 : Ref sig .tc := ⟨.hbm, 300, rfl⟩
abbrev main_v228 : Ref sig .tc := ⟨.hbm, 301, rfl⟩
abbrev main_cst_65 : Ref sig .tc := ⟨.hbm, 302, rfl⟩
abbrev main_v229 : Ref sig .tc := ⟨.hbm, 303, rfl⟩
abbrev main_v230 : Ref sig .tc := ⟨.hbm, 304, rfl⟩
abbrev main_cst_66 : Ref sig .tc := ⟨.hbm, 305, rfl⟩
abbrev main_v231 : Ref sig .tc := ⟨.hbm, 306, rfl⟩
abbrev main_v232 : Ref sig .tc := ⟨.hbm, 307, rfl⟩
abbrev main_v233 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_cst_67 : Ref sig .tc := ⟨.hbm, 312, rfl⟩
abbrev main_v237 : Ref sig .tc := ⟨.hbm, 313, rfl⟩
abbrev main_v238 : Ref sig .tc := ⟨.hbm, 314, rfl⟩
abbrev main_cst_68 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_cst_69 : Ref sig .tc := ⟨.hbm, 319, rfl⟩
abbrev main_v242 : Ref sig .tc := ⟨.hbm, 320, rfl⟩
abbrev main_v243 : Ref sig .tc := ⟨.hbm, 321, rfl⟩
abbrev main_v244 : Ref sig .tc := ⟨.hbm, 322, rfl⟩
abbrev main_cst_70 : Ref sig .tc := ⟨.hbm, 323, rfl⟩
abbrev main_cst_71 : Ref sig .tc := ⟨.hbm, 324, rfl⟩
abbrev main_call1_v0 : Ref sig .tc := ⟨.hbm, 325, rfl⟩
abbrev main_call1_v1 : Ref sig .tc := ⟨.hbm, 326, rfl⟩
abbrev main_v245 : Ref sig .tc := ⟨.hbm, 327, rfl⟩
abbrev main_cst_72 : Ref sig .tc := ⟨.hbm, 328, rfl⟩
abbrev main_cst_73 : Ref sig .tc := ⟨.hbm, 329, rfl⟩
abbrev main_call2_v0 : Ref sig .tc := ⟨.hbm, 330, rfl⟩
abbrev main_call2_v1 : Ref sig .tc := ⟨.hbm, 331, rfl⟩
abbrev main_v246 : Ref sig .tc := ⟨.hbm, 332, rfl⟩
abbrev main_v247 : Ref sig .tc := ⟨.hbm, 333, rfl⟩
abbrev main_v248 : Ref sig .tc := ⟨.hbm, 334, rfl⟩
abbrev main_v249 : Ref sig .tc := ⟨.hbm, 335, rfl⟩
abbrev main_v250 : Ref sig .tc := ⟨.hbm, 336, rfl⟩
abbrev main_cst_74 : Ref sig .tc := ⟨.hbm, 337, rfl⟩
abbrev main_cst_75 : Ref sig .tc := ⟨.hbm, 338, rfl⟩
abbrev main_call3_v0 : Ref sig .tc := ⟨.hbm, 339, rfl⟩
abbrev main_call3_v1 : Ref sig .tc := ⟨.hbm, 340, rfl⟩
abbrev main_v251 : Ref sig .tc := ⟨.hbm, 341, rfl⟩
abbrev main_v252 : Ref sig .tc := ⟨.hbm, 342, rfl⟩
abbrev main_v253 : Ref sig .tc := ⟨.hbm, 343, rfl⟩
abbrev main_v254 : Ref sig .tc := ⟨.hbm, 344, rfl⟩
abbrev main_cst_76 : Ref sig .tc := ⟨.hbm, 345, rfl⟩
abbrev main_cst_77 : Ref sig .tc := ⟨.hbm, 346, rfl⟩
abbrev main_call4_v0 : Ref sig .tc := ⟨.hbm, 347, rfl⟩
abbrev main_call4_v1 : Ref sig .tc := ⟨.hbm, 348, rfl⟩
abbrev main_v255 : Ref sig .tc := ⟨.hbm, 349, rfl⟩
abbrev main_v256 : Ref sig .tc := ⟨.hbm, 350, rfl⟩
abbrev main_v257 : Ref sig .tc := ⟨.hbm, 351, rfl⟩
abbrev main_v258 : Ref sig .tc := ⟨.hbm, 352, rfl⟩
abbrev main_cst_78 : Ref sig .tc := ⟨.hbm, 353, rfl⟩
abbrev main_cst_79 : Ref sig .tc := ⟨.hbm, 354, rfl⟩
abbrev main_call5_v0 : Ref sig .tc := ⟨.hbm, 355, rfl⟩
abbrev main_call5_v1 : Ref sig .tc := ⟨.hbm, 356, rfl⟩
abbrev main_v259 : Ref sig .tc := ⟨.hbm, 357, rfl⟩
abbrev main_v260 : Ref sig .tc := ⟨.hbm, 358, rfl⟩
abbrev main_v261 : Ref sig .tc := ⟨.hbm, 359, rfl⟩
abbrev main_v262 : Ref sig .tc := ⟨.hbm, 360, rfl⟩
abbrev main_cst_80 : Ref sig .tc := ⟨.hbm, 361, rfl⟩
abbrev main_cst_81 : Ref sig .tc := ⟨.hbm, 362, rfl⟩
abbrev main_call6_v0 : Ref sig .tc := ⟨.hbm, 363, rfl⟩
abbrev main_call6_v1 : Ref sig .tc := ⟨.hbm, 364, rfl⟩
abbrev main_v263 : Ref sig .tc := ⟨.hbm, 365, rfl⟩
abbrev main_v264 : Ref sig .tc := ⟨.hbm, 366, rfl⟩
abbrev main_v265 : Ref sig .tc := ⟨.hbm, 367, rfl⟩
abbrev main_v266 : Ref sig .tc := ⟨.hbm, 368, rfl⟩
abbrev main_cst_82 : Ref sig .tc := ⟨.hbm, 369, rfl⟩
abbrev main_cst_83 : Ref sig .tc := ⟨.hbm, 370, rfl⟩
abbrev main_call7_v0 : Ref sig .tc := ⟨.hbm, 371, rfl⟩
abbrev main_call7_v1 : Ref sig .tc := ⟨.hbm, 372, rfl⟩
abbrev main_v267 : Ref sig .tc := ⟨.hbm, 373, rfl⟩
abbrev main_v268 : Ref sig .tc := ⟨.hbm, 374, rfl⟩
abbrev main_v269 : Ref sig .tc := ⟨.hbm, 375, rfl⟩
abbrev main_v270 : Ref sig .tc := ⟨.hbm, 376, rfl⟩
abbrev main_cst_84 : Ref sig .tc := ⟨.hbm, 377, rfl⟩
abbrev main_cst_85 : Ref sig .tc := ⟨.hbm, 378, rfl⟩
abbrev main_call8_v0 : Ref sig .tc := ⟨.hbm, 379, rfl⟩
abbrev main_call8_v1 : Ref sig .tc := ⟨.hbm, 380, rfl⟩
abbrev main_v271 : Ref sig .tc := ⟨.hbm, 381, rfl⟩
abbrev main_v272 : Ref sig .tc := ⟨.hbm, 382, rfl⟩
abbrev main_v273 : Ref sig .tc := ⟨.hbm, 383, rfl⟩
abbrev main_v274 : Ref sig .tc := ⟨.hbm, 384, rfl⟩
abbrev main_cst_86 : Ref sig .tc := ⟨.hbm, 385, rfl⟩
abbrev main_cst_87 : Ref sig .tc := ⟨.hbm, 386, rfl⟩
abbrev main_call9_v0 : Ref sig .tc := ⟨.hbm, 387, rfl⟩
abbrev main_call9_v1 : Ref sig .tc := ⟨.hbm, 388, rfl⟩
abbrev main_v275 : Ref sig .tc := ⟨.hbm, 389, rfl⟩
abbrev main_v276 : Ref sig .tc := ⟨.hbm, 390, rfl⟩
abbrev main_v277 : Ref sig .tc := ⟨.hbm, 391, rfl⟩
abbrev main_v278 : Ref sig .tc := ⟨.hbm, 392, rfl⟩
abbrev main_v279 : Ref sig .tc := ⟨.hbm, 393, rfl⟩
abbrev main_cst_88 : Ref sig .tc := ⟨.hbm, 394, rfl⟩
abbrev main_v280 : Ref sig .tc := ⟨.hbm, 395, rfl⟩
abbrev main_v281 : Ref sig .tc := ⟨.hbm, 396, rfl⟩
abbrev main_cst_89 : Ref sig .tc := ⟨.hbm, 397, rfl⟩
abbrev main_v282 : Ref sig .tc := ⟨.hbm, 398, rfl⟩
abbrev main_v283 : Ref sig .tc := ⟨.hbm, 399, rfl⟩
abbrev main_v284 : Ref sig .tc := ⟨.hbm, 400, rfl⟩
abbrev main_v285 : Ref sig .tc := ⟨.hbm, 401, rfl⟩
abbrev main_cst_90 : Ref sig .tc := ⟨.hbm, 402, rfl⟩
abbrev main_v286 : Ref sig .tc := ⟨.hbm, 403, rfl⟩
abbrev main_v287 : Ref sig .tc := ⟨.hbm, 404, rfl⟩
abbrev main_c_91 : Ref sig .tc := ⟨.hbm, 405, rfl⟩
abbrev main_v288 : Ref sig .tc := ⟨.hbm, 406, rfl⟩
abbrev main_c_92 : Ref sig .tc := ⟨.hbm, 407, rfl⟩
abbrev main_v289 : Ref sig .tc := ⟨.hbm, 408, rfl⟩
abbrev main_c_93 : Ref sig .tc := ⟨.hbm, 409, rfl⟩
abbrev main_v290 : Ref sig .tc := ⟨.hbm, 410, rfl⟩
abbrev main_v291 : Ref sig .tc := ⟨.hbm, 411, rfl⟩
abbrev main_v292 : Ref sig .tc := ⟨.hbm, 412, rfl⟩
abbrev main_v293 : Ref sig .tc := ⟨.hbm, 413, rfl⟩
abbrev main_v294 : Ref sig .tc := ⟨.hbm, 414, rfl⟩
abbrev main_c_94 : Ref sig .tc := ⟨.hbm, 415, rfl⟩
abbrev main_v295 : Ref sig .tc := ⟨.hbm, 416, rfl⟩
abbrev main_c_95 : Ref sig .tc := ⟨.hbm, 417, rfl⟩
abbrev main_v296 : Ref sig .tc := ⟨.hbm, 418, rfl⟩
abbrev main_c_96 : Ref sig .tc := ⟨.hbm, 419, rfl⟩
abbrev main_v297 : Ref sig .tc := ⟨.hbm, 420, rfl⟩
abbrev main_v298 : Ref sig .tc := ⟨.hbm, 421, rfl⟩
abbrev main_v299 : Ref sig .tc := ⟨.hbm, 422, rfl⟩
abbrev main_v300 : Ref sig .tc := ⟨.hbm, 423, rfl⟩
abbrev main_v301 : Ref sig .tc := ⟨.hbm, 424, rfl⟩
abbrev main_c_97 : Ref sig .tc := ⟨.hbm, 425, rfl⟩
abbrev main_v302 : Ref sig .tc := ⟨.hbm, 426, rfl⟩
abbrev main_c_98 : Ref sig .tc := ⟨.hbm, 427, rfl⟩
abbrev main_v303 : Ref sig .tc := ⟨.hbm, 428, rfl⟩
abbrev main_c_99 : Ref sig .tc := ⟨.hbm, 429, rfl⟩
abbrev main_v304 : Ref sig .tc := ⟨.hbm, 430, rfl⟩
abbrev main_v305 : Ref sig .tc := ⟨.hbm, 431, rfl⟩
abbrev main_v306 : Ref sig .tc := ⟨.hbm, 432, rfl⟩
abbrev main_v307 : Ref sig .tc := ⟨.hbm, 433, rfl⟩
abbrev main_v308 : Ref sig .tc := ⟨.hbm, 434, rfl⟩
abbrev main_v309 : Ref sig .tc := ⟨.hbm, 435, rfl⟩
abbrev main_v310 : Ref sig .tc := ⟨.hbm, 436, rfl⟩
abbrev main_v311 : Ref sig .tc := ⟨.hbm, 437, rfl⟩
abbrev main_v312 : Ref sig .tc := ⟨.hbm, 438, rfl⟩
abbrev main_v313 : Ref sig .tc := ⟨.hbm, 439, rfl⟩
abbrev main_v314 : Ref sig .tc := ⟨.hbm, 440, rfl⟩
abbrev main_v315 : Ref sig .tc := ⟨.hbm, 441, rfl⟩
abbrev main_c_100 : Ref sig .tc := ⟨.hbm, 442, rfl⟩
abbrev main_v316 : Ref sig .tc := ⟨.hbm, 443, rfl⟩
abbrev main_v317 : Ref sig .tc := ⟨.hbm, 444, rfl⟩
abbrev main_c_101 : Ref sig .tc := ⟨.hbm, 445, rfl⟩
abbrev main_v318 : Ref sig .tc := ⟨.hbm, 446, rfl⟩
abbrev main_v319 : Ref sig .tc := ⟨.hbm, 447, rfl⟩
abbrev main_v320 : Ref sig .tc := ⟨.hbm, 448, rfl⟩
abbrev main_v321 : Ref sig .tc := ⟨.hbm, 449, rfl⟩
abbrev main_v322 : Ref sig .tc := ⟨.hbm, 450, rfl⟩
abbrev main_c_102 : Ref sig .tc := ⟨.hbm, 451, rfl⟩
abbrev main_v323 : Ref sig .tc := ⟨.hbm, 452, rfl⟩
abbrev main_v324 : Ref sig .tc := ⟨.hbm, 453, rfl⟩
abbrev main_c_103 : Ref sig .tc := ⟨.hbm, 454, rfl⟩
abbrev main_v325 : Ref sig .tc := ⟨.hbm, 455, rfl⟩
abbrev main_v326 : Ref sig .tc := ⟨.hbm, 456, rfl⟩
abbrev main_v327 : Ref sig .tc := ⟨.hbm, 457, rfl⟩
abbrev main_v328 : Ref sig .tc := ⟨.hbm, 458, rfl⟩
abbrev main_v329 : Ref sig .tc := ⟨.hbm, 459, rfl⟩
abbrev main_c_104 : Ref sig .tc := ⟨.hbm, 460, rfl⟩
abbrev main_v330 : Ref sig .tc := ⟨.hbm, 461, rfl⟩
abbrev main_v331 : Ref sig .tc := ⟨.hbm, 462, rfl⟩
abbrev main_c_105 : Ref sig .tc := ⟨.hbm, 463, rfl⟩
abbrev main_v332 : Ref sig .tc := ⟨.hbm, 464, rfl⟩
abbrev main_v333 : Ref sig .tc := ⟨.hbm, 465, rfl⟩
abbrev main_v334 : Ref sig .tc := ⟨.hbm, 466, rfl⟩
abbrev main_v335 : Ref sig .tc := ⟨.hbm, 467, rfl⟩
abbrev main_v336 : Ref sig .tc := ⟨.hbm, 468, rfl⟩
abbrev main_c_106 : Ref sig .tc := ⟨.hbm, 469, rfl⟩
abbrev main_v337 : Ref sig .tc := ⟨.hbm, 470, rfl⟩
abbrev main_v338 : Ref sig .tc := ⟨.hbm, 471, rfl⟩
abbrev main_c_107 : Ref sig .tc := ⟨.hbm, 472, rfl⟩
abbrev main_v339 : Ref sig .tc := ⟨.hbm, 473, rfl⟩
abbrev main_v340 : Ref sig .tc := ⟨.hbm, 474, rfl⟩
abbrev main_v341 : Ref sig .tc := ⟨.hbm, 475, rfl⟩
abbrev main_v342 : Ref sig .tc := ⟨.hbm, 476, rfl⟩
abbrev main_v343 : Ref sig .tc := ⟨.hbm, 477, rfl⟩
abbrev main_v344 : Ref sig .tc := ⟨.hbm, 478, rfl⟩
abbrev main_c_108 : Ref sig .tc := ⟨.hbm, 479, rfl⟩
abbrev main_v345 : Ref sig .tc := ⟨.hbm, 480, rfl⟩
abbrev main_v346 : Ref sig .tc := ⟨.hbm, 481, rfl⟩
abbrev main_v347 : Ref sig .tc := ⟨.hbm, 482, rfl⟩
abbrev main_v348 : Ref sig .tc := ⟨.hbm, 483, rfl⟩
abbrev main_v349 : Ref sig .tc := ⟨.hbm, 484, rfl⟩
abbrev main_c_109 : Ref sig .tc := ⟨.hbm, 485, rfl⟩
abbrev main_v350 : Ref sig .tc := ⟨.hbm, 486, rfl⟩
abbrev main_v351 : Ref sig .tc := ⟨.hbm, 487, rfl⟩
abbrev main_c_110 : Ref sig .tc := ⟨.hbm, 488, rfl⟩
abbrev main_v352 : Ref sig .tc := ⟨.hbm, 489, rfl⟩
abbrev main_v353 : Ref sig .tc := ⟨.hbm, 490, rfl⟩
abbrev main_v354 : Ref sig .tc := ⟨.hbm, 491, rfl⟩
abbrev main_v355 : Ref sig .tc := ⟨.hbm, 492, rfl⟩
abbrev main_v356 : Ref sig .tc := ⟨.hbm, 493, rfl⟩
abbrev main_c_111 : Ref sig .tc := ⟨.hbm, 494, rfl⟩
abbrev main_v357 : Ref sig .tc := ⟨.hbm, 495, rfl⟩
abbrev main_v358 : Ref sig .tc := ⟨.hbm, 496, rfl⟩
abbrev main_c_112 : Ref sig .tc := ⟨.hbm, 497, rfl⟩
abbrev main_v359 : Ref sig .tc := ⟨.hbm, 498, rfl⟩
abbrev main_v360 : Ref sig .tc := ⟨.hbm, 499, rfl⟩
abbrev main_v361 : Ref sig .tc := ⟨.hbm, 500, rfl⟩
abbrev main_v362 : Ref sig .tc := ⟨.hbm, 501, rfl⟩
abbrev main_v363 : Ref sig .tc := ⟨.hbm, 502, rfl⟩
abbrev main_c_113 : Ref sig .tc := ⟨.hbm, 503, rfl⟩
abbrev main_v364 : Ref sig .tc := ⟨.hbm, 504, rfl⟩
abbrev main_v365 : Ref sig .tc := ⟨.hbm, 505, rfl⟩
abbrev main_c_114 : Ref sig .tc := ⟨.hbm, 506, rfl⟩
abbrev main_v366 : Ref sig .tc := ⟨.hbm, 507, rfl⟩
abbrev main_v367 : Ref sig .tc := ⟨.hbm, 508, rfl⟩
abbrev main_v368 : Ref sig .tc := ⟨.hbm, 509, rfl⟩
abbrev main_v369 : Ref sig .tc := ⟨.hbm, 510, rfl⟩
abbrev main_v370 : Ref sig .tc := ⟨.hbm, 511, rfl⟩
abbrev main_c_115 : Ref sig .tc := ⟨.hbm, 512, rfl⟩
abbrev main_v371 : Ref sig .tc := ⟨.hbm, 513, rfl⟩
abbrev main_v372 : Ref sig .tc := ⟨.hbm, 514, rfl⟩
abbrev main_c_116 : Ref sig .tc := ⟨.hbm, 515, rfl⟩
abbrev main_v373 : Ref sig .tc := ⟨.hbm, 516, rfl⟩
abbrev main_v374 : Ref sig .tc := ⟨.hbm, 517, rfl⟩
abbrev main_v375 : Ref sig .tc := ⟨.hbm, 518, rfl⟩
abbrev main_v376 : Ref sig .tc := ⟨.hbm, 519, rfl⟩
abbrev main_v377 : Ref sig .tc := ⟨.hbm, 520, rfl⟩
abbrev main_v378 : Ref sig .tc := ⟨.hbm, 521, rfl⟩
abbrev main_c_117 : Ref sig .tc := ⟨.hbm, 522, rfl⟩
abbrev main_v379 : Ref sig .tc := ⟨.hbm, 523, rfl⟩
abbrev main_v380 : Ref sig .tc := ⟨.hbm, 524, rfl⟩
abbrev main_v381 : Ref sig .tc := ⟨.hbm, 525, rfl⟩
abbrev main_v382 : Ref sig .tc := ⟨.hbm, 526, rfl⟩
abbrev main_v383 : Ref sig .tc := ⟨.hbm, 527, rfl⟩
abbrev main_c_118 : Ref sig .tc := ⟨.hbm, 528, rfl⟩
abbrev main_v384 : Ref sig .tc := ⟨.hbm, 529, rfl⟩
abbrev main_v385 : Ref sig .tc := ⟨.hbm, 530, rfl⟩
abbrev main_c_119 : Ref sig .tc := ⟨.hbm, 531, rfl⟩
abbrev main_v386 : Ref sig .tc := ⟨.hbm, 532, rfl⟩
abbrev main_v387 : Ref sig .tc := ⟨.hbm, 533, rfl⟩
abbrev main_v388 : Ref sig .tc := ⟨.hbm, 534, rfl⟩
abbrev main_v389 : Ref sig .tc := ⟨.hbm, 535, rfl⟩
abbrev main_v390 : Ref sig .tc := ⟨.hbm, 536, rfl⟩
abbrev main_c_120 : Ref sig .tc := ⟨.hbm, 537, rfl⟩
abbrev main_v391 : Ref sig .tc := ⟨.hbm, 538, rfl⟩
abbrev main_v392 : Ref sig .tc := ⟨.hbm, 539, rfl⟩
abbrev main_c_121 : Ref sig .tc := ⟨.hbm, 540, rfl⟩
abbrev main_v393 : Ref sig .tc := ⟨.hbm, 541, rfl⟩
abbrev main_v394 : Ref sig .tc := ⟨.hbm, 542, rfl⟩
abbrev main_v395 : Ref sig .tc := ⟨.hbm, 543, rfl⟩
abbrev main_v396 : Ref sig .tc := ⟨.hbm, 544, rfl⟩
abbrev main_v397 : Ref sig .tc := ⟨.hbm, 545, rfl⟩
abbrev main_c_122 : Ref sig .tc := ⟨.hbm, 546, rfl⟩
abbrev main_v398 : Ref sig .tc := ⟨.hbm, 547, rfl⟩
abbrev main_v399 : Ref sig .tc := ⟨.hbm, 548, rfl⟩
abbrev main_c_123 : Ref sig .tc := ⟨.hbm, 549, rfl⟩
abbrev main_v400 : Ref sig .tc := ⟨.hbm, 550, rfl⟩
abbrev main_v401 : Ref sig .tc := ⟨.hbm, 551, rfl⟩
abbrev main_v402 : Ref sig .tc := ⟨.hbm, 552, rfl⟩
abbrev main_v403 : Ref sig .tc := ⟨.hbm, 553, rfl⟩
abbrev main_v404 : Ref sig .tc := ⟨.hbm, 554, rfl⟩
abbrev main_c_124 : Ref sig .tc := ⟨.hbm, 555, rfl⟩
abbrev main_v405 : Ref sig .tc := ⟨.hbm, 556, rfl⟩
abbrev main_v406 : Ref sig .tc := ⟨.hbm, 557, rfl⟩
abbrev main_c_125 : Ref sig .tc := ⟨.hbm, 558, rfl⟩
abbrev main_v407 : Ref sig .tc := ⟨.hbm, 559, rfl⟩
abbrev main_v408 : Ref sig .tc := ⟨.hbm, 560, rfl⟩
abbrev main_v409 : Ref sig .tc := ⟨.hbm, 561, rfl⟩
abbrev main_v410 : Ref sig .tc := ⟨.hbm, 562, rfl⟩
abbrev main_v411 : Ref sig .tc := ⟨.hbm, 563, rfl⟩
abbrev main_v412 : Ref sig .tc := ⟨.hbm, 564, rfl⟩
abbrev main_c_126 : Ref sig .tc := ⟨.hbm, 565, rfl⟩
abbrev main_v413 : Ref sig .tc := ⟨.hbm, 566, rfl⟩
abbrev main_v414 : Ref sig .tc := ⟨.hbm, 567, rfl⟩
abbrev main_v415 : Ref sig .tc := ⟨.hbm, 568, rfl⟩
abbrev main_v416 : Ref sig .tc := ⟨.hbm, 569, rfl⟩
abbrev main_v417 : Ref sig .tc := ⟨.hbm, 570, rfl⟩
abbrev main_c_127 : Ref sig .tc := ⟨.hbm, 571, rfl⟩
abbrev main_v418 : Ref sig .tc := ⟨.hbm, 572, rfl⟩
abbrev main_v419 : Ref sig .tc := ⟨.hbm, 573, rfl⟩
abbrev main_c_128 : Ref sig .tc := ⟨.hbm, 574, rfl⟩
abbrev main_v420 : Ref sig .tc := ⟨.hbm, 575, rfl⟩
abbrev main_v421 : Ref sig .tc := ⟨.hbm, 576, rfl⟩
abbrev main_v422 : Ref sig .tc := ⟨.hbm, 577, rfl⟩
abbrev main_v423 : Ref sig .tc := ⟨.hbm, 578, rfl⟩
abbrev main_v424 : Ref sig .tc := ⟨.hbm, 579, rfl⟩
abbrev main_c_129 : Ref sig .tc := ⟨.hbm, 580, rfl⟩
abbrev main_v425 : Ref sig .tc := ⟨.hbm, 581, rfl⟩
abbrev main_v426 : Ref sig .tc := ⟨.hbm, 582, rfl⟩
abbrev main_c_130 : Ref sig .tc := ⟨.hbm, 583, rfl⟩
abbrev main_v427 : Ref sig .tc := ⟨.hbm, 584, rfl⟩
abbrev main_v428 : Ref sig .tc := ⟨.hbm, 585, rfl⟩
abbrev main_v429 : Ref sig .tc := ⟨.hbm, 586, rfl⟩
abbrev main_v430 : Ref sig .tc := ⟨.hbm, 587, rfl⟩
abbrev main_v431 : Ref sig .tc := ⟨.hbm, 588, rfl⟩
abbrev main_c_131 : Ref sig .tc := ⟨.hbm, 589, rfl⟩
abbrev main_v432 : Ref sig .tc := ⟨.hbm, 590, rfl⟩
abbrev main_v433 : Ref sig .tc := ⟨.hbm, 591, rfl⟩
abbrev main_c_132 : Ref sig .tc := ⟨.hbm, 592, rfl⟩
abbrev main_v434 : Ref sig .tc := ⟨.hbm, 593, rfl⟩
abbrev main_v435 : Ref sig .tc := ⟨.hbm, 594, rfl⟩
abbrev main_v436 : Ref sig .tc := ⟨.hbm, 595, rfl⟩
abbrev main_v437 : Ref sig .tc := ⟨.hbm, 596, rfl⟩
abbrev main_v438 : Ref sig .tc := ⟨.hbm, 597, rfl⟩
abbrev main_c_133 : Ref sig .tc := ⟨.hbm, 598, rfl⟩
abbrev main_v439 : Ref sig .tc := ⟨.hbm, 599, rfl⟩
abbrev main_v440 : Ref sig .tc := ⟨.hbm, 600, rfl⟩
abbrev main_c_134 : Ref sig .tc := ⟨.hbm, 601, rfl⟩
abbrev main_v441 : Ref sig .tc := ⟨.hbm, 602, rfl⟩
abbrev main_v442 : Ref sig .tc := ⟨.hbm, 603, rfl⟩
abbrev main_v443 : Ref sig .tc := ⟨.hbm, 604, rfl⟩
abbrev main_v444 : Ref sig .tc := ⟨.hbm, 605, rfl⟩
abbrev main_v445 : Ref sig .tc := ⟨.hbm, 606, rfl⟩
abbrev main_v446 : Ref sig .tc := ⟨.hbm, 607, rfl⟩
abbrev main_c_135 : Ref sig .tc := ⟨.hbm, 608, rfl⟩
abbrev main_v447 : Ref sig .tc := ⟨.hbm, 609, rfl⟩
abbrev main_v448 : Ref sig .tc := ⟨.hbm, 610, rfl⟩
abbrev main_v449 : Ref sig .tc := ⟨.hbm, 611, rfl⟩
abbrev main_v450 : Ref sig .tc := ⟨.hbm, 612, rfl⟩
abbrev main_v451 : Ref sig .tc := ⟨.hbm, 613, rfl⟩
abbrev main_c_136 : Ref sig .tc := ⟨.hbm, 614, rfl⟩
abbrev main_v452 : Ref sig .tc := ⟨.hbm, 615, rfl⟩
abbrev main_v453 : Ref sig .tc := ⟨.hbm, 616, rfl⟩
abbrev main_c_137 : Ref sig .tc := ⟨.hbm, 617, rfl⟩
abbrev main_v454 : Ref sig .tc := ⟨.hbm, 618, rfl⟩
abbrev main_v455 : Ref sig .tc := ⟨.hbm, 619, rfl⟩
abbrev main_v456 : Ref sig .tc := ⟨.hbm, 620, rfl⟩
abbrev main_v457 : Ref sig .tc := ⟨.hbm, 621, rfl⟩
abbrev main_v458 : Ref sig .tc := ⟨.hbm, 622, rfl⟩
abbrev main_c_138 : Ref sig .tc := ⟨.hbm, 623, rfl⟩
abbrev main_v459 : Ref sig .tc := ⟨.hbm, 624, rfl⟩
abbrev main_v460 : Ref sig .tc := ⟨.hbm, 625, rfl⟩
abbrev main_c_139 : Ref sig .tc := ⟨.hbm, 626, rfl⟩
abbrev main_v461 : Ref sig .tc := ⟨.hbm, 627, rfl⟩
abbrev main_v462 : Ref sig .tc := ⟨.hbm, 628, rfl⟩
abbrev main_v463 : Ref sig .tc := ⟨.hbm, 629, rfl⟩
abbrev main_v464 : Ref sig .tc := ⟨.hbm, 630, rfl⟩
abbrev main_v465 : Ref sig .tc := ⟨.hbm, 631, rfl⟩
abbrev main_c_140 : Ref sig .tc := ⟨.hbm, 632, rfl⟩
abbrev main_v466 : Ref sig .tc := ⟨.hbm, 633, rfl⟩
abbrev main_v467 : Ref sig .tc := ⟨.hbm, 634, rfl⟩
abbrev main_c_141 : Ref sig .tc := ⟨.hbm, 635, rfl⟩
abbrev main_v468 : Ref sig .tc := ⟨.hbm, 636, rfl⟩
abbrev main_v469 : Ref sig .tc := ⟨.hbm, 637, rfl⟩
abbrev main_v470 : Ref sig .tc := ⟨.hbm, 638, rfl⟩
abbrev main_v471 : Ref sig .tc := ⟨.hbm, 639, rfl⟩
abbrev main_v472 : Ref sig .tc := ⟨.hbm, 640, rfl⟩
abbrev main_c_142 : Ref sig .tc := ⟨.hbm, 641, rfl⟩
abbrev main_v473 : Ref sig .tc := ⟨.hbm, 642, rfl⟩
abbrev main_v474 : Ref sig .tc := ⟨.hbm, 643, rfl⟩
abbrev main_c_143 : Ref sig .tc := ⟨.hbm, 644, rfl⟩
abbrev main_v475 : Ref sig .tc := ⟨.hbm, 645, rfl⟩
abbrev main_v476 : Ref sig .tc := ⟨.hbm, 646, rfl⟩
abbrev main_v477 : Ref sig .tc := ⟨.hbm, 647, rfl⟩
abbrev main_v478 : Ref sig .tc := ⟨.hbm, 648, rfl⟩
abbrev main_v479 : Ref sig .tc := ⟨.hbm, 649, rfl⟩
abbrev main_v480 : Ref sig .tc := ⟨.hbm, 650, rfl⟩
abbrev main_c_144 : Ref sig .tc := ⟨.hbm, 651, rfl⟩
abbrev main_v481 : Ref sig .tc := ⟨.hbm, 652, rfl⟩
abbrev main_v482 : Ref sig .tc := ⟨.hbm, 653, rfl⟩
abbrev main_v483 : Ref sig .tc := ⟨.hbm, 654, rfl⟩
abbrev main_v484 : Ref sig .tc := ⟨.hbm, 655, rfl⟩
abbrev main_v485 : Ref sig .tc := ⟨.hbm, 656, rfl⟩
abbrev main_c_145 : Ref sig .tc := ⟨.hbm, 657, rfl⟩
abbrev main_v486 : Ref sig .tc := ⟨.hbm, 658, rfl⟩
abbrev main_v487 : Ref sig .tc := ⟨.hbm, 659, rfl⟩
abbrev main_c_146 : Ref sig .tc := ⟨.hbm, 660, rfl⟩
abbrev main_v488 : Ref sig .tc := ⟨.hbm, 661, rfl⟩
abbrev main_v489 : Ref sig .tc := ⟨.hbm, 662, rfl⟩
abbrev main_v490 : Ref sig .tc := ⟨.hbm, 663, rfl⟩
abbrev main_cst_147 : Ref sig .tc := ⟨.hbm, 664, rfl⟩
abbrev main_v491 : Ref sig .tc := ⟨.hbm, 665, rfl⟩
abbrev main_v492 : Ref sig .tc := ⟨.hbm, 666, rfl⟩
abbrev main_cst_148 : Ref sig .tc := ⟨.hbm, 667, rfl⟩
abbrev main_v493 : Ref sig .tc := ⟨.hbm, 668, rfl⟩
abbrev main_v494 : Ref sig .tc := ⟨.hbm, 669, rfl⟩
abbrev main_cst_149 : Ref sig .tc := ⟨.hbm, 670, rfl⟩
abbrev main_v495 : Ref sig .tc := ⟨.hbm, 671, rfl⟩
abbrev main_v496 : Ref sig .tc := ⟨.hbm, 672, rfl⟩
abbrev main_cst_150 : Ref sig .tc := ⟨.hbm, 673, rfl⟩
abbrev main_v497 : Ref sig .tc := ⟨.hbm, 674, rfl⟩
abbrev main_v498 : Ref sig .tc := ⟨.hbm, 675, rfl⟩
abbrev main_v499 : Ref sig .tc := ⟨.hbm, 676, rfl⟩
abbrev main_v500 : Ref sig .tc := ⟨.hbm, 677, rfl⟩
abbrev main_v501 : Ref sig .tc := ⟨.hbm, 678, rfl⟩
abbrev main_v502 : Ref sig .tc := ⟨.hbm, 679, rfl⟩
abbrev main_v503 : Ref sig .tc := ⟨.hbm, 680, rfl⟩
abbrev main_v504 : Ref sig .tc := ⟨.hbm, 681, rfl⟩
abbrev main_v505 : Ref sig .tc := ⟨.hbm, 682, rfl⟩
abbrev main_v506 : Ref sig .tc := ⟨.hbm, 683, rfl⟩
abbrev main_v507 : Ref sig .tc := ⟨.hbm, 684, rfl⟩
abbrev main_v508 : Ref sig .tc := ⟨.hbm, 685, rfl⟩
abbrev main_v509 : Ref sig .tc := ⟨.hbm, 686, rfl⟩
abbrev main_v510 : Ref sig .tc := ⟨.hbm, 687, rfl⟩
abbrev main_v511 : Ref sig .tc := ⟨.hbm, 688, rfl⟩
abbrev main_v512 : Ref sig .tc := ⟨.hbm, 689, rfl⟩
abbrev main_v513 : Ref sig .tc := ⟨.hbm, 690, rfl⟩
abbrev main_v514 : Ref sig .tc := ⟨.hbm, 691, rfl⟩
abbrev main_v515 : Ref sig .tc := ⟨.hbm, 692, rfl⟩
abbrev main_v516 : Ref sig .tc := ⟨.hbm, 693, rfl⟩
abbrev main_v517 : Ref sig .tc := ⟨.hbm, 694, rfl⟩
abbrev main_v518 : Ref sig .tc := ⟨.hbm, 695, rfl⟩
abbrev main_v519 : Ref sig .tc := ⟨.hbm, 696, rfl⟩
abbrev main_v520 : Ref sig .tc := ⟨.hbm, 697, rfl⟩
abbrev main_v521 : Ref sig .tc := ⟨.hbm, 698, rfl⟩
abbrev main_v522 : Ref sig .tc := ⟨.hbm, 699, rfl⟩
abbrev main_call11_cst : Ref sig .tc := ⟨.hbm, 700, rfl⟩
abbrev main_call11_v0 : Ref sig .tc := ⟨.hbm, 701, rfl⟩
abbrev main_v523 : Ref sig .tc := ⟨.hbm, 702, rfl⟩
abbrev main_v524 : Ref sig .tc := ⟨.hbm, 703, rfl⟩
abbrev main_v525 : Ref sig .tc := ⟨.hbm, 704, rfl⟩
abbrev main_v526 : Ref sig .tc := ⟨.hbm, 705, rfl⟩
abbrev main_v527 : Ref sig .tc := ⟨.hbm, 706, rfl⟩
abbrev main_v528 : Ref sig .tc := ⟨.hbm, 707, rfl⟩
abbrev main_cst_151 : Ref sig .tc := ⟨.hbm, 708, rfl⟩
abbrev main_v529 : Ref sig .tc := ⟨.hbm, 709, rfl⟩
abbrev main_v530 : Ref sig .tc := ⟨.hbm, 710, rfl⟩
abbrev main_v531 : Ref sig .tc := ⟨.hbm, 711, rfl⟩
abbrev main_v532 : Ref sig .tc := ⟨.hbm, 712, rfl⟩
abbrev main_v533 : Ref sig .tc := ⟨.hbm, 713, rfl⟩
abbrev main_v534 : Ref sig .tc := ⟨.hbm, 714, rfl⟩
abbrev main_v535 : Ref sig .tc := ⟨.hbm, 715, rfl⟩
abbrev main_cst_152 : Ref sig .tc := ⟨.hbm, 716, rfl⟩
abbrev main_v536 : Ref sig .tc := ⟨.hbm, 717, rfl⟩
abbrev main_v537 : Ref sig .tc := ⟨.hbm, 718, rfl⟩
abbrev main_v538 : Ref sig .tc := ⟨.hbm, 719, rfl⟩
abbrev main_v539 : Ref sig .tc := ⟨.hbm, 720, rfl⟩
abbrev main_v540 : Ref sig .tc := ⟨.hbm, 721, rfl⟩
abbrev main_c_153 : Ref sig .tc := ⟨.hbm, 722, rfl⟩
abbrev main_call12_v0 : Ref sig .tc := ⟨.hbm, 723, rfl⟩
abbrev main_call12_v1 : Ref sig .tc := ⟨.hbm, 724, rfl⟩
abbrev main_call12_v2 : Ref sig .tc := ⟨.hbm, 725, rfl⟩
abbrev main_v541 : Ref sig .tc := ⟨.hbm, 726, rfl⟩
abbrev main_c_154 : Ref sig .tc := ⟨.hbm, 727, rfl⟩
abbrev main_v542 : Ref sig .tc := ⟨.hbm, 728, rfl⟩
abbrev main_v543 : Ref sig .tc := ⟨.hbm, 729, rfl⟩
abbrev main_call13_c : Ref sig .tc := ⟨.hbm, 730, rfl⟩
abbrev main_call13_v0 : Ref sig .tc := ⟨.hbm, 731, rfl⟩
abbrev main_call13_v1 : Ref sig .tc := ⟨.hbm, 732, rfl⟩
abbrev main_call13_c_0 : Ref sig .tc := ⟨.hbm, 733, rfl⟩
abbrev main_call13_v2 : Ref sig .tc := ⟨.hbm, 734, rfl⟩
abbrev main_call13_v3 : Ref sig .tc := ⟨.hbm, 735, rfl⟩
abbrev main_call13_v4 : Ref sig .tc := ⟨.hbm, 736, rfl⟩
abbrev main_call13_c_1 : Ref sig .tc := ⟨.hbm, 737, rfl⟩
abbrev main_call13_c_2 : Ref sig .tc := ⟨.hbm, 738, rfl⟩
abbrev main_call13_v5 : Ref sig .tc := ⟨.hbm, 739, rfl⟩
abbrev main_call13_v6 : Ref sig .tc := ⟨.hbm, 740, rfl⟩
abbrev main_call13_v7 : Ref sig .tc := ⟨.hbm, 741, rfl⟩
abbrev main_call13_v8 : Ref sig .tc := ⟨.hbm, 742, rfl⟩
abbrev main_call13_v9 : Ref sig .tc := ⟨.hbm, 743, rfl⟩
abbrev main_call13_v10 : Ref sig .tc := ⟨.hbm, 744, rfl⟩
abbrev main_call13_c_3 : Ref sig .tc := ⟨.hbm, 745, rfl⟩
abbrev main_call13_v11 : Ref sig .tc := ⟨.hbm, 746, rfl⟩
abbrev main_call13_v12 : Ref sig .tc := ⟨.hbm, 747, rfl⟩
abbrev main_call13_v13 : Ref sig .tc := ⟨.hbm, 748, rfl⟩
abbrev main_call13_cst : Ref sig .tc := ⟨.hbm, 749, rfl⟩
abbrev main_call13_v14 : Ref sig .tc := ⟨.hbm, 750, rfl⟩
abbrev main_v544 : Ref sig .tc := ⟨.hbm, 751, rfl⟩
abbrev main_v545 : Ref sig .tc := ⟨.hbm, 752, rfl⟩
abbrev main_v546 : Ref sig .tc := ⟨.hbm, 753, rfl⟩
abbrev main_cst_155 : Ref sig .tc := ⟨.hbm, 754, rfl⟩
abbrev main_v547 : Ref sig .tc := ⟨.hbm, 755, rfl⟩
abbrev main_v548 : Ref sig .tc := ⟨.hbm, 756, rfl⟩
abbrev main_v549 : Ref sig .tc := ⟨.hbm, 757, rfl⟩
abbrev main_v550 : Ref sig .tc := ⟨.hbm, 758, rfl⟩
abbrev main_v551 : Ref sig .tc := ⟨.hbm, 759, rfl⟩
abbrev main_v552 : Ref sig .tc := ⟨.hbm, 760, rfl⟩
abbrev main_v553 : Ref sig .tc := ⟨.hbm, 761, rfl⟩
abbrev main_call14_v0 : Ref sig .tc := ⟨.hbm, 762, rfl⟩
abbrev main_call14_v1 : Ref sig .tc := ⟨.hbm, 763, rfl⟩
abbrev main_call14_v2 : Ref sig .tc := ⟨.hbm, 764, rfl⟩
abbrev main_call14_v3 : Ref sig .tc := ⟨.hbm, 765, rfl⟩
abbrev main_call14_v4 : Ref sig .tc := ⟨.hbm, 766, rfl⟩
abbrev main_v554 : Ref sig .tc := ⟨.hbm, 767, rfl⟩
abbrev main_v555 : Ref sig .tc := ⟨.hbm, 768, rfl⟩
abbrev main_v556 : Ref sig .tc := ⟨.hbm, 769, rfl⟩
abbrev main_v557 : Ref sig .tc := ⟨.hbm, 770, rfl⟩
abbrev main_v558 : Ref sig .tc := ⟨.hbm, 771, rfl⟩
abbrev main_v559 : Ref sig .tc := ⟨.hbm, 772, rfl⟩
abbrev main_v560 : Ref sig .tc := ⟨.hbm, 773, rfl⟩
abbrev main_v561 : Ref sig .tc := ⟨.hbm, 774, rfl⟩
abbrev main_call15_cst : Ref sig .tc := ⟨.hbm, 775, rfl⟩
abbrev main_call15_v0 : Ref sig .tc := ⟨.hbm, 776, rfl⟩
abbrev main_v562 : Ref sig .tc := ⟨.hbm, 777, rfl⟩
abbrev main_v563 : Ref sig .tc := ⟨.hbm, 778, rfl⟩
abbrev main_v564 : Ref sig .tc := ⟨.hbm, 779, rfl⟩
abbrev main_v565 : Ref sig .tc := ⟨.hbm, 780, rfl⟩
abbrev main_v566 : Ref sig .tc := ⟨.hbm, 781, rfl⟩
abbrev main_v567 : Ref sig .tc := ⟨.hbm, 782, rfl⟩
abbrev main_cst_156 : Ref sig .tc := ⟨.hbm, 783, rfl⟩
abbrev main_v568 : Ref sig .tc := ⟨.hbm, 784, rfl⟩
abbrev main_v569 : Ref sig .tc := ⟨.hbm, 785, rfl⟩
abbrev main_v570 : Ref sig .tc := ⟨.hbm, 786, rfl⟩
abbrev main_v571 : Ref sig .tc := ⟨.hbm, 787, rfl⟩
abbrev main_v572 : Ref sig .tc := ⟨.hbm, 788, rfl⟩
abbrev main_v573 : Ref sig .tc := ⟨.hbm, 789, rfl⟩
abbrev main_v574 : Ref sig .tc := ⟨.hbm, 790, rfl⟩
abbrev main_cst_157 : Ref sig .tc := ⟨.hbm, 791, rfl⟩
abbrev main_v575 : Ref sig .tc := ⟨.hbm, 792, rfl⟩
abbrev main_v576 : Ref sig .tc := ⟨.hbm, 793, rfl⟩
abbrev main_v577 : Ref sig .tc := ⟨.hbm, 794, rfl⟩
abbrev main_v578 : Ref sig .tc := ⟨.hbm, 795, rfl⟩
abbrev main_v579 : Ref sig .tc := ⟨.hbm, 796, rfl⟩
abbrev main_c_158 : Ref sig .tc := ⟨.hbm, 797, rfl⟩
abbrev main_call16_v0 : Ref sig .tc := ⟨.hbm, 798, rfl⟩
abbrev main_call16_v1 : Ref sig .tc := ⟨.hbm, 799, rfl⟩
abbrev main_call16_v2 : Ref sig .tc := ⟨.hbm, 800, rfl⟩
abbrev main_v580 : Ref sig .tc := ⟨.hbm, 801, rfl⟩
abbrev main_c_159 : Ref sig .tc := ⟨.hbm, 802, rfl⟩
abbrev main_v581 : Ref sig .tc := ⟨.hbm, 803, rfl⟩
abbrev main_v582 : Ref sig .tc := ⟨.hbm, 804, rfl⟩
abbrev main_call17_c : Ref sig .tc := ⟨.hbm, 805, rfl⟩
abbrev main_call17_v0 : Ref sig .tc := ⟨.hbm, 806, rfl⟩
abbrev main_call17_v1 : Ref sig .tc := ⟨.hbm, 807, rfl⟩
abbrev main_call17_c_0 : Ref sig .tc := ⟨.hbm, 808, rfl⟩
abbrev main_call17_v2 : Ref sig .tc := ⟨.hbm, 809, rfl⟩
abbrev main_call17_v3 : Ref sig .tc := ⟨.hbm, 810, rfl⟩
abbrev main_call17_v4 : Ref sig .tc := ⟨.hbm, 811, rfl⟩
abbrev main_call17_c_1 : Ref sig .tc := ⟨.hbm, 812, rfl⟩
abbrev main_call17_c_2 : Ref sig .tc := ⟨.hbm, 813, rfl⟩
abbrev main_call17_v5 : Ref sig .tc := ⟨.hbm, 814, rfl⟩
abbrev main_call17_v6 : Ref sig .tc := ⟨.hbm, 815, rfl⟩
abbrev main_call17_v7 : Ref sig .tc := ⟨.hbm, 816, rfl⟩
abbrev main_call17_v8 : Ref sig .tc := ⟨.hbm, 817, rfl⟩
abbrev main_call17_v9 : Ref sig .tc := ⟨.hbm, 818, rfl⟩
abbrev main_call17_v10 : Ref sig .tc := ⟨.hbm, 819, rfl⟩
abbrev main_call17_c_3 : Ref sig .tc := ⟨.hbm, 820, rfl⟩
abbrev main_call17_v11 : Ref sig .tc := ⟨.hbm, 821, rfl⟩
abbrev main_call17_v12 : Ref sig .tc := ⟨.hbm, 822, rfl⟩
abbrev main_call17_v13 : Ref sig .tc := ⟨.hbm, 823, rfl⟩
abbrev main_call17_cst : Ref sig .tc := ⟨.hbm, 824, rfl⟩
abbrev main_call17_v14 : Ref sig .tc := ⟨.hbm, 825, rfl⟩
abbrev main_v583 : Ref sig .tc := ⟨.hbm, 826, rfl⟩
abbrev main_v584 : Ref sig .tc := ⟨.hbm, 827, rfl⟩
abbrev main_v585 : Ref sig .tc := ⟨.hbm, 828, rfl⟩
abbrev main_cst_160 : Ref sig .tc := ⟨.hbm, 829, rfl⟩
abbrev main_v586 : Ref sig .tc := ⟨.hbm, 830, rfl⟩
abbrev main_v587 : Ref sig .tc := ⟨.hbm, 831, rfl⟩
abbrev main_v588 : Ref sig .tc := ⟨.hbm, 832, rfl⟩
abbrev main_v589 : Ref sig .tc := ⟨.hbm, 833, rfl⟩
abbrev main_v590 : Ref sig .tc := ⟨.hbm, 834, rfl⟩
abbrev main_v591 : Ref sig .tc := ⟨.hbm, 835, rfl⟩
abbrev main_v592 : Ref sig .tc := ⟨.hbm, 836, rfl⟩
abbrev main_call18_v0 : Ref sig .tc := ⟨.hbm, 837, rfl⟩
abbrev main_call18_v1 : Ref sig .tc := ⟨.hbm, 838, rfl⟩
abbrev main_call18_v2 : Ref sig .tc := ⟨.hbm, 839, rfl⟩
abbrev main_call18_v3 : Ref sig .tc := ⟨.hbm, 840, rfl⟩
abbrev main_call18_v4 : Ref sig .tc := ⟨.hbm, 841, rfl⟩
abbrev main_v593 : Ref sig .tc := ⟨.hbm, 842, rfl⟩
abbrev main_v594 : Ref sig .tc := ⟨.hbm, 843, rfl⟩
abbrev main_v595 : Ref sig .tc := ⟨.hbm, 844, rfl⟩
abbrev main_v596 : Ref sig .tc := ⟨.hbm, 845, rfl⟩
abbrev main_v597 : Ref sig .tc := ⟨.hbm, 846, rfl⟩
abbrev main_v598 : Ref sig .tc := ⟨.hbm, 847, rfl⟩
abbrev main_v599 : Ref sig .tc := ⟨.hbm, 848, rfl⟩
abbrev main_v600 : Ref sig .tc := ⟨.hbm, 849, rfl⟩
abbrev main_call19_cst : Ref sig .tc := ⟨.hbm, 850, rfl⟩
abbrev main_call19_v0 : Ref sig .tc := ⟨.hbm, 851, rfl⟩
abbrev main_v601 : Ref sig .tc := ⟨.hbm, 852, rfl⟩
abbrev main_v602 : Ref sig .tc := ⟨.hbm, 853, rfl⟩
abbrev main_v603 : Ref sig .tc := ⟨.hbm, 854, rfl⟩
abbrev main_v604 : Ref sig .tc := ⟨.hbm, 855, rfl⟩
abbrev main_v605 : Ref sig .tc := ⟨.hbm, 856, rfl⟩
abbrev main_v606 : Ref sig .tc := ⟨.hbm, 857, rfl⟩
abbrev main_cst_161 : Ref sig .tc := ⟨.hbm, 858, rfl⟩
abbrev main_v607 : Ref sig .tc := ⟨.hbm, 859, rfl⟩
abbrev main_v608 : Ref sig .tc := ⟨.hbm, 860, rfl⟩
abbrev main_v609 : Ref sig .tc := ⟨.hbm, 861, rfl⟩
abbrev main_v610 : Ref sig .tc := ⟨.hbm, 862, rfl⟩
abbrev main_v611 : Ref sig .tc := ⟨.hbm, 863, rfl⟩
abbrev main_v612 : Ref sig .tc := ⟨.hbm, 864, rfl⟩
abbrev main_v613 : Ref sig .tc := ⟨.hbm, 865, rfl⟩
abbrev main_cst_162 : Ref sig .tc := ⟨.hbm, 866, rfl⟩
abbrev main_v614 : Ref sig .tc := ⟨.hbm, 867, rfl⟩
abbrev main_v615 : Ref sig .tc := ⟨.hbm, 868, rfl⟩
abbrev main_v616 : Ref sig .tc := ⟨.hbm, 869, rfl⟩
abbrev main_v617 : Ref sig .tc := ⟨.hbm, 870, rfl⟩
abbrev main_v618 : Ref sig .tc := ⟨.hbm, 871, rfl⟩
abbrev main_c_163 : Ref sig .tc := ⟨.hbm, 872, rfl⟩
abbrev main_call20_v0 : Ref sig .tc := ⟨.hbm, 873, rfl⟩
abbrev main_call20_v1 : Ref sig .tc := ⟨.hbm, 874, rfl⟩
abbrev main_call20_v2 : Ref sig .tc := ⟨.hbm, 875, rfl⟩
abbrev main_v619 : Ref sig .tc := ⟨.hbm, 876, rfl⟩
abbrev main_c_164 : Ref sig .tc := ⟨.hbm, 877, rfl⟩
abbrev main_v620 : Ref sig .tc := ⟨.hbm, 878, rfl⟩
abbrev main_v621 : Ref sig .tc := ⟨.hbm, 879, rfl⟩
abbrev main_call21_c : Ref sig .tc := ⟨.hbm, 880, rfl⟩
abbrev main_call21_v0 : Ref sig .tc := ⟨.hbm, 881, rfl⟩
abbrev main_call21_v1 : Ref sig .tc := ⟨.hbm, 882, rfl⟩
abbrev main_call21_c_0 : Ref sig .tc := ⟨.hbm, 883, rfl⟩
abbrev main_call21_v2 : Ref sig .tc := ⟨.hbm, 884, rfl⟩
abbrev main_call21_v3 : Ref sig .tc := ⟨.hbm, 885, rfl⟩
abbrev main_call21_v4 : Ref sig .tc := ⟨.hbm, 886, rfl⟩
abbrev main_call21_c_1 : Ref sig .tc := ⟨.hbm, 887, rfl⟩
abbrev main_call21_c_2 : Ref sig .tc := ⟨.hbm, 888, rfl⟩
abbrev main_call21_v5 : Ref sig .tc := ⟨.hbm, 889, rfl⟩
abbrev main_call21_v6 : Ref sig .tc := ⟨.hbm, 890, rfl⟩
abbrev main_call21_v7 : Ref sig .tc := ⟨.hbm, 891, rfl⟩
abbrev main_call21_v8 : Ref sig .tc := ⟨.hbm, 892, rfl⟩
abbrev main_call21_v9 : Ref sig .tc := ⟨.hbm, 893, rfl⟩
abbrev main_call21_v10 : Ref sig .tc := ⟨.hbm, 894, rfl⟩
abbrev main_call21_c_3 : Ref sig .tc := ⟨.hbm, 895, rfl⟩
abbrev main_call21_v11 : Ref sig .tc := ⟨.hbm, 896, rfl⟩
abbrev main_call21_v12 : Ref sig .tc := ⟨.hbm, 897, rfl⟩
abbrev main_call21_v13 : Ref sig .tc := ⟨.hbm, 898, rfl⟩
abbrev main_call21_cst : Ref sig .tc := ⟨.hbm, 899, rfl⟩
abbrev main_call21_v14 : Ref sig .tc := ⟨.hbm, 900, rfl⟩
abbrev main_v622 : Ref sig .tc := ⟨.hbm, 901, rfl⟩
abbrev main_v623 : Ref sig .tc := ⟨.hbm, 902, rfl⟩
abbrev main_v624 : Ref sig .tc := ⟨.hbm, 903, rfl⟩
abbrev main_cst_165 : Ref sig .tc := ⟨.hbm, 904, rfl⟩
abbrev main_v625 : Ref sig .tc := ⟨.hbm, 905, rfl⟩
abbrev main_v626 : Ref sig .tc := ⟨.hbm, 906, rfl⟩
abbrev main_v627 : Ref sig .tc := ⟨.hbm, 907, rfl⟩
abbrev main_v628 : Ref sig .tc := ⟨.hbm, 908, rfl⟩
abbrev main_v629 : Ref sig .tc := ⟨.hbm, 909, rfl⟩
abbrev main_v630 : Ref sig .tc := ⟨.hbm, 910, rfl⟩
abbrev main_v631 : Ref sig .tc := ⟨.hbm, 911, rfl⟩
abbrev main_call22_v0 : Ref sig .tc := ⟨.hbm, 912, rfl⟩
abbrev main_call22_v1 : Ref sig .tc := ⟨.hbm, 913, rfl⟩
abbrev main_call22_v2 : Ref sig .tc := ⟨.hbm, 914, rfl⟩
abbrev main_call22_v3 : Ref sig .tc := ⟨.hbm, 915, rfl⟩
abbrev main_call22_v4 : Ref sig .tc := ⟨.hbm, 916, rfl⟩
abbrev main_v632 : Ref sig .tc := ⟨.hbm, 917, rfl⟩
abbrev main_v633 : Ref sig .tc := ⟨.hbm, 918, rfl⟩
abbrev main_v634 : Ref sig .tc := ⟨.hbm, 919, rfl⟩
abbrev main_v635 : Ref sig .tc := ⟨.hbm, 920, rfl⟩
abbrev main_v636 : Ref sig .tc := ⟨.hbm, 921, rfl⟩
abbrev main_v637 : Ref sig .tc := ⟨.hbm, 922, rfl⟩
abbrev main_v638 : Ref sig .tc := ⟨.hbm, 923, rfl⟩
abbrev main_v639 : Ref sig .tc := ⟨.hbm, 924, rfl⟩
abbrev main_call23_cst : Ref sig .tc := ⟨.hbm, 925, rfl⟩
abbrev main_call23_v0 : Ref sig .tc := ⟨.hbm, 926, rfl⟩
abbrev main_v640 : Ref sig .tc := ⟨.hbm, 927, rfl⟩
abbrev main_v641 : Ref sig .tc := ⟨.hbm, 928, rfl⟩
abbrev main_v642 : Ref sig .tc := ⟨.hbm, 929, rfl⟩
abbrev main_v643 : Ref sig .tc := ⟨.hbm, 930, rfl⟩
abbrev main_v644 : Ref sig .tc := ⟨.hbm, 931, rfl⟩
abbrev main_v645 : Ref sig .tc := ⟨.hbm, 932, rfl⟩
abbrev main_cst_166 : Ref sig .tc := ⟨.hbm, 933, rfl⟩
abbrev main_v646 : Ref sig .tc := ⟨.hbm, 934, rfl⟩
abbrev main_v647 : Ref sig .tc := ⟨.hbm, 935, rfl⟩
abbrev main_cst_167 : Ref sig .tc := ⟨.hbm, 936, rfl⟩
abbrev main_v648 : Ref sig .tc := ⟨.hbm, 937, rfl⟩
abbrev main_cst_168 : Ref sig .tc := ⟨.hbm, 938, rfl⟩
abbrev main_v649 : Ref sig .tc := ⟨.hbm, 939, rfl⟩
abbrev main_v650 : Ref sig .tc := ⟨.hbm, 940, rfl⟩
abbrev main_v651 : Ref sig .tc := ⟨.hbm, 941, rfl⟩
abbrev main_v652 : Ref sig .tc := ⟨.hbm, 942, rfl⟩
abbrev main_v653 : Ref sig .tc := ⟨.hbm, 943, rfl⟩
abbrev main_v654 : Ref sig .tc := ⟨.hbm, 944, rfl⟩
abbrev main_cst_169 : Ref sig .tc := ⟨.hbm, 945, rfl⟩
abbrev main_v655 : Ref sig .tc := ⟨.hbm, 946, rfl⟩
abbrev main_v656 : Ref sig .tc := ⟨.hbm, 947, rfl⟩
abbrev main_v657 : Ref sig .tc := ⟨.hbm, 948, rfl⟩
abbrev main_v658 : Ref sig .tc := ⟨.hbm, 949, rfl⟩
abbrev main_cst_170 : Ref sig .tc := ⟨.hbm, 950, rfl⟩
abbrev main_v659 : Ref sig .tc := ⟨.hbm, 951, rfl⟩
abbrev main_v660 : Ref sig .tc := ⟨.hbm, 952, rfl⟩
abbrev main_v661 : Ref sig .tc := ⟨.hbm, 953, rfl⟩
abbrev main_v662 : Ref sig .tc := ⟨.hbm, 954, rfl⟩
abbrev main_v663 : Ref sig .tc := ⟨.hbm, 955, rfl⟩
abbrev main_c_171 : Ref sig .tc := ⟨.hbm, 956, rfl⟩
abbrev main_call24_v0 : Ref sig .tc := ⟨.hbm, 957, rfl⟩
abbrev main_call24_v1 : Ref sig .tc := ⟨.hbm, 958, rfl⟩
abbrev main_call24_v2 : Ref sig .tc := ⟨.hbm, 959, rfl⟩
abbrev main_v664 : Ref sig .tc := ⟨.hbm, 960, rfl⟩
abbrev main_c_172 : Ref sig .tc := ⟨.hbm, 961, rfl⟩
abbrev main_v665 : Ref sig .tc := ⟨.hbm, 962, rfl⟩
abbrev main_v666 : Ref sig .tc := ⟨.hbm, 963, rfl⟩
abbrev main_call25_c : Ref sig .tc := ⟨.hbm, 964, rfl⟩
abbrev main_call25_v0 : Ref sig .tc := ⟨.hbm, 965, rfl⟩
abbrev main_call25_v1 : Ref sig .tc := ⟨.hbm, 966, rfl⟩
abbrev main_call25_c_0 : Ref sig .tc := ⟨.hbm, 967, rfl⟩
abbrev main_call25_v2 : Ref sig .tc := ⟨.hbm, 968, rfl⟩
abbrev main_call25_v3 : Ref sig .tc := ⟨.hbm, 969, rfl⟩
abbrev main_call25_v4 : Ref sig .tc := ⟨.hbm, 970, rfl⟩
abbrev main_call25_c_1 : Ref sig .tc := ⟨.hbm, 971, rfl⟩
abbrev main_call25_c_2 : Ref sig .tc := ⟨.hbm, 972, rfl⟩
abbrev main_call25_v5 : Ref sig .tc := ⟨.hbm, 973, rfl⟩
abbrev main_call25_v6 : Ref sig .tc := ⟨.hbm, 974, rfl⟩
abbrev main_call25_v7 : Ref sig .tc := ⟨.hbm, 975, rfl⟩
abbrev main_call25_v8 : Ref sig .tc := ⟨.hbm, 976, rfl⟩
abbrev main_call25_v9 : Ref sig .tc := ⟨.hbm, 977, rfl⟩
abbrev main_call25_v10 : Ref sig .tc := ⟨.hbm, 978, rfl⟩
abbrev main_call25_c_3 : Ref sig .tc := ⟨.hbm, 979, rfl⟩
abbrev main_call25_v11 : Ref sig .tc := ⟨.hbm, 980, rfl⟩
abbrev main_call25_v12 : Ref sig .tc := ⟨.hbm, 981, rfl⟩
abbrev main_call25_v13 : Ref sig .tc := ⟨.hbm, 982, rfl⟩
abbrev main_call25_cst : Ref sig .tc := ⟨.hbm, 983, rfl⟩
abbrev main_call25_v14 : Ref sig .tc := ⟨.hbm, 984, rfl⟩
abbrev main_v667 : Ref sig .tc := ⟨.hbm, 985, rfl⟩
abbrev main_v668 : Ref sig .tc := ⟨.hbm, 986, rfl⟩

abbrev nD : Nat := 1
abbrev τ : Topo := Topo.v7x

variable {F : FTy → Type} [FloatOps F]
-- ==== Proof.Common.lean ====
/- Small facts used by every call: the all-zero offsets, and what a call leaves in the buffers around it. -/
module

public import Idealize.ShloMosaic.Lib.Pipeline.Value
public import Idealize.ShloMosaic.Lib.Pipeline.RegionArraysS

@[expose] public section

namespace Cert.Common

open Idealize.ShloMosaic Idealize.ShloMosaic.Pipeline
open Idealize.SL Idealize.SL.RA

theorem z1 : (![0] : Fin 1 → Nat) = fun _ => 0 := by funext a; fin_cases a <;> rfl
theorem z2 : (![0, 0] : Fin 2 → Nat) = fun _ => 0 := by funext a; fin_cases a <;> rfl
theorem z3 : (![0, 0, 0] : Fin 3 → Nat) = fun _ => 0 := by funext a; fin_cases a <;> rfl

variable {nD : Nat} {τ : Topo} {sig : RefSig} {Ix : Type} [DecidableEq Ix] {Val : EltTy → Type} {Name : Type} [DecidableEq Name] {U : Type} [URA U] {Lvl : Type}
  {Λ₀ : Idealize.SL.Sem.Labels} {cfg : Cfg sig Λ₀} {c : Dev nD}

/-- A call that writes one of its arrays leaves every buffer as it was but that one. -/
theorem afterRegion_one (dat : Dat τ Val Ix Name U Lvl cfg c) (V : Valuation τ sig Val) (hinj : Function.Injective (arrRef cfg.spec))
    (hA : ∀ w, dat.A w = V (Proc.devRef .tc (arrRef cfg.spec w))) (o : Fin cfg.W) (ho : ∀ w, w ≠ o → (cfg.win w).isOut = false) :
    afterRegion dat V = Function.update V (Proc.devRef .tc (arrRef cfg.spec o)) (dat.arrAt o cfg.N) := by
  funext b
  by_cases hb : b = Proc.devRef .tc (arrRef cfg.spec o)
  · subst hb
    rw [Function.update_self]
    exact afterRegion_arr dat V hinj o
  · rw [Function.update_of_ne hb]
    by_cases hw : ∃ w, b = Proc.devRef .tc (arrRef cfg.spec w)
    · obtain ⟨w, rfl⟩ := hw
      refine (afterRegion_arr dat V hinj w).trans ((dat.arrAt_in w (ho w fun e => hb (by rw [e])) _).trans (hA w))
    · unfold afterRegion
      rw [dif_neg]
      rintro ⟨w, e⟩
      exact hw ⟨w, e⟩

end Cert.Common

end
-- ==== Proof.KernelIdeal.Init.lean ====
/- The first call, which draws the starting points, as the launch needs it: what each point leaves and the body at every point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import proofs.«01_k».proof.Proof.Common

@[expose] public section

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Common

set_option maxHeartbeats 1600000 in
/-- The body at a point: what it leaves in the output's buffer, found by running it. -/
noncomputable def run0 (c : Dev nD) (i : grid0.Coords) (arg1 : Memref sig .tc .smem S1 .i32) (harg1 : arg1.IsWhole) (arg2 : Memref sig .tc .vmem S2x32 .f32) (harg2 : arg2.IsWhole) (arg3 : Memref sig .tc .vmem S1x2048x32 .f32) (harg3 : arg3.IsWhole)
    (x0 : Vec F S1 .i32) (x1 : Vec F S2x32 .f32) :
    { v : Vec F S1x2048x32 .f32 //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ owns (c : Thread nD τ) arg3 fullShare v) -∗ K ⟨⟩))
          ⊢ wp frame (wpE (defs₀ (F := F)) Variants.none c none) E (cc0__init_kernel i arg1 harg1 arg2 harg2 arg3 harg3) K } := by
  refine ⟨?_, fun E K => ?run⟩
  case run =>
    simp only [cc0__init_kernel_eq_skeleton]; unfold cc0__init_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; isplitr
    swap; · iexact H2
    ipureintro; exact View.read_writes_full _ _ _ _ _

/-- The word of the offset array that the body loads. -/
abbrev offw0 (x0 : Vec F S1 .i32) : Elt F .i32 := View.ld x0 (Rect.unit (s := S1) ![0] S1.size inb_S1_S1_0) (Shape.Idx.first (s := ⟨1, S1.size⟩) (by decide))

/-- The hash of the position, in the pieces the body cuts it into. -/
def iA (i : grid0.Coords) (v0 : Elt F .i32) : IVec S2048x32 32 := k0_pay22 (k0_pay10 (F := F) i v0) (k0_pay11 (F := F) i v0) 3050711811#32 1#32
def iB (i : grid0.Coords) (v0 : Elt F .i32) : IVec S2048x32 32 := k0_pay23 (k0_pay10 (F := F) i v0) (k0_pay11 (F := F) i v0) 3050711811#32 1#32
def iC (i : grid0.Coords) (v0 : Elt F .i32) : IVec S2048x32 32 := k0_pay24 (k0_pay10 (F := F) i v0) (k0_pay11 (F := F) i v0) 3050711811#32 1#32
def iD (i : grid0.Coords) (v0 : Elt F .i32) : IVec S2048x32 32 := k0_pay35 (iA (F := F) i v0) (iB (F := F) i v0) (iC (F := F) i v0)
def iE (i : grid0.Coords) (v0 : Elt F .i32) : IVec S2048x32 32 := k0_pay36 (iA (F := F) i v0) (iB (F := F) i v0) (iC (F := F) i v0)

/-- What the body stores: uniform points between the bounds. -/
def val0 (i : grid0.Coords) (x0 : Vec F S1 .i32) (x1 : Vec F S2x32 .f32) : Vec F S1x2048x32 .f32 :=
  k0_pay1 (F := F) (k0_pay37 (iD (F := F) i (offw0 x0)) (iE (F := F) i (offw0 x0)) 24#32)
    (View.ld x1 (Rect.unit (s := S2x32) ![0, 0] S1x32.size inb_S2x32_S1x32_0_0))
    (View.ld x1 (Rect.unit (s := S2x32) ![1, 0] S1x32.size inb_S2x32_S1x32_1_0))

theorem run0_v (c : Dev nD) (i : grid0.Coords) (arg1 : Memref sig .tc .smem S1 .i32) (harg1 : arg1.IsWhole) (arg2 : Memref sig .tc .vmem S2x32 .f32) (harg2 : arg2.IsWhole) (arg3 : Memref sig .tc .vmem S1x2048x32 .f32) (harg3 : arg3.IsWhole)
    (x0 : Vec F S1 .i32) (x1 : Vec F S2x32 .f32) :
    (run0 c i arg1 harg1 arg2 harg2 arg3 harg3 x0 x1).1 = val0 i x0 x1 := by
  unfold run0
  dsimp only
  sl_unfold_words
  simp only [View.readAt_eq_ld, Memref.IsWhole.read_unread, View.ld_unit_zero (S := S1) z1, View.ld_unit_zero (S := S1x2048x32) z3]
  all_goals (unfold val0 iD iE iA iB iC; rfl)

/-- The body at a point, with what it leaves spelled out. -/
theorem give0 (c : Dev nD) (i : grid0.Coords) (arg1 : Memref sig .tc .smem S1 .i32) (harg1 : arg1.IsWhole) (arg2 : Memref sig .tc .vmem S2x32 .f32) (harg2 : arg2.IsWhole) (arg3 : Memref sig .tc .vmem S1x2048x32 .f32) (harg3 : arg3.IsWhole)
    (x0 : Vec F S1 .i32) (x1 : Vec F S2x32 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (val0 i x0 x1)) -∗ K ⟨⟩))
      ⊢ wp frame (wpE (defs₀ (F := F)) Variants.none c none) E (cc0__init_kernel i arg1 harg1 arg2 harg2 arg3 harg3) K := by
  have e0 := run0_v c i arg1 harg1 arg2 harg2 arg3 harg3 x0 x1
  obtain ⟨X, hX⟩ : ∃ X, X = run0 c i arg1 harg1 arg2 harg2 arg3 harg3 x0 x1 := ⟨_, rfl⟩
  rw [← hX] at e0
  clear hX
  obtain ⟨v, hp⟩ := X
  dsimp only at e0
  subst e0
  exact hp E K

variable (W : Dev nD → Valuation τ sig (Elt F))

/-- The block of window `w` that point `t` works on, cut out of the array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The block of the result at point `t`. -/
def valAt0 (c : Dev nD) (t : Fin cfg0.N) : Vec F S1x2048x32 .f32 :=
  val0 (grid0.coords t) (blk0 W c 0 t) (blk0 W c 1 t)

/-- What the call's loop is proved with: the arrays as found, each input's buffer at its block, the result's at the block computed. -/
def dat0 (c : Dev nD) : Dat τ (Elt F) Unit ℕ (UR sig nD τ) ℕ cfg0 c where
  A w := W c (Proc.devRef .tc (Pipeline.arrRef spec0 w))
  after w t := match w with
    | ⟨0, _⟩ => blk0 W c 0 t
    | ⟨1, _⟩ => blk0 W c 1 t
    | ⟨2, _⟩ => valAt0 W c t
  Φ _ := Pipeline.ΦA spec0 c
  q _ := fullShare
  owed _ := 0

theorem after0_0 (c : Dev nD) (t : Fin cfg0.N) : (dat0 W c).after 0 t = blk0 W c 0 t := by dsimp only [dat0]
theorem before0_0 (c : Dev nD) (t : Fin cfg0.N) (d) : (dat0 W c).before 0 t d = blk0 W c 0 t :=
  ((dat0 W c).before_in_eq_fetched 0 rfl (fun _ => rfl) (fun _ _ _ => rfl) (fun t => by rw [after0_0]; unfold Dat.blockOf blk0; dsimp only [dat0]; try rfl) t d).trans
    (by unfold Dat.fetched Dat.blockOf blk0; dsimp only [dat0]; try rfl)
theorem after0_1 (c : Dev nD) (t : Fin cfg0.N) : (dat0 W c).after 1 t = blk0 W c 1 t := by dsimp only [dat0]
theorem before0_1 (c : Dev nD) (t : Fin cfg0.N) (d) : (dat0 W c).before 1 t d = blk0 W c 1 t :=
  ((dat0 W c).before_in_eq_fetched 1 rfl (fun _ => rfl) (fun _ _ _ => rfl) (fun t => by rw [after0_1]; unfold Dat.blockOf blk0; dsimp only [dat0]; try rfl) t d).trans
    (by unfold Dat.fetched Dat.blockOf blk0; dsimp only [dat0]; try rfl)
theorem after0_2 (c : Dev nD) (t : Fin cfg0.N) : (dat0 W c).after 2 t = valAt0 W c t := by dsimp only [dat0]

/-- What the body is called with at point `t`. -/
def bodyPre0 (c : Dev nD) (t : Fin cfg0.N) : sProp 𝕄 :=
  iprop((dat0 W c).Φ t.castSucc ∗ (dat0 W c).owesAt () t.castSucc
    ∗ (∃ d, owns (c : Thread nD τ) (win0_0.stage (cfg0.slots t 0) : Memref sig .tc .smem S1 .i32) fullShare ((dat0 W c).before 0 t d))
    ∗ (∃ d, owns (c : Thread nD τ) (win0_1.stage (cfg0.slots t 1) : Memref sig .tc .vmem S2x32 .f32) fullShare ((dat0 W c).before 1 t d))
    ∗ (∃ d, owns (c : Thread nD τ) (win0_2.stage (cfg0.slots t 2) : Memref sig .tc .vmem S1x2048x32 .f32) fullShare ((dat0 W c).before 2 t d)))

/-- What it returns. -/
def bodyPost0 (c : Dev nD) (t : Fin cfg0.N) : sProp 𝕄 :=
  iprop((dat0 W c).Φ t.succ ∗ (dat0 W c).owesAt () t.succ
    ∗ owns (c : Thread nD τ) (win0_0.stage (cfg0.slots t 0) : Memref sig .tc .smem S1 .i32) fullShare ((dat0 W c).after 0 t)
    ∗ owns (c : Thread nD τ) (win0_1.stage (cfg0.slots t 1) : Memref sig .tc .vmem S2x32 .f32) fullShare ((dat0 W c).after 1 t)
    ∗ owns (c : Thread nD τ) (win0_2.stage (cfg0.slots t 2) : Memref sig .tc .vmem S1x2048x32 .f32) fullShare ((dat0 W c).after 2 t))

set_option maxHeartbeats 1600000 in
/-- The body at any point does what the loop's proof asks of it. -/
theorem sound0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1]
  rw [show (dat0 W c).owesAt () t.succ = (dat0 W c).owesAt () t.castSucc from rfl,
    after0_0, after0_1, after0_2]
  rw [show (dat0 W c).Φ t.castSucc = Pipeline.ΦA spec0 c from rfl, show (dat0 W c).Φ t.succ = Pipeline.ΦA spec0 c from rfl]
  unfold valAt0
  iintro ⟨HP, Ho, ⟨%d0, H0⟩, ⟨%d1, H1⟩, ⟨%d2, H2⟩⟩
  iapply (give0 c (grid0.coords t) _ _ _ _ _ _ (blk0 W c 0 t) (blk0 W c 1 t) Set.univ _)
  isplitl [H0]; · iexact H0
  isplitl [H1]; · iexact H1
  isplitl [H2]; · iexists _; iexact H2
  iintro ⟨H0, H1, H2⟩
  isplitl [HP]; · iexact HP
  isplitl [Ho]; · iexact Ho
  isplitl [H0]; · iexact H0
  isplitl [H1]; · iexact H1
  iexact H2

/-- The body's row of the table of bodies. -/
theorem defs0_row (t : Fin cfg0.N) : defs₀ (F := F) .tc cfg0.body (cfg0.bodyArgs t (cfg0.slots t)) = bodyAt0 t := by
  unfold defs₀; rw [Defs.onTc_tc]

theorem body0 (c : Dev nD) : BodyObligation (dat0 W c) (defs₀ (F := F)) Variants.none () Set.univ := fun t => by
  rw [bigSep_W0, bigSep_W0, defs0_row]
  exact triple_restated (sound0 W c t) rfl .rfl fun _ => .rfl

theorem in0 (c : Dev nD) : iprop(Pipeline.scopedRest spec0 c ∗ (∃ r, prngReg c r)) ⊢ (dat0 W c).Φ 0 := by
  rw [show (dat0 W c).Φ 0 = Pipeline.ΦA spec0 c from rfl]
  unfold Pipeline.ΦA
  exact .rfl

theorem out0 (c : Dev nD) : (dat0 W c).Φ (Fin.last cfg0.N) ⊢ iprop(Pipeline.scopedRest spec0 c ∗ (∃ r, prngReg c r)) := by
  rw [show (dat0 W c).Φ (Fin.last cfg0.N) = Pipeline.ΦA spec0 c from rfl]
  unfold Pipeline.ΦA
  exact .rfl

end Cert.KernelIdeal.Region

end
-- ==== Proof.KernelIdeal.Run1.lean ====
/- What the body of the resampling call 1 leaves in its buffers, at a point that fills the scratch and at one that does not. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point's second coordinate decides the `scf.if`: the scratch is filled at the first of a row's eight points. -/
abbrev cond1 (i : grid1.Coords) : Prop := (Scalar.cmpi .ne (Scalar.extui (Scalar.cmpi .eq (BitVec.ofNat 32 (i 1).val) 0#32)) 0#32) = 1#1
/-- The scratch is filled at the points divisible by 8. -/
theorem hcond1 : ∀ t : Fin cfg1.N, cond1 (grid1.coords t) ↔ t.val % 8 = 0 :=
  (fun t => by
    have ht : t.val < 128 := Nat.lt_of_lt_of_eq t.isLt N_1
    have e1 : (grid1.coords t 1).val = t.val / 1 % 8 := Pipeline.Grid.coords_val t 1 (by decide) rfl
    simp only [cond1, e1]
    word_cmp
   : ∀ t : Fin grid1.N, cond1 (grid1.coords t) ↔ t.val % 8 = 0)

set_option maxHeartbeats 1600000 in
/-- The body at a point where it fills its scratch: what it leaves in the output's buffer and in the four scratch buffers, found by running it. -/
noncomputable def run1A (c : Dev nD) (i : grid1.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : cond1 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) :
    Σ' (v9 : Vec F S1x256x32 .f32), Σ' (s0 : Vec F S1x2048 .f32), Σ' (s1 : Vec F S2048x32 .bf16), Σ' (s2 : Vec F S2048x32 .bf16), { s3 : Vec F S2048x32 .bf16 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare v9 ∗ owns (c : Thread nD τ) arg12 fullShare s0 ∗ owns (c : Thread nD τ) arg13 fullShare s1 ∗ owns (c : Thread nD τ) arg14 fullShare s2 ∗ owns (c : Thread nD τ) arg15 fullShare s3) -∗ K ⟨⟩))
          ⊢ wp frame (wpE (defs₀ (F := F)) Variants.none c none) E (cc1__resample_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc1__resample_kernel_eq_skeleton]; unfold cc1__resample_kernel_skel
    simp only [k1_part2_eq_skeleton, k1_part1_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr
      swap; · iexact H9
      ipureintro; exact View.read_writes_full _ _ _ _ _
    isplitl [HS0]
    · iexists _; isplitr
      swap; · iexact HS0
      ipureintro; exact View.read_writes_full _ _ _ _ _
    isplitl [HS1]
    · iexists _; isplitr
      swap; · iexact HS1
      ipureintro; exact View.read_writes_full _ _ _ _ _
    isplitl [HS2]
    · iexists _; isplitr
      swap; · iexact HS2
      ipureintro; exact View.read_writes_full _ _ _ _ _
    iexists _; isplitr
    swap; · iexact HS3
    ipureintro; exact View.read_writes_full _ _ _ _ _

set_option maxHeartbeats 1600000 in
/-- The body at a point where it does not fill its scratch: what it leaves in the output's buffer, found by running it. -/
noncomputable def run1B (c : Dev nD) (i : grid1.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : ¬cond1 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) (xs0 : Vec F S1x2048 .f32) (xs1 : Vec F S2048x32 .bf16) (xs2 : Vec F S2048x32 .bf16) (xs3 : Vec F S2048x32 .bf16) :
    Σ' (v9 : Vec F S1x256x32 .f32), { _u : Unit //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ owns (c : Thread nD τ) arg13 fullShare xs1 ∗ owns (c : Thread nD τ) arg14 fullShare xs2 ∗ owns (c : Thread nD τ) arg15 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare v9 ∗ owns (c : Thread nD τ) arg12 fullShare xs0 ∗ owns (c : Thread nD τ) arg13 fullShare xs1 ∗ owns (c : Thread nD τ) arg14 fullShare xs2 ∗ owns (c : Thread nD τ) arg15 fullShare xs3) -∗ K ⟨⟩))
          ⊢ wp frame (wpE (defs₀ (F := F)) Variants.none c none) E (cc1__resample_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, (), fun E K => ?run⟩
  case run =>
    simp only [cc1__resample_kernel_eq_skeleton]; unfold cc1__resample_kernel_skel
    simp only [k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg13.eq_unread hfs1; obtain rfl := harg14.eq_unread hfs2; obtain rfl := harg15.eq_unread hfs3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr
      swap; · iexact H9
      ipureintro; exact View.read_writes_full _ _ _ _ _
    isplitl [HS0]
    · iexists _; isplitr; · ipureintro; exact harg12.read_unread _
      iexact HS0
    isplitl [HS1]
    · iexists _; isplitr; · ipureintro; exact harg13.read_unread _
      iexact HS1
    isplitl [HS2]
    · iexists _; isplitr; · ipureintro; exact harg14.read_unread _
      iexact HS2
    iexists _; isplitr; · ipureintro; exact harg15.read_unread _
    iexact HS3

end Cert.KernelIdeal.Region

end
-- ==== Proof.KernelIdeal.Resample1.lean ====
/- The resampling call 1 as the launch needs it: what each point leaves, the invariant of its loop, the body at every point. -/
module

public import proofs.«01_k».proof.Proof.KernelIdeal.Run1
public import proofs.«01_k».proof.Proof.Common

@[expose] public section

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Common

/-- The word of the offset array that the body loads. -/
abbrev offw1 (x0 : Vec F S1 .i32) : Elt F .i32 := View.ld x0 (Rect.unit (s := S1) ![0] S1.size inb_S1_S1_0) (Shape.Idx.first (s := ⟨1, S1.size⟩) (by decide))

/-- The first and the second half of the hash of the position, as the body cuts it. -/
def hA1 (i : grid1.Coords) (v0 : Elt F .i32) : IVec S256x2048 32 := k1_pay26 (k1_pay16 (F := F) i v0) (k1_pay17 (F := F) i v0) 6#32
def hB1 (i : grid1.Coords) (v0 : Elt F .i32) : IVec S256x2048 32 := k1_pay27 (k1_pay16 (F := F) i v0) (k1_pay17 (F := F) i v0) 6#32
def hC1 (i : grid1.Coords) (v0 : Elt F .i32) : IVec S256x2048 32 := k1_pay37 (hA1 (F := F) i v0) (hB1 (F := F) i v0)
def hD1 (i : grid1.Coords) (v0 : Elt F .i32) : IVec S256x2048 32 := k1_pay38 (hA1 (F := F) i v0) (hB1 (F := F) i v0)

/-- The one-hot positions drawn: of each of the block's 256 rows the first column where the perturbed energies are largest. -/
def pick1 (i : grid1.Coords) (v0 : Elt F .i32) (e : Vec F S1x2048 .f32) : IVec S256x2048 32 :=
  k1_pay53 (F := F) (iota .tc S256x2048 32 [1] iota_S256x2048_d1_w32) (k1_pay49 (hC1 (F := F) i v0) (hD1 (F := F) i v0))
    (k1_pay50 (hC1 (F := F) i v0) (hD1 (F := F) i v0)) (k1_pay51 (hC1 (F := F) i v0) (hD1 (F := F) i v0)) k1_pay52 e

/-- The word that the noise's counter is offset by. -/
abbrev rowOff1 (i : grid1.Coords) (v0 : Elt F .i32) : BitVec 32 := Scalar.addi (BitVec.ofNat 32 (i 0).val) v0

/-- The hash of the noise, in the pieces the body cuts it into. -/
def nA1 (i : grid1.Coords) (v0 : Elt F .i32) : IVec S256x32 32 :=
  k1_pay71 (k1_pay59 (BitVec.ofNat 32 (i 1).val) (rowOff1 (F := F) i v0)) (k1_pay60 (BitVec.ofNat 32 (i 1).val) (rowOff1 (F := F) i v0)) k1_pay61
def nB1 (i : grid1.Coords) (v0 : Elt F .i32) : IVec S256x32 32 :=
  k1_pay72 (k1_pay59 (BitVec.ofNat 32 (i 1).val) (rowOff1 (F := F) i v0)) (k1_pay60 (BitVec.ofNat 32 (i 1).val) (rowOff1 (F := F) i v0)) k1_pay61
def nC1 (i : grid1.Coords) (v0 : Elt F .i32) : IVec S256x32 32 := k1_pay82 (nA1 (F := F) i v0) (nB1 (F := F) i v0) 3948844507#32
def nD1 (i : grid1.Coords) (v0 : Elt F .i32) : IVec S256x32 32 := k1_pay83 (nA1 (F := F) i v0) (nB1 (F := F) i v0) 3948844507#32
def nE1 (i : grid1.Coords) (v0 : Elt F .i32) : IVec S256x32 32 := k1_pay94 (nC1 (F := F) i v0) (nD1 (F := F) i v0)
def nF1 (i : grid1.Coords) (v0 : Elt F .i32) : IVec S256x32 32 := k1_pay95 (nC1 (F := F) i v0) (nD1 (F := F) i v0)
def nG1 (i : grid1.Coords) (v0 : Elt F .i32) : IVec S256x32 32 := k1_pay96 (nC1 (F := F) i v0) (nD1 (F := F) i v0)

/-- One row of the bounds. -/
abbrev rowLo1 (x8 : Vec F S2x32 .f32) : Vec F S1x32 .f32 := View.ld x8 (Rect.unit (s := S2x32) ![0, 0] S1x32.size inb_S2x32_S1x32_0_0)
abbrev rowHi1 (x8 : Vec F S2x32 .f32) : Vec F S1x32 .f32 := View.ld x8 (Rect.unit (s := S2x32) ![1, 0] S1x32.size inb_S2x32_S1x32_1_0)

/-- What the body stores: the rows drawn, with the noise, within the bounds. -/
def smp1 (i : grid1.Coords) (x0 : Vec F S1 .i32) (x8 : Vec F S2x32 .f32) (e : Vec F S1x2048 .f32) (hi mid lo : Vec F S2048x32 .bf16) : Vec F S1x256x32 .f32 :=
  k1_pay1 (k1_pay54 (pick1 i (offw1 x0) e) hi mid lo)
    (k1_pay97 (F := F) (nE1 (F := F) i (offw1 x0)) (nF1 (F := F) i (offw1 x0)) (nG1 (F := F) i (offw1 x0)))
    (k1_pay101 (k1_pay99 (F := F) (nE1 (F := F) i (offw1 x0)) (nF1 (F := F) i (offw1 x0)) (nG1 (F := F) i (offw1 x0)))
      (k1_pay100 (F := F) (nE1 (F := F) i (offw1 x0)) (nF1 (F := F) i (offw1 x0)) (nG1 (F := F) i (offw1 x0)))
      (FloatOps.ofBits .f32 0x32F16588#32) (FloatOps.ofBits .f32 0xB951F09B#32))
    (k1_pay102 (k1_pay97 (F := F) (nE1 (F := F) i (offw1 x0)) (nF1 (F := F) i (offw1 x0)) (nG1 (F := F) i (offw1 x0))))
    (rowLo1 x8) (rowHi1 x8)

theorem run1A_v9 (c : Dev nD) (i : grid1.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : cond1 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) :
    (run1A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).1 = smp1 i x0 x8 (k1_pay3 x7 x1 x2 x3 x4 x5 x6) (k1_pay5 x7) (k1_pay8 (k1_pay2 x7) (k1_pay4 x7)) (k1_pay9 (k1_pay2 x7) (k1_pay4 x7)) := by
  unfold run1A
  dsimp only
  sl_unfold_words
  simp only [View.readAt_eq_ld, Memref.IsWhole.read_unread, View.ld_unit_zero (S := S1) z1, View.ld_unit_zero (S := S1x2048x32) z3, View.ld_unit_zero (S := S1x1x256) z3, View.ld_unit_zero (S := S256x256) z2, View.ld_unit_zero (S := S32x256) z2, View.ld_unit_zero (S := S1x256) z2, View.ld_unit_zero (S := S256x1) z2, View.ld_unit_zero (S := S1x1) z2, View.ld_unit_zero (S := S1x2048) z2, View.ld_unit_zero (S := S2048x32) z2, View.readCov_unit_zero (S := S1x2048) _ z2, View.readCov_unit_zero (S := S2048x32) _ z2]
  all_goals (unfold smp1 pick1 nE1 nF1 nG1 nC1 nD1 nA1 nB1 hC1 hD1 hA1 hB1; rfl)

theorem run1A_s0 (c : Dev nD) (i : grid1.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : cond1 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) :
    (run1A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.1 = k1_pay3 x7 x1 x2 x3 x4 x5 x6 := by
  unfold run1A
  dsimp only
  sl_unfold_words
  simp only [View.readAt_eq_ld, Memref.IsWhole.read_unread, View.ld_unit_zero (S := S1) z1, View.ld_unit_zero (S := S1x2048x32) z3, View.ld_unit_zero (S := S1x1x256) z3, View.ld_unit_zero (S := S256x256) z2, View.ld_unit_zero (S := S32x256) z2, View.ld_unit_zero (S := S1x256) z2, View.ld_unit_zero (S := S256x1) z2, View.ld_unit_zero (S := S1x1) z2, View.ld_unit_zero (S := S1x2048) z2, View.ld_unit_zero (S := S2048x32) z2, View.readCov_unit_zero (S := S1x2048) _ z2, View.readCov_unit_zero (S := S2048x32) _ z2]
  all_goals (rfl)

theorem run1A_s1 (c : Dev nD) (i : grid1.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : cond1 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) :
    (run1A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.1 = k1_pay5 x7 := by
  unfold run1A
  dsimp only
  sl_unfold_words
  simp only [View.readAt_eq_ld, Memref.IsWhole.read_unread, View.ld_unit_zero (S := S1) z1, View.ld_unit_zero (S := S1x2048x32) z3, View.ld_unit_zero (S := S1x1x256) z3, View.ld_unit_zero (S := S256x256) z2, View.ld_unit_zero (S := S32x256) z2, View.ld_unit_zero (S := S1x256) z2, View.ld_unit_zero (S := S256x1) z2, View.ld_unit_zero (S := S1x1) z2, View.ld_unit_zero (S := S1x2048) z2, View.ld_unit_zero (S := S2048x32) z2, View.readCov_unit_zero (S := S1x2048) _ z2, View.readCov_unit_zero (S := S2048x32) _ z2]
  all_goals (rfl)

theorem run1A_s2 (c : Dev nD) (i : grid1.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : cond1 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) :
    (run1A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.1 = k1_pay8 (k1_pay2 x7) (k1_pay4 x7) := by
  unfold run1A
  dsimp only
  sl_unfold_words
  simp only [View.readAt_eq_ld, Memref.IsWhole.read_unread, View.ld_unit_zero (S := S1) z1, View.ld_unit_zero (S := S1x2048x32) z3, View.ld_unit_zero (S := S1x1x256) z3, View.ld_unit_zero (S := S256x256) z2, View.ld_unit_zero (S := S32x256) z2, View.ld_unit_zero (S := S1x256) z2, View.ld_unit_zero (S := S256x1) z2, View.ld_unit_zero (S := S1x1) z2, View.ld_unit_zero (S := S1x2048) z2, View.ld_unit_zero (S := S2048x32) z2, View.readCov_unit_zero (S := S1x2048) _ z2, View.readCov_unit_zero (S := S2048x32) _ z2]
  all_goals (rfl)

theorem run1A_s3 (c : Dev nD) (i : grid1.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : cond1 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) :
    (run1A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.2.1 = k1_pay9 (k1_pay2 x7) (k1_pay4 x7) := by
  unfold run1A
  dsimp only
  sl_unfold_words
  simp only [View.readAt_eq_ld, Memref.IsWhole.read_unread, View.ld_unit_zero (S := S1) z1, View.ld_unit_zero (S := S1x2048x32) z3, View.ld_unit_zero (S := S1x1x256) z3, View.ld_unit_zero (S := S256x256) z2, View.ld_unit_zero (S := S32x256) z2, View.ld_unit_zero (S := S1x256) z2, View.ld_unit_zero (S := S256x1) z2, View.ld_unit_zero (S := S1x1) z2, View.ld_unit_zero (S := S1x2048) z2, View.ld_unit_zero (S := S2048x32) z2, View.readCov_unit_zero (S := S1x2048) _ z2, View.readCov_unit_zero (S := S2048x32) _ z2]
  all_goals (rfl)

theorem run1B_v9 (c : Dev nD) (i : grid1.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : ¬cond1 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) (xs0 : Vec F S1x2048 .f32) (xs1 : Vec F S2048x32 .bf16) (xs2 : Vec F S2048x32 .bf16) (xs3 : Vec F S2048x32 .bf16) :
    (run1B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 xs1 xs2 xs3).1 = smp1 i x0 x8 xs0 xs1 xs2 xs3 := by
  unfold run1B
  dsimp only
  sl_unfold_words
  simp only [View.readAt_eq_ld, Memref.IsWhole.read_unread, View.ld_unit_zero (S := S1) z1, View.ld_unit_zero (S := S1x2048x32) z3, View.ld_unit_zero (S := S1x1x256) z3, View.ld_unit_zero (S := S256x256) z2, View.ld_unit_zero (S := S32x256) z2, View.ld_unit_zero (S := S1x256) z2, View.ld_unit_zero (S := S256x1) z2, View.ld_unit_zero (S := S1x1) z2, View.ld_unit_zero (S := S1x2048) z2, View.ld_unit_zero (S := S2048x32) z2, View.readCov_unit_zero (S := S1x2048) _ z2, View.readCov_unit_zero (S := S2048x32) _ z2]
  all_goals (unfold smp1 pick1 nE1 nF1 nG1 nC1 nD1 nA1 nB1 hC1 hD1 hA1 hB1; rfl)

/-- The body at a point that fills the scratch, with what it leaves spelled out. -/
theorem fill1 (c : Dev nD) (i : grid1.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : cond1 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (smp1 i x0 x8 (k1_pay3 x7 x1 x2 x3 x4 x5 x6) (k1_pay5 x7) (k1_pay8 (k1_pay2 x7) (k1_pay4 x7)) (k1_pay9 (k1_pay2 x7) (k1_pay4 x7))) ∗ owns (c : Thread nD τ) arg12 fullShare (k1_pay3 x7 x1 x2 x3 x4 x5 x6) ∗ owns (c : Thread nD τ) arg13 fullShare (k1_pay5 x7) ∗ owns (c : Thread nD τ) arg14 fullShare (k1_pay8 (k1_pay2 x7) (k1_pay4 x7)) ∗ owns (c : Thread nD τ) arg15 fullShare (k1_pay9 (k1_pay2 x7) (k1_pay4 x7))) -∗ K ⟨⟩))
      ⊢ wp frame (wpE (defs₀ (F := F)) Variants.none c none) E (cc1__resample_kernel i arg2 harg2 arg3 harg3 arg4 harg4 arg5 harg5 arg6 harg6 arg7 harg7 arg8 harg8 arg9 harg9 arg10 harg10 arg11 harg11 arg12 harg12 arg13 harg13 arg14 harg14 arg15 harg15) K := by
  have e0 := run1A_v9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
  have e1 := run1A_s0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
  have e2 := run1A_s1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
  have e3 := run1A_s2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
  have e4 := run1A_s3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
  obtain ⟨X, hX⟩ : ∃ X, X = run1A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 := ⟨_, rfl⟩
  rw [← hX] at e0 e1 e2 e3 e4
  clear hX
  obtain ⟨v9, s0, s1, s2, s3, hp⟩ := X
  subst e0 e1 e2 e3 e4
  exact hp E K

/-- The body at a point that finds the scratch filled, with what it leaves spelled out. -/
theorem keep1 (c : Dev nD) (i : grid1.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : ¬cond1 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) (xs0 : Vec F S1x2048 .f32) (xs1 : Vec F S2048x32 .bf16) (xs2 : Vec F S2048x32 .bf16) (xs3 : Vec F S2048x32 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ owns (c : Thread nD τ) arg13 fullShare xs1 ∗ owns (c : Thread nD τ) arg14 fullShare xs2 ∗ owns (c : Thread nD τ) arg15 fullShare xs3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (smp1 i x0 x8 xs0 xs1 xs2 xs3) ∗ owns (c : Thread nD τ) arg12 fullShare xs0 ∗ owns (c : Thread nD τ) arg13 fullShare xs1 ∗ owns (c : Thread nD τ) arg14 fullShare xs2 ∗ owns (c : Thread nD τ) arg15 fullShare xs3) -∗ K ⟨⟩))
      ⊢ wp frame (wpE (defs₀ (F := F)) Variants.none c none) E (cc1__resample_kernel i arg2 harg2 arg3 harg3 arg4 harg4 arg5 harg5 arg6 harg6 arg7 harg7 arg8 harg8 arg9 harg9 arg10 harg10 arg11 harg11 arg12 harg12 arg13 harg13 arg14 harg14 arg15 harg15) K := by
  have e0 := run1B_v9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 xs1 xs2 xs3
  obtain ⟨X, hX⟩ : ∃ X, X = run1B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 xs1 xs2 xs3 := ⟨_, rfl⟩
  rw [← hX] at e0
  clear hX
  obtain ⟨v9, u, hp⟩ := X
  dsimp only at e0
  subst e0
  exact hp E K

variable (W : Dev nD → Valuation τ sig (Elt F))

/-- The block of window `w` that point `t` works on, cut out of the array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The point at which the scratch that point `n` works with was filled. -/
def row1 (n : ℕ) : Fin cfg1.N := ⟨8 * (n / 8) % 128, lt_of_lt_of_eq (Nat.mod_lt _ (by decide)) N_1.symm⟩

theorem row1_self (t : Fin cfg1.N) (h : t.val % 8 = 0) : row1 t.val = t := by
  have ht : t.val < 128 := lt_of_lt_of_eq t.isLt N_1
  apply Fin.ext; show 8 * (t.val / 8) % 128 = t.val; omega

theorem row1_pred (n : ℕ) (h : ¬n % 8 = 0) : row1 n = row1 (n - 1) := by
  apply Fin.ext; show 8 * (n / 8) % 128 = 8 * ((n - 1) / 8) % 128; omega

/-- The energies in the scratch at point `n`, and the samples they are of. -/
def scE1 (c : Dev nD) (n : ℕ) : Vec F S1x2048 .f32 := k1_pay3 (blk1 W c 7 (row1 n)) (blk1 W c 1 (row1 n)) (blk1 W c 2 (row1 n)) (blk1 W c 3 (row1 n)) (blk1 W c 4 (row1 n)) (blk1 W c 5 (row1 n)) (blk1 W c 6 (row1 n))
def scS1 (c : Dev nD) (n : ℕ) : Vec F S1x2048x32 .f32 := blk1 W c 7 (row1 n)

/-- The block of the result at point `n`. -/
def smpAt1 (c : Dev nD) (t : Fin cfg1.N) : Vec F S1x256x32 .f32 :=
  smp1 (grid1.coords t) (blk1 W c 0 t) (blk1 W c 8 t) (scE1 W c t.val) (k1_pay5 (scS1 W c t.val)) (k1_pay8 (k1_pay2 (scS1 W c t.val)) (k1_pay4 (scS1 W c t.val))) (k1_pay9 (k1_pay2 (scS1 W c t.val)) (k1_pay4 (scS1 W c t.val)))

abbrev sm1_0 : Memref sig .tc .vmem S1x2048 .f32 := Memref.whole cc1_scratch0
abbrev sm1_1 : Memref sig .tc .vmem S2048x32 .bf16 := Memref.whole cc1_scratch1
abbrev sm1_2 : Memref sig .tc .vmem S2048x32 .bf16 := Memref.whole cc1_scratch2
abbrev sm1_3 : Memref sig .tc .vmem S2048x32 .bf16 := Memref.whole cc1_scratch3

/-- Before point `n`: at the start the scratch holds anything, later what the point before left. -/
def inv1 (c : Dev nD) : ℕ → sProp 𝕄
  | 0 => Pipeline.ΦA spec1 c
  | n + 1 => iprop((owns (c : Thread nD τ) sm1_0 fullShare (scE1 W c n) ∗ owns (c : Thread nD τ) sm1_1 fullShare (k1_pay5 (scS1 W c n)) ∗ owns (c : Thread nD τ) sm1_2 fullShare (k1_pay8 (k1_pay2 (scS1 W c n)) (k1_pay4 (scS1 W c n))) ∗ owns (c : Thread nD τ) sm1_3 fullShare (k1_pay9 (k1_pay2 (scS1 W c n)) (k1_pay4 (scS1 W c n)))) ∗ Pipeline.scopedRestBut (Ix := Unit) (Name := ℕ) (U := UR sig nD τ) (Lvl := ℕ) (Val := Elt F) spec1 c [cc1_scratch0, cc1_scratch1, cc1_scratch2, cc1_scratch3] ∗ (∃ r, prngReg c r))

theorem inv1_pos (c : Dev nD) (n : ℕ) (h : n ≠ 0) :
    inv1 W c n = iprop((owns (c : Thread nD τ) sm1_0 fullShare (scE1 W c (n - 1)) ∗ owns (c : Thread nD τ) sm1_1 fullShare (k1_pay5 (scS1 W c (n - 1))) ∗ owns (c : Thread nD τ) sm1_2 fullShare (k1_pay8 (k1_pay2 (scS1 W c (n - 1))) (k1_pay4 (scS1 W c (n - 1)))) ∗ owns (c : Thread nD τ) sm1_3 fullShare (k1_pay9 (k1_pay2 (scS1 W c (n - 1))) (k1_pay4 (scS1 W c (n - 1))))) ∗ Pipeline.scopedRestBut (Ix := Unit) (Name := ℕ) (U := UR sig nD τ) (Lvl := ℕ) (Val := Elt F) spec1 c [cc1_scratch0, cc1_scratch1, cc1_scratch2, cc1_scratch3] ∗ (∃ r, prngReg c r)) := by
  cases n with
  | zero => exact absurd rfl h
  | succ n => rfl

theorem PhiA1_eq (c : Dev nD) : (Pipeline.ΦA spec1 c : sProp 𝕄) = iprop((((∃ d, owns (c : Thread nD τ) sm1_0 fullShare d) ∗ (∃ d, owns (c : Thread nD τ) sm1_1 fullShare d) ∗ (∃ d, owns (c : Thread nD τ) sm1_2 fullShare d) ∗ (∃ d, owns (c : Thread nD τ) sm1_3 fullShare d)) ∗ Pipeline.scopedRestBut (Ix := Unit) (Name := ℕ) (U := UR sig nD τ) (Lvl := ℕ) (Val := Elt F) spec1 c [cc1_scratch0, cc1_scratch1, cc1_scratch2, cc1_scratch3]) ∗ (∃ r, prngReg c r)) := by
  unfold Pipeline.ΦA; rw [scopedRest1_split]; simp only [sm1_0, sm1_1, sm1_2, sm1_3, owns_whole]; try rfl

/-- In any case the scratch holds something. -/
theorem inv1_any (c : Dev nD) (n : ℕ) : inv1 W c n ⊢ iprop(((∃ d, owns (c : Thread nD τ) sm1_0 fullShare d) ∗ (∃ d, owns (c : Thread nD τ) sm1_1 fullShare d) ∗ (∃ d, owns (c : Thread nD τ) sm1_2 fullShare d) ∗ (∃ d, owns (c : Thread nD τ) sm1_3 fullShare d)) ∗ Pipeline.scopedRestBut (Ix := Unit) (Name := ℕ) (U := UR sig nD τ) (Lvl := ℕ) (Val := Elt F) spec1 c [cc1_scratch0, cc1_scratch1, cc1_scratch2, cc1_scratch3] ∗ (∃ r, prngReg c r)) := by
  cases n with
  | zero =>
    show Pipeline.ΦA spec1 c ⊢ _
    rw [PhiA1_eq]
    iintro ⟨⟨Hs, Hb⟩, Hg⟩
    isplitl [Hs]; · iexact Hs
    isplitl [Hb]; · iexact Hb
    iexact Hg
  | succ n =>
    unfold inv1
    iintro ⟨⟨HS0, HS1, HS2, HS3⟩, Hb, Hg⟩
    isplitl [HS0 HS1 HS2 HS3]
    · isplitl [HS0]; · iexists _; iexact HS0
      isplitl [HS1]; · iexists _; iexact HS1
      isplitl [HS2]; · iexists _; iexact HS2
      iexists _; iexact HS3
    isplitl [Hb]; · iexact Hb
    iexact Hg

/-- What the call's loop is proved with: the arrays as found, each input's buffer at its block, the result's at the block computed. -/
def dat1 (c : Dev nD) : Dat τ (Elt F) Unit ℕ (UR sig nD τ) ℕ cfg1 c where
  A w := W c (Proc.devRef .tc (Pipeline.arrRef spec1 w))
  after w t := match w with
    | ⟨0, _⟩ => blk1 W c 0 t
    | ⟨1, _⟩ => blk1 W c 1 t
    | ⟨2, _⟩ => blk1 W c 2 t
    | ⟨3, _⟩ => blk1 W c 3 t
    | ⟨4, _⟩ => blk1 W c 4 t
    | ⟨5, _⟩ => blk1 W c 5 t
    | ⟨6, _⟩ => blk1 W c 6 t
    | ⟨7, _⟩ => blk1 W c 7 t
    | ⟨8, _⟩ => blk1 W c 8 t
    | ⟨9, _⟩ => smpAt1 W c t
  Φ t := inv1 W c t.val
  q _ := fullShare
  owed _ := 0

theorem after1_0 (c : Dev nD) (t : Fin cfg1.N) : (dat1 W c).after 0 t = blk1 W c 0 t := by dsimp only [dat1]
theorem before1_0 (c : Dev nD) (t : Fin cfg1.N) (d) : (dat1 W c).before 0 t d = blk1 W c 0 t :=
  ((dat1 W c).before_in_eq_fetched 0 rfl (fun _ => rfl) (fun _ _ _ => rfl) (fun t => by rw [after1_0]; unfold Dat.blockOf blk1; dsimp only [dat1]; try rfl) t d).trans
    (by unfold Dat.fetched Dat.blockOf blk1; dsimp only [dat1]; try rfl)
theorem after1_1 (c : Dev nD) (t : Fin cfg1.N) : (dat1 W c).after 1 t = blk1 W c 1 t := by dsimp only [dat1]
theorem before1_1 (c : Dev nD) (t : Fin cfg1.N) (d) : (dat1 W c).before 1 t d = blk1 W c 1 t :=
  ((dat1 W c).before_in_eq_fetched 1 rfl (fun _ => rfl) (fun _ _ _ => rfl) (fun t => by rw [after1_1]; unfold Dat.blockOf blk1; dsimp only [dat1]; try rfl) t d).trans
    (by unfold Dat.fetched Dat.blockOf blk1; dsimp only [dat1]; try rfl)
theorem after1_2 (c : Dev nD) (t : Fin cfg1.N) : (dat1 W c).after 2 t = blk1 W c 2 t := by dsimp only [dat1]
theorem before1_2 (c : Dev nD) (t : Fin cfg1.N) (d) : (dat1 W c).before 2 t d = blk1 W c 2 t :=
  ((dat1 W c).before_in_eq_fetched 2 rfl (fun _ => rfl) (fun _ _ _ => rfl) (fun t => by rw [after1_2]; unfold Dat.blockOf blk1; dsimp only [dat1]; try rfl) t d).trans
    (by unfold Dat.fetched Dat.blockOf blk1; dsimp only [dat1]; try rfl)
theorem after1_3 (c : Dev nD) (t : Fin cfg1.N) : (dat1 W c).after 3 t = blk1 W c 3 t := by dsimp only [dat1]
theorem before1_3 (c : Dev nD) (t : Fin cfg1.N) (d) : (dat1 W c).before 3 t d = blk1 W c 3 t :=
  ((dat1 W c).before_in_eq_fetched 3 rfl (fun _ => rfl) (fun _ _ _ => rfl) (fun t => by rw [after1_3]; unfold Dat.blockOf blk1; dsimp only [dat1]; try rfl) t d).trans
    (by unfold Dat.fetched Dat.blockOf blk1; dsimp only [dat1]; try rfl)
theorem after1_4 (c : Dev nD) (t : Fin cfg1.N) : (dat1 W c).after 4 t = blk1 W c 4 t := by dsimp only [dat1]
theorem before1_4 (c : Dev nD) (t : Fin cfg1.N) (d) : (dat1 W c).before 4 t d = blk1 W c 4 t :=
  ((dat1 W c).before_in_eq_fetched 4 rfl (fun _ => rfl) (fun _ _ _ => rfl) (fun t => by rw [after1_4]; unfold Dat.blockOf blk1; dsimp only [dat1]; try rfl) t d).trans
    (by unfold Dat.fetched Dat.blockOf blk1; dsimp only [dat1]; try rfl)
theorem after1_5 (c : Dev nD) (t : Fin cfg1.N) : (dat1 W c).after 5 t = blk1 W c 5 t := by dsimp only [dat1]
theorem before1_5 (c : Dev nD) (t : Fin cfg1.N) (d) : (dat1 W c).before 5 t d = blk1 W c 5 t :=
  ((dat1 W c).before_in_eq_fetched 5 rfl (fun _ => rfl) (fun _ _ _ => rfl) (fun t => by rw [after1_5]; unfold Dat.blockOf blk1; dsimp only [dat1]; try rfl) t d).trans
    (by unfold Dat.fetched Dat.blockOf blk1; dsimp only [dat1]; try rfl)
theorem after1_6 (c : Dev nD) (t : Fin cfg1.N) : (dat1 W c).after 6 t = blk1 W c 6 t := by dsimp only [dat1]
theorem before1_6 (c : Dev nD) (t : Fin cfg1.N) (d) : (dat1 W c).before 6 t d = blk1 W c 6 t :=
  ((dat1 W c).before_in_eq_fetched 6 rfl (fun _ => rfl) (fun _ _ _ => rfl) (fun t => by rw [after1_6]; unfold Dat.blockOf blk1; dsimp only [dat1]; try rfl) t d).trans
    (by unfold Dat.fetched Dat.blockOf blk1; dsimp only [dat1]; try rfl)
theorem after1_7 (c : Dev nD) (t : Fin cfg1.N) : (dat1 W c).after 7 t = blk1 W c 7 t := by dsimp only [dat1]
theorem before1_7 (c : Dev nD) (t : Fin cfg1.N) (d) : (dat1 W c).before 7 t d = blk1 W c 7 t :=
  ((dat1 W c).before_in_eq_fetched 7 rfl (fun _ => rfl) (fun _ _ _ => rfl) (fun t => by rw [after1_7]; unfold Dat.blockOf blk1; dsimp only [dat1]; try rfl) t d).trans
    (by unfold Dat.fetched Dat.blockOf blk1; dsimp only [dat1]; try rfl)
theorem after1_8 (c : Dev nD) (t : Fin cfg1.N) : (dat1 W c).after 8 t = blk1 W c 8 t := by dsimp only [dat1]
theorem before1_8 (c : Dev nD) (t : Fin cfg1.N) (d) : (dat1 W c).before 8 t d = blk1 W c 8 t :=
  ((dat1 W c).before_in_eq_fetched 8 rfl (fun _ => rfl) (fun _ _ _ => rfl) (fun t => by rw [after1_8]; unfold Dat.blockOf blk1; dsimp only [dat1]; try rfl) t d).trans
    (by unfold Dat.fetched Dat.blockOf blk1; dsimp only [dat1]; try rfl)
theorem after1_9 (c : Dev nD) (t : Fin cfg1.N) : (dat1 W c).after 9 t = smpAt1 W c t := by dsimp only [dat1]

/-- What the body is called with at point `t`. -/
def bodyPre1 (c : Dev nD) (t : Fin cfg1.N) : sProp 𝕄 :=
  iprop((dat1 W c).Φ t.castSucc ∗ (dat1 W c).owesAt () t.castSucc
    ∗ (∃ d, owns (c : Thread nD τ) (win1_0.stage (cfg1.slots t 0) : Memref sig .tc .smem S1 .i32) fullShare ((dat1 W c).before 0 t d))
    ∗ (∃ d, owns (c : Thread nD τ) (win1_1.stage (cfg1.slots t 1) : Memref sig .tc .vmem S1x1x256 .bf16) fullShare ((dat1 W c).before 1 t d))
    ∗ (∃ d, owns (c : Thread nD τ) (win1_2.stage (cfg1.slots t 2) : Memref sig .tc .vmem S256x256 .bf16) fullShare ((dat1 W c).before 2 t d))
    ∗ (∃ d, owns (c : Thread nD τ) (win1_3.stage (cfg1.slots t 3) : Memref sig .tc .vmem S32x256 .bf16) fullShare ((dat1 W c).before 3 t d))
    ∗ (∃ d, owns (c : Thread nD τ) (win1_4.stage (cfg1.slots t 4) : Memref sig .tc .vmem S1x256 .f32) fullShare ((dat1 W c).before 4 t d))
    ∗ (∃ d, owns (c : Thread nD τ) (win1_5.stage (cfg1.slots t 5) : Memref sig .tc .vmem S256x1 .bf16) fullShare ((dat1 W c).before 5 t d))
    ∗ (∃ d, owns (c : Thread nD τ) (win1_6.stage (cfg1.slots t 6) : Memref sig .tc .vmem S1x1 .f32) fullShare ((dat1 W c).before 6 t d))
    ∗ (∃ d, owns (c : Thread nD τ) (win1_7.stage (cfg1.slots t 7) : Memref sig .tc .vmem S1x2048x32 .f32) fullShare ((dat1 W c).before 7 t d))
    ∗ (∃ d, owns (c : Thread nD τ) (win1_8.stage (cfg1.slots t 8) : Memref sig .tc .vmem S2x32 .f32) fullShare ((dat1 W c).before 8 t d))
    ∗ (∃ d, owns (c : Thread nD τ) (win1_9.stage (cfg1.slots t 9) : Memref sig .tc .vmem S1x256x32 .f32) fullShare ((dat1 W c).before 9 t d)))

/-- What it returns. -/
def bodyPost1 (c : Dev nD) (t : Fin cfg1.N) : sProp 𝕄 :=
  iprop((dat1 W c).Φ t.succ ∗ (dat1 W c).owesAt () t.succ
    ∗ owns (c : Thread nD τ) (win1_0.stage (cfg1.slots t 0) : Memref sig .tc .smem S1 .i32) fullShare ((dat1 W c).after 0 t)
    ∗ owns (c : Thread nD τ) (win1_1.stage (cfg1.slots t 1) : Memref sig .tc .vmem S1x1x256 .bf16) fullShare ((dat1 W c).after 1 t)
    ∗ owns (c : Thread nD τ) (win1_2.stage (cfg1.slots t 2) : Memref sig .tc .vmem S256x256 .bf16) fullShare ((dat1 W c).after 2 t)
    ∗ owns (c : Thread nD τ) (win1_3.stage (cfg1.slots t 3) : Memref sig .tc .vmem S32x256 .bf16) fullShare ((dat1 W c).after 3 t)
    ∗ owns (c : Thread nD τ) (win1_4.stage (cfg1.slots t 4) : Memref sig .tc .vmem S1x256 .f32) fullShare ((dat1 W c).after 4 t)
    ∗ owns (c : Thread nD τ) (win1_5.stage (cfg1.slots t 5) : Memref sig .tc .vmem S256x1 .bf16) fullShare ((dat1 W c).after 5 t)
    ∗ owns (c : Thread nD τ) (win1_6.stage (cfg1.slots t 6) : Memref sig .tc .vmem S1x1 .f32) fullShare ((dat1 W c).after 6 t)
    ∗ owns (c : Thread nD τ) (win1_7.stage (cfg1.slots t 7) : Memref sig .tc .vmem S1x2048x32 .f32) fullShare ((dat1 W c).after 7 t)
    ∗ owns (c : Thread nD τ) (win1_8.stage (cfg1.slots t 8) : Memref sig .tc .vmem S2x32 .f32) fullShare ((dat1 W c).after 8 t)
    ∗ owns (c : Thread nD τ) (win1_9.stage (cfg1.slots t 9) : Memref sig .tc .vmem S1x256x32 .f32) fullShare ((dat1 W c).after 9 t))

set_option maxHeartbeats 4000000 in
/-- The body at any point does what the loop's proof asks of it. -/
theorem sound1 (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3, before1_4, before1_5, before1_6, before1_7, before1_8]
  rw [show (dat1 W c).owesAt () t.succ = (dat1 W c).owesAt () t.castSucc from rfl,
    after1_0, after1_1, after1_2, after1_3, after1_4, after1_5, after1_6, after1_7, after1_8, after1_9]
  rw [show (dat1 W c).Φ t.castSucc = inv1 W c t.val from rfl, show (dat1 W c).Φ t.succ = inv1 W c (t.val + 1) from rfl,
    inv1_pos W c (t.val + 1) (Nat.succ_ne_zero _), Nat.add_sub_cancel]
  by_cases h0 : t.val % 8 = 0
  · refine (sep_mono (inv1_any W c t.val) .rfl).trans ?_
    unfold smpAt1 scE1 scS1
    rw [row1_self t h0]
    iintro ⟨⟨⟨HS0, HS1, HS2, HS3⟩, Hb, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (fill1 c (grid1.coords t) _ _ _ _ _ _ _ _ _ _ _ _ _ _ _ _ _ _ _ _ _ _ _ _ _ _ _ _ ((hcond1 t).mpr h0) (blk1 W c 0 t) (blk1 W c 1 t) (blk1 W c 2 t) (blk1 W c 3 t) (blk1 W c 4 t) (blk1 W c 5 t) (blk1 W c 6 t) (blk1 W c 7 t) (blk1 W c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hb Hg]
    · isplitl [HS0 HS1 HS2 HS3]
      · isplitl [HS0]; · iexact HS0
        isplitl [HS1]; · iexact HS1
        isplitl [HS2]; · iexact HS2
        iexact HS3
      isplitl [Hb]; · iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [inv1_pos W c t.val (fun e => h0 (by rw [e]))]
    unfold smpAt1 scE1 scS1
    rw [row1_pred t.val h0]
    iintro ⟨⟨⟨HS0, HS1, HS2, HS3⟩, Hb, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (keep1 c (grid1.coords t) _ _ _ _ _ _ _ _ _ _ _ _ _ _ _ _ _ _ _ _ _ _ _ _ _ _ _ _ (fun hc => h0 ((hcond1 t).mp hc)) (blk1 W c 0 t) (blk1 W c 1 t) (blk1 W c 2 t) (blk1 W c 3 t) (blk1 W c 4 t) (blk1 W c 5 t) (blk1 W c 6 t) (blk1 W c 7 t) (blk1 W c 8 t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hb Hg]
    · isplitl [HS0 HS1 HS2 HS3]
      · isplitl [HS0]; · iexact HS0
        isplitl [HS1]; · iexact HS1
        isplitl [HS2]; · iexact HS2
        iexact HS3
      isplitl [Hb]; · iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body's row of the table of bodies. -/
theorem defs1_row (t : Fin cfg1.N) : defs₀ (F := F) .tc cfg1.body (cfg1.bodyArgs t (cfg1.slots t)) = bodyAt1 t := by
  unfold defs₀; rw [Defs.onTc_tc]

theorem body1 (c : Dev nD) : BodyObligation (dat1 W c) (defs₀ (F := F)) Variants.none () Set.univ := fun t => by
  rw [bigSep_W1, bigSep_W1, defs1_row]
  exact triple_restated (sound1 W c t) rfl .rfl fun _ => .rfl

theorem in1 (c : Dev nD) : iprop(Pipeline.scopedRest spec1 c ∗ (∃ r, prngReg c r)) ⊢ (dat1 W c).Φ 0 := by
  rw [show (dat1 W c).Φ 0 = Pipeline.ΦA spec1 c from rfl]
  unfold Pipeline.ΦA
  exact .rfl

theorem out1 (c : Dev nD) : (dat1 W c).Φ (Fin.last cfg1.N) ⊢ iprop(Pipeline.scopedRest spec1 c ∗ (∃ r, prngReg c r)) := by
  rw [show (dat1 W c).Φ (Fin.last cfg1.N) = inv1 W c cfg1.N from rfl]
  refine (inv1_any W c _).trans ?_
  rw [show iprop(Pipeline.scopedRest spec1 c ∗ (∃ r, prngReg c r)) = (Pipeline.ΦA spec1 c : sProp 𝕄) from rfl, PhiA1_eq]
  iintro ⟨Hs, Hb, Hg⟩
  isplitl [Hs Hb]
  · isplitl [Hs]; · iexact Hs
    iexact Hb
  iexact Hg

end Cert.KernelIdeal.Region

end
-- ==== Proof.KernelIdeal.Run2.lean ====
/- What the body of the resampling call 2 leaves in its buffers, at a point that fills the scratch and at one that does not. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point's second coordinate decides the `scf.if`: the scratch is filled at the first of a row's eight points. -/
abbrev cond2 (i : grid2.Coords) : Prop := (Scalar.cmpi .ne (Scalar.extui (Scalar.cmpi .eq (BitVec.ofNat 32 (i 1).val) 0#32)) 0#32) = 1#1
/-- The scratch is filled at the points divisible by 8. -/
theorem hcond2 : ∀ t : Fin cfg2.N, cond2 (grid2.coords t) ↔ t.val % 8 = 0 :=
  (fun t => by
    have ht : t.val < 128 := Nat.lt_of_lt_of_eq t.isLt N_2
    have e1 : (grid2.coords t 1).val = t.val / 1 % 8 := Pipeline.Grid.coords_val t 1 (by decide) rfl
    simp only [cond2, e1]
    word_cmp
   : ∀ t : Fin grid2.N, cond2 (grid2.coords t) ↔ t.val % 8 = 0)

set_option maxHeartbeats 1600000 in
/-- The body at a point where it fills its scratch: what it leaves in the output's buffer and in the four scratch buffers, found by running it. -/
noncomputable def run2A (c : Dev nD) (i : grid2.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : cond2 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) :
    Σ' (v9 : Vec F S1x256x32 .f32), Σ' (s0 : Vec F S1x2048 .f32), Σ' (s1 : Vec F S2048x32 .bf16), Σ' (s2 : Vec F S2048x32 .bf16), { s3 : Vec F S2048x32 .bf16 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare v9 ∗ owns (c : Thread nD τ) arg12 fullShare s0 ∗ owns (c : Thread nD τ) arg13 fullShare s1 ∗ owns (c : Thread nD τ) arg14 fullShare s2 ∗ owns (c : Thread nD τ) arg15 fullShare s3) -∗ K ⟨⟩))
          ⊢ wp frame (wpE (defs₀ (F := F)) Variants.none c none) E (cc2__resample_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc2__resample_kernel_eq_skeleton]; unfold cc2__resample_kernel_skel
    simp only [k2_part2_eq_skeleton, k2_part1_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr
      swap; · iexact H9
      ipureintro; exact View.read_writes_full _ _ _ _ _
    isplitl [HS0]
    · iexists _; isplitr
      swap; · iexact HS0
      ipureintro; exact View.read_writes_full _ _ _ _ _
    isplitl [HS1]
    · iexists _; isplitr
      swap; · iexact HS1
      ipureintro; exact View.read_writes_full _ _ _ _ _
    isplitl [HS2]
    · iexists _; isplitr
      swap; · iexact HS2
      ipureintro; exact View.read_writes_full _ _ _ _ _
    iexists _; isplitr
    swap; · iexact HS3
    ipureintro; exact View.read_writes_full _ _ _ _ _

set_option maxHeartbeats 1600000 in
/-- The body at a point where it does not fill its scratch: what it leaves in the output's buffer, found by running it. -/
noncomputable def run2B (c : Dev nD) (i : grid2.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : ¬cond2 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) (xs0 : Vec F S1x2048 .f32) (xs1 : Vec F S2048x32 .bf16) (xs2 : Vec F S2048x32 .bf16) (xs3 : Vec F S2048x32 .bf16) :
    Σ' (v9 : Vec F S1x256x32 .f32), { _u : Unit //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ owns (c : Thread nD τ) arg13 fullShare xs1 ∗ owns (c : Thread nD τ) arg14 fullShare xs2 ∗ owns (c : Thread nD τ) arg15 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare v9 ∗ owns (c : Thread nD τ) arg12 fullShare xs0 ∗ owns (c : Thread nD τ) arg13 fullShare xs1 ∗ owns (c : Thread nD τ) arg14 fullShare xs2 ∗ owns (c : Thread nD τ) arg15 fullShare xs3) -∗ K ⟨⟩))
          ⊢ wp frame (wpE (defs₀ (F := F)) Variants.none c none) E (cc2__resample_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, (), fun E K => ?run⟩
  case run =>
    simp only [cc2__resample_kernel_eq_skeleton]; unfold cc2__resample_kernel_skel
    simp only [k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg13.eq_unread hfs1; obtain rfl := harg14.eq_unread hfs2; obtain rfl := harg15.eq_unread hfs3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr
      swap; · iexact H9
      ipureintro; exact View.read_writes_full _ _ _ _ _
    isplitl [HS0]
    · iexists _; isplitr; · ipureintro; exact harg12.read_unread _
      iexact HS0
    isplitl [HS1]
    · iexists _; isplitr; · ipureintro; exact harg13.read_unread _
      iexact HS1
    isplitl [HS2]
    · iexists _; isplitr; · ipureintro; exact harg14.read_unread _
      iexact HS2
    iexists _; isplitr; · ipureintro; exact harg15.read_unread _
    iexact HS3

end Cert.KernelIdeal.Region

end
-- ==== Proof.KernelIdeal.Resample2.lean ====
/- The resampling call 2 as the launch needs it: what each point leaves, the invariant of its loop, the body at every point. -/
module

public import proofs.«01_k».proof.Proof.KernelIdeal.Run2
public import proofs.«01_k».proof.Proof.Common

@[expose] public section

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Common

/-- The word of the offset array that the body loads. -/
abbrev offw2 (x0 : Vec F S1 .i32) : Elt F .i32 := View.ld x0 (Rect.unit (s := S1) ![0] S1.size inb_S1_S1_0) (Shape.Idx.first (s := ⟨1, S1.size⟩) (by decide))

/-- The first and the second half of the hash of the position, as the body cuts it. -/
def hA2 (i : grid2.Coords) (v0 : Elt F .i32) : IVec S256x2048 32 := k2_pay26 (k2_pay16 (F := F) i v0) (k2_pay17 (F := F) i v0) 6#32
def hB2 (i : grid2.Coords) (v0 : Elt F .i32) : IVec S256x2048 32 := k2_pay27 (k2_pay16 (F := F) i v0) (k2_pay17 (F := F) i v0) 6#32
def hC2 (i : grid2.Coords) (v0 : Elt F .i32) : IVec S256x2048 32 := k2_pay37 (hA2 (F := F) i v0) (hB2 (F := F) i v0)
def hD2 (i : grid2.Coords) (v0 : Elt F .i32) : IVec S256x2048 32 := k2_pay38 (hA2 (F := F) i v0) (hB2 (F := F) i v0)

/-- The one-hot positions drawn: of each of the block's 256 rows the first column where the perturbed energies are largest. -/
def pick2 (i : grid2.Coords) (v0 : Elt F .i32) (e : Vec F S1x2048 .f32) : IVec S256x2048 32 :=
  k2_pay53 (F := F) (iota .tc S256x2048 32 [1] iota_S256x2048_d1_w32) (k2_pay49 (hC2 (F := F) i v0) (hD2 (F := F) i v0))
    (k2_pay50 (hC2 (F := F) i v0) (hD2 (F := F) i v0)) (k2_pay51 (hC2 (F := F) i v0) (hD2 (F := F) i v0)) k2_pay52 e

/-- The word that the noise's counter is offset by. -/
abbrev rowOff2 (i : grid2.Coords) (v0 : Elt F .i32) : BitVec 32 := Scalar.addi (BitVec.ofNat 32 (i 0).val) v0

/-- The hash of the noise, in the pieces the body cuts it into. -/
def nA2 (i : grid2.Coords) (v0 : Elt F .i32) : IVec S256x32 32 :=
  k2_pay71 (k2_pay59 (BitVec.ofNat 32 (i 1).val) (rowOff2 (F := F) i v0)) (k2_pay60 (BitVec.ofNat 32 (i 1).val) (rowOff2 (F := F) i v0)) k2_pay61
def nB2 (i : grid2.Coords) (v0 : Elt F .i32) : IVec S256x32 32 :=
  k2_pay72 (k2_pay59 (BitVec.ofNat 32 (i 1).val) (rowOff2 (F := F) i v0)) (k2_pay60 (BitVec.ofNat 32 (i 1).val) (rowOff2 (F := F) i v0)) k2_pay61
def nC2 (i : grid2.Coords) (v0 : Elt F .i32) : IVec S256x32 32 := k2_pay82 (nA2 (F := F) i v0) (nB2 (F := F) i v0) 500080736#32
def nD2 (i : grid2.Coords) (v0 : Elt F .i32) : IVec S256x32 32 := k2_pay83 (nA2 (F := F) i v0) (nB2 (F := F) i v0) 500080736#32
def nE2 (i : grid2.Coords) (v0 : Elt F .i32) : IVec S256x32 32 := k2_pay94 (nC2 (F := F) i v0) (nD2 (F := F) i v0)
def nF2 (i : grid2.Coords) (v0 : Elt F .i32) : IVec S256x32 32 := k2_pay95 (nC2 (F := F) i v0) (nD2 (F := F) i v0)
def nG2 (i : grid2.Coords) (v0 : Elt F .i32) : IVec S256x32 32 := k2_pay96 (nC2 (F := F) i v0) (nD2 (F := F) i v0)

/-- One row of the bounds. -/
abbrev rowLo2 (x8 : Vec F S2x32 .f32) : Vec F S1x32 .f32 := View.ld x8 (Rect.unit (s := S2x32) ![0, 0] S1x32.size inb_S2x32_S1x32_0_0)
abbrev rowHi2 (x8 : Vec F S2x32 .f32) : Vec F S1x32 .f32 := View.ld x8 (Rect.unit (s := S2x32) ![1, 0] S1x32.size inb_S2x32_S1x32_1_0)

/-- What the body stores: the rows drawn, with the noise, within the bounds. -/
def smp2 (i : grid2.Coords) (x0 : Vec F S1 .i32) (x8 : Vec F S2x32 .f32) (e : Vec F S1x2048 .f32) (hi mid lo : Vec F S2048x32 .bf16) : Vec F S1x256x32 .f32 :=
  k2_pay1 (k2_pay54 (pick2 i (offw2 x0) e) hi mid lo)
    (k2_pay97 (F := F) (nE2 (F := F) i (offw2 x0)) (nF2 (F := F) i (offw2 x0)) (nG2 (F := F) i (offw2 x0)))
    (k2_pay101 (k2_pay99 (F := F) (nE2 (F := F) i (offw2 x0)) (nF2 (F := F) i (offw2 x0)) (nG2 (F := F) i (offw2 x0)))
      (k2_pay100 (F := F) (nE2 (F := F) i (offw2 x0)) (nF2 (F := F) i (offw2 x0)) (nG2 (F := F) i (offw2 x0)))
      (FloatOps.ofBits .f32 0x32F16588#32) (FloatOps.ofBits .f32 0xB951F09B#32))
    (k2_pay102 (k2_pay97 (F := F) (nE2 (F := F) i (offw2 x0)) (nF2 (F := F) i (offw2 x0)) (nG2 (F := F) i (offw2 x0))))
    (rowLo2 x8) (rowHi2 x8)

theorem run2A_v9 (c : Dev nD) (i : grid2.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : cond2 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) :
    (run2A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).1 = smp2 i x0 x8 (k2_pay3 x7 x1 x2 x3 x4 x5 x6) (k2_pay5 x7) (k2_pay8 (k2_pay2 x7) (k2_pay4 x7)) (k2_pay9 (k2_pay2 x7) (k2_pay4 x7)) := by
  unfold run2A
  dsimp only
  sl_unfold_words
  simp only [View.readAt_eq_ld, Memref.IsWhole.read_unread, View.ld_unit_zero (S := S1) z1, View.ld_unit_zero (S := S1x2048x32) z3, View.ld_unit_zero (S := S1x1x256) z3, View.ld_unit_zero (S := S256x256) z2, View.ld_unit_zero (S := S32x256) z2, View.ld_unit_zero (S := S1x256) z2, View.ld_unit_zero (S := S256x1) z2, View.ld_unit_zero (S := S1x1) z2, View.ld_unit_zero (S := S1x2048) z2, View.ld_unit_zero (S := S2048x32) z2, View.readCov_unit_zero (S := S1x2048) _ z2, View.readCov_unit_zero (S := S2048x32) _ z2]
  all_goals (unfold smp2 pick2 nE2 nF2 nG2 nC2 nD2 nA2 nB2 hC2 hD2 hA2 hB2; rfl)

theorem run2A_s0 (c : Dev nD) (i : grid2.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : cond2 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) :
    (run2A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.1 = k2_pay3 x7 x1 x2 x3 x4 x5 x6 := by
  unfold run2A
  dsimp only
  sl_unfold_words
  simp only [View.readAt_eq_ld, Memref.IsWhole.read_unread, View.ld_unit_zero (S := S1) z1, View.ld_unit_zero (S := S1x2048x32) z3, View.ld_unit_zero (S := S1x1x256) z3, View.ld_unit_zero (S := S256x256) z2, View.ld_unit_zero (S := S32x256) z2, View.ld_unit_zero (S := S1x256) z2, View.ld_unit_zero (S := S256x1) z2, View.ld_unit_zero (S := S1x1) z2, View.ld_unit_zero (S := S1x2048) z2, View.ld_unit_zero (S := S2048x32) z2, View.readCov_unit_zero (S := S1x2048) _ z2, View.readCov_unit_zero (S := S2048x32) _ z2]
  all_goals (rfl)

theorem run2A_s1 (c : Dev nD) (i : grid2.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : cond2 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) :
    (run2A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.1 = k2_pay5 x7 := by
  unfold run2A
  dsimp only
  sl_unfold_words
  simp only [View.readAt_eq_ld, Memref.IsWhole.read_unread, View.ld_unit_zero (S := S1) z1, View.ld_unit_zero (S := S1x2048x32) z3, View.ld_unit_zero (S := S1x1x256) z3, View.ld_unit_zero (S := S256x256) z2, View.ld_unit_zero (S := S32x256) z2, View.ld_unit_zero (S := S1x256) z2, View.ld_unit_zero (S := S256x1) z2, View.ld_unit_zero (S := S1x1) z2, View.ld_unit_zero (S := S1x2048) z2, View.ld_unit_zero (S := S2048x32) z2, View.readCov_unit_zero (S := S1x2048) _ z2, View.readCov_unit_zero (S := S2048x32) _ z2]
  all_goals (rfl)

theorem run2A_s2 (c : Dev nD) (i : grid2.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : cond2 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) :
    (run2A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.1 = k2_pay8 (k2_pay2 x7) (k2_pay4 x7) := by
  unfold run2A
  dsimp only
  sl_unfold_words
  simp only [View.readAt_eq_ld, Memref.IsWhole.read_unread, View.ld_unit_zero (S := S1) z1, View.ld_unit_zero (S := S1x2048x32) z3, View.ld_unit_zero (S := S1x1x256) z3, View.ld_unit_zero (S := S256x256) z2, View.ld_unit_zero (S := S32x256) z2, View.ld_unit_zero (S := S1x256) z2, View.ld_unit_zero (S := S256x1) z2, View.ld_unit_zero (S := S1x1) z2, View.ld_unit_zero (S := S1x2048) z2, View.ld_unit_zero (S := S2048x32) z2, View.readCov_unit_zero (S := S1x2048) _ z2, View.readCov_unit_zero (S := S2048x32) _ z2]
  all_goals (rfl)

theorem run2A_s3 (c : Dev nD) (i : grid2.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : cond2 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) :
    (run2A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.2.1 = k2_pay9 (k2_pay2 x7) (k2_pay4 x7) := by
  unfold run2A
  dsimp only
  sl_unfold_words
  simp only [View.readAt_eq_ld, Memref.IsWhole.read_unread, View.ld_unit_zero (S := S1) z1, View.ld_unit_zero (S := S1x2048x32) z3, View.ld_unit_zero (S := S1x1x256) z3, View.ld_unit_zero (S := S256x256) z2, View.ld_unit_zero (S := S32x256) z2, View.ld_unit_zero (S := S1x256) z2, View.ld_unit_zero (S := S256x1) z2, View.ld_unit_zero (S := S1x1) z2, View.ld_unit_zero (S := S1x2048) z2, View.ld_unit_zero (S := S2048x32) z2, View.readCov_unit_zero (S := S1x2048) _ z2, View.readCov_unit_zero (S := S2048x32) _ z2]
  all_goals (rfl)

theorem run2B_v9 (c : Dev nD) (i : grid2.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : ¬cond2 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) (xs0 : Vec F S1x2048 .f32) (xs1 : Vec F S2048x32 .bf16) (xs2 : Vec F S2048x32 .bf16) (xs3 : Vec F S2048x32 .bf16) :
    (run2B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 xs1 xs2 xs3).1 = smp2 i x0 x8 xs0 xs1 xs2 xs3 := by
  unfold run2B
  dsimp only
  sl_unfold_words
  simp only [View.readAt_eq_ld, Memref.IsWhole.read_unread, View.ld_unit_zero (S := S1) z1, View.ld_unit_zero (S := S1x2048x32) z3, View.ld_unit_zero (S := S1x1x256) z3, View.ld_unit_zero (S := S256x256) z2, View.ld_unit_zero (S := S32x256) z2, View.ld_unit_zero (S := S1x256) z2, View.ld_unit_zero (S := S256x1) z2, View.ld_unit_zero (S := S1x1) z2, View.ld_unit_zero (S := S1x2048) z2, View.ld_unit_zero (S := S2048x32) z2, View.readCov_unit_zero (S := S1x2048) _ z2, View.readCov_unit_zero (S := S2048x32) _ z2]
  all_goals (unfold smp2 pick2 nE2 nF2 nG2 nC2 nD2 nA2 nB2 hC2 hD2 hA2 hB2; rfl)

/-- The body at a point that fills the scratch, with what it leaves spelled out. -/
theorem fill2 (c : Dev nD) (i : grid2.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : cond2 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (smp2 i x0 x8 (k2_pay3 x7 x1 x2 x3 x4 x5 x6) (k2_pay5 x7) (k2_pay8 (k2_pay2 x7) (k2_pay4 x7)) (k2_pay9 (k2_pay2 x7) (k2_pay4 x7))) ∗ owns (c : Thread nD τ) arg12 fullShare (k2_pay3 x7 x1 x2 x3 x4 x5 x6) ∗ owns (c : Thread nD τ) arg13 fullShare (k2_pay5 x7) ∗ owns (c : Thread nD τ) arg14 fullShare (k2_pay8 (k2_pay2 x7) (k2_pay4 x7)) ∗ owns (c : Thread nD τ) arg15 fullShare (k2_pay9 (k2_pay2 x7) (k2_pay4 x7))) -∗ K ⟨⟩))
      ⊢ wp frame (wpE (defs₀ (F := F)) Variants.none c none) E (cc2__resample_kernel i arg2 harg2 arg3 harg3 arg4 harg4 arg5 harg5 arg6 harg6 arg7 harg7 arg8 harg8 arg9 harg9 arg10 harg10 arg11 harg11 arg12 harg12 arg13 harg13 arg14 harg14 arg15 harg15) K := by
  have e0 := run2A_v9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
  have e1 := run2A_s0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
  have e2 := run2A_s1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
  have e3 := run2A_s2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
  have e4 := run2A_s3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
  obtain ⟨X, hX⟩ : ∃ X, X = run2A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 := ⟨_, rfl⟩
  rw [← hX] at e0 e1 e2 e3 e4
  clear hX
  obtain ⟨v9, s0, s1, s2, s3, hp⟩ := X
  subst e0 e1 e2 e3 e4
  exact hp E K

/-- The body at a point that finds the scratch filled, with what it leaves spelled out. -/
theorem keep2 (c : Dev nD) (i : grid2.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : ¬cond2 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) (xs0 : Vec F S1x2048 .f32) (xs1 : Vec F S2048x32 .bf16) (xs2 : Vec F S2048x32 .bf16) (xs3 : Vec F S2048x32 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ owns (c : Thread nD τ) arg13 fullShare xs1 ∗ owns (c : Thread nD τ) arg14 fullShare xs2 ∗ owns (c : Thread nD τ) arg15 fullShare xs3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (smp2 i x0 x8 xs0 xs1 xs2 xs3) ∗ owns (c : Thread nD τ) arg12 fullShare xs0 ∗ owns (c : Thread nD τ) arg13 fullShare xs1 ∗ owns (c : Thread nD τ) arg14 fullShare xs2 ∗ owns (c : Thread nD τ) arg15 fullShare xs3) -∗ K ⟨⟩))
      ⊢ wp frame (wpE (defs₀ (F := F)) Variants.none c none) E (cc2__resample_kernel i arg2 harg2 arg3 harg3 arg4 harg4 arg5 harg5 arg6 harg6 arg7 harg7 arg8 harg8 arg9 harg9 arg10 harg10 arg11 harg11 arg12 harg12 arg13 harg13 arg14 harg14 arg15 harg15) K := by
  have e0 := run2B_v9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 xs1 xs2 xs3
  obtain ⟨X, hX⟩ : ∃ X, X = run2B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 xs1 xs2 xs3 := ⟨_, rfl⟩
  rw [← hX] at e0
  clear hX
  obtain ⟨v9, u, hp⟩ := X
  dsimp only at e0
  subst e0
  exact hp E K

variable (W : Dev nD → Valuation τ sig (Elt F))

/-- The block of window `w` that point `t` works on, cut out of the array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- The point at which the scratch that point `n` works with was filled. -/
def row2 (n : ℕ) : Fin cfg2.N := ⟨8 * (n / 8) % 128, lt_of_lt_of_eq (Nat.mod_lt _ (by decide)) N_2.symm⟩

theorem row2_self (t : Fin cfg2.N) (h : t.val % 8 = 0) : row2 t.val = t := by
  have ht : t.val < 128 := lt_of_lt_of_eq t.isLt N_2
  apply Fin.ext; show 8 * (t.val / 8) % 128 = t.val; omega

theorem row2_pred (n : ℕ) (h : ¬n % 8 = 0) : row2 n = row2 (n - 1) := by
  apply Fin.ext; show 8 * (n / 8) % 128 = 8 * ((n - 1) / 8) % 128; omega

/-- The energies in the scratch at point `n`, and the samples they are of. -/
def scE2 (c : Dev nD) (n : ℕ) : Vec F S1x2048 .f32 := k2_pay3 (blk2 W c 7 (row2 n)) (blk2 W c 1 (row2 n)) (blk2 W c 2 (row2 n)) (blk2 W c 3 (row2 n)) (blk2 W c 4 (row2 n)) (blk2 W c 5 (row2 n)) (blk2 W c 6 (row2 n))
def scS2 (c : Dev nD) (n : ℕ) : Vec F S1x2048x32 .f32 := blk2 W c 7 (row2 n)

/-- The block of the result at point `n`. -/
def smpAt2 (c : Dev nD) (t : Fin cfg2.N) : Vec F S1x256x32 .f32 :=
  smp2 (grid2.coords t) (blk2 W c 0 t) (blk2 W c 8 t) (scE2 W c t.val) (k2_pay5 (scS2 W c t.val)) (k2_pay8 (k2_pay2 (scS2 W c t.val)) (k2_pay4 (scS2 W c t.val))) (k2_pay9 (k2_pay2 (scS2 W c t.val)) (k2_pay4 (scS2 W c t.val)))

abbrev sm2_0 : Memref sig .tc .vmem S1x2048 .f32 := Memref.whole cc2_scratch0
abbrev sm2_1 : Memref sig .tc .vmem S2048x32 .bf16 := Memref.whole cc2_scratch1
abbrev sm2_2 : Memref sig .tc .vmem S2048x32 .bf16 := Memref.whole cc2_scratch2
abbrev sm2_3 : Memref sig .tc .vmem S2048x32 .bf16 := Memref.whole cc2_scratch3

/-- Before point `n`: at the start the scratch holds anything, later what the point before left. -/
def inv2 (c : Dev nD) : ℕ → sProp 𝕄
  | 0 => Pipeline.ΦA spec2 c
  | n + 1 => iprop((owns (c : Thread nD τ) sm2_0 fullShare (scE2 W c n) ∗ owns (c : Thread nD τ) sm2_1 fullShare (k2_pay5 (scS2 W c n)) ∗ owns (c : Thread nD τ) sm2_2 fullShare (k2_pay8 (k2_pay2 (scS2 W c n)) (k2_pay4 (scS2 W c n))) ∗ owns (c : Thread nD τ) sm2_3 fullShare (k2_pay9 (k2_pay2 (scS2 W c n)) (k2_pay4 (scS2 W c n)))) ∗ Pipeline.scopedRestBut (Ix := Unit) (Name := ℕ) (U := UR sig nD τ) (Lvl := ℕ) (Val := Elt F) spec2 c [cc2_scratch0, cc2_scratch1, cc2_scratch2, cc2_scratch3] ∗ (∃ r, prngReg c r))

theorem inv2_pos (c : Dev nD) (n : ℕ) (h : n ≠ 0) :
    inv2 W c n = iprop((owns (c : Thread nD τ) sm2_0 fullShare (scE2 W c (n - 1)) ∗ owns (c : Thread nD τ) sm2_1 fullShare (k2_pay5 (scS2 W c (n - 1))) ∗ owns (c : Thread nD τ) sm2_2 fullShare (k2_pay8 (k2_pay2 (scS2 W c (n - 1))) (k2_pay4 (scS2 W c (n - 1)))) ∗ owns (c : Thread nD τ) sm2_3 fullShare (k2_pay9 (k2_pay2 (scS2 W c (n - 1))) (k2_pay4 (scS2 W c (n - 1))))) ∗ Pipeline.scopedRestBut (Ix := Unit) (Name := ℕ) (U := UR sig nD τ) (Lvl := ℕ) (Val := Elt F) spec2 c [cc2_scratch0, cc2_scratch1, cc2_scratch2, cc2_scratch3] ∗ (∃ r, prngReg c r)) := by
  cases n with
  | zero => exact absurd rfl h
  | succ n => rfl

theorem PhiA2_eq (c : Dev nD) : (Pipeline.ΦA spec2 c : sProp 𝕄) = iprop((((∃ d, owns (c : Thread nD τ) sm2_0 fullShare d) ∗ (∃ d, owns (c : Thread nD τ) sm2_1 fullShare d) ∗ (∃ d, owns (c : Thread nD τ) sm2_2 fullShare d) ∗ (∃ d, owns (c : Thread nD τ) sm2_3 fullShare d)) ∗ Pipeline.scopedRestBut (Ix := Unit) (Name := ℕ) (U := UR sig nD τ) (Lvl := ℕ) (Val := Elt F) spec2 c [cc2_scratch0, cc2_scratch1, cc2_scratch2, cc2_scratch3]) ∗ (∃ r, prngReg c r)) := by
  unfold Pipeline.ΦA; rw [scopedRest2_split]; simp only [sm2_0, sm2_1, sm2_2, sm2_3, owns_whole]; try rfl

/-- In any case the scratch holds something. -/
theorem inv2_any (c : Dev nD) (n : ℕ) : inv2 W c n ⊢ iprop(((∃ d, owns (c : Thread nD τ) sm2_0 fullShare d) ∗ (∃ d, owns (c : Thread nD τ) sm2_1 fullShare d) ∗ (∃ d, owns (c : Thread nD τ) sm2_2 fullShare d) ∗ (∃ d, owns (c : Thread nD τ) sm2_3 fullShare d)) ∗ Pipeline.scopedRestBut (Ix := Unit) (Name := ℕ) (U := UR sig nD τ) (Lvl := ℕ) (Val := Elt F) spec2 c [cc2_scratch0, cc2_scratch1, cc2_scratch2, cc2_scratch3] ∗ (∃ r, prngReg c r)) := by
  cases n with
  | zero =>
    show Pipeline.ΦA spec2 c ⊢ _
    rw [PhiA2_eq]
    iintro ⟨⟨Hs, Hb⟩, Hg⟩
    isplitl [Hs]; · iexact Hs
    isplitl [Hb]; · iexact Hb
    iexact Hg
  | succ n =>
    unfold inv2
    iintro ⟨⟨HS0, HS1, HS2, HS3⟩, Hb, Hg⟩
    isplitl [HS0 HS1 HS2 HS3]
    · isplitl [HS0]; · iexists _; iexact HS0
      isplitl [HS1]; · iexists _; iexact HS1
      isplitl [HS2]; · iexists _; iexact HS2
      iexists _; iexact HS3
    isplitl [Hb]; · iexact Hb
    iexact Hg

/-- What the call's loop is proved with: the arrays as found, each input's buffer at its block, the result's at the block computed. -/
def dat2 (c : Dev nD) : Dat τ (Elt F) Unit ℕ (UR sig nD τ) ℕ cfg2 c where
  A w := W c (Proc.devRef .tc (Pipeline.arrRef spec2 w))
  after w t := match w with
    | ⟨0, _⟩ => blk2 W c 0 t
    | ⟨1, _⟩ => blk2 W c 1 t
    | ⟨2, _⟩ => blk2 W c 2 t
    | ⟨3, _⟩ => blk2 W c 3 t
    | ⟨4, _⟩ => blk2 W c 4 t
    | ⟨5, _⟩ => blk2 W c 5 t
    | ⟨6, _⟩ => blk2 W c 6 t
    | ⟨7, _⟩ => blk2 W c 7 t
    | ⟨8, _⟩ => blk2 W c 8 t
    | ⟨9, _⟩ => smpAt2 W c t
  Φ t := inv2 W c t.val
  q _ := fullShare
  owed _ := 0

theorem after2_0 (c : Dev nD) (t : Fin cfg2.N) : (dat2 W c).after 0 t = blk2 W c 0 t := by dsimp only [dat2]
theorem before2_0 (c : Dev nD) (t : Fin cfg2.N) (d) : (dat2 W c).before 0 t d = blk2 W c 0 t :=
  ((dat2 W c).before_in_eq_fetched 0 rfl (fun _ => rfl) (fun _ _ _ => rfl) (fun t => by rw [after2_0]; unfold Dat.blockOf blk2; dsimp only [dat2]; try rfl) t d).trans
    (by unfold Dat.fetched Dat.blockOf blk2; dsimp only [dat2]; try rfl)
theorem after2_1 (c : Dev nD) (t : Fin cfg2.N) : (dat2 W c).after 1 t = blk2 W c 1 t := by dsimp only [dat2]
theorem before2_1 (c : Dev nD) (t : Fin cfg2.N) (d) : (dat2 W c).before 1 t d = blk2 W c 1 t :=
  ((dat2 W c).before_in_eq_fetched 1 rfl (fun _ => rfl) (fun _ _ _ => rfl) (fun t => by rw [after2_1]; unfold Dat.blockOf blk2; dsimp only [dat2]; try rfl) t d).trans
    (by unfold Dat.fetched Dat.blockOf blk2; dsimp only [dat2]; try rfl)
theorem after2_2 (c : Dev nD) (t : Fin cfg2.N) : (dat2 W c).after 2 t = blk2 W c 2 t := by dsimp only [dat2]
theorem before2_2 (c : Dev nD) (t : Fin cfg2.N) (d) : (dat2 W c).before 2 t d = blk2 W c 2 t :=
  ((dat2 W c).before_in_eq_fetched 2 rfl (fun _ => rfl) (fun _ _ _ => rfl) (fun t => by rw [after2_2]; unfold Dat.blockOf blk2; dsimp only [dat2]; try rfl) t d).trans
    (by unfold Dat.fetched Dat.blockOf blk2; dsimp only [dat2]; try rfl)
theorem after2_3 (c : Dev nD) (t : Fin cfg2.N) : (dat2 W c).after 3 t = blk2 W c 3 t := by dsimp only [dat2]
theorem before2_3 (c : Dev nD) (t : Fin cfg2.N) (d) : (dat2 W c).before 3 t d = blk2 W c 3 t :=
  ((dat2 W c).before_in_eq_fetched 3 rfl (fun _ => rfl) (fun _ _ _ => rfl) (fun t => by rw [after2_3]; unfold Dat.blockOf blk2; dsimp only [dat2]; try rfl) t d).trans
    (by unfold Dat.fetched Dat.blockOf blk2; dsimp only [dat2]; try rfl)
theorem after2_4 (c : Dev nD) (t : Fin cfg2.N) : (dat2 W c).after 4 t = blk2 W c 4 t := by dsimp only [dat2]
theorem before2_4 (c : Dev nD) (t : Fin cfg2.N) (d) : (dat2 W c).before 4 t d = blk2 W c 4 t :=
  ((dat2 W c).before_in_eq_fetched 4 rfl (fun _ => rfl) (fun _ _ _ => rfl) (fun t => by rw [after2_4]; unfold Dat.blockOf blk2; dsimp only [dat2]; try rfl) t d).trans
    (by unfold Dat.fetched Dat.blockOf blk2; dsimp only [dat2]; try rfl)
theorem after2_5 (c : Dev nD) (t : Fin cfg2.N) : (dat2 W c).after 5 t = blk2 W c 5 t := by dsimp only [dat2]
theorem before2_5 (c : Dev nD) (t : Fin cfg2.N) (d) : (dat2 W c).before 5 t d = blk2 W c 5 t :=
  ((dat2 W c).before_in_eq_fetched 5 rfl (fun _ => rfl) (fun _ _ _ => rfl) (fun t => by rw [after2_5]; unfold Dat.blockOf blk2; dsimp only [dat2]; try rfl) t d).trans
    (by unfold Dat.fetched Dat.blockOf blk2; dsimp only [dat2]; try rfl)
theorem after2_6 (c : Dev nD) (t : Fin cfg2.N) : (dat2 W c).after 6 t = blk2 W c 6 t := by dsimp only [dat2]
theorem before2_6 (c : Dev nD) (t : Fin cfg2.N) (d) : (dat2 W c).before 6 t d = blk2 W c 6 t :=
  ((dat2 W c).before_in_eq_fetched 6 rfl (fun _ => rfl) (fun _ _ _ => rfl) (fun t => by rw [after2_6]; unfold Dat.blockOf blk2; dsimp only [dat2]; try rfl) t d).trans
    (by unfold Dat.fetched Dat.blockOf blk2; dsimp only [dat2]; try rfl)
theorem after2_7 (c : Dev nD) (t : Fin cfg2.N) : (dat2 W c).after 7 t = blk2 W c 7 t := by dsimp only [dat2]
theorem before2_7 (c : Dev nD) (t : Fin cfg2.N) (d) : (dat2 W c).before 7 t d = blk2 W c 7 t :=
  ((dat2 W c).before_in_eq_fetched 7 rfl (fun _ => rfl) (fun _ _ _ => rfl) (fun t => by rw [after2_7]; unfold Dat.blockOf blk2; dsimp only [dat2]; try rfl) t d).trans
    (by unfold Dat.fetched Dat.blockOf blk2; dsimp only [dat2]; try rfl)
theorem after2_8 (c : Dev nD) (t : Fin cfg2.N) : (dat2 W c).after 8 t = blk2 W c 8 t := by dsimp only [dat2]
theorem before2_8 (c : Dev nD) (t : Fin cfg2.N) (d) : (dat2 W c).before 8 t d = blk2 W c 8 t :=
  ((dat2 W c).before_in_eq_fetched 8 rfl (fun _ => rfl) (fun _ _ _ => rfl) (fun t => by rw [after2_8]; unfold Dat.blockOf blk2; dsimp only [dat2]; try rfl) t d).trans
    (by unfold Dat.fetched Dat.blockOf blk2; dsimp only [dat2]; try rfl)
theorem after2_9 (c : Dev nD) (t : Fin cfg2.N) : (dat2 W c).after 9 t = smpAt2 W c t := by dsimp only [dat2]

/-- What the body is called with at point `t`. -/
def bodyPre2 (c : Dev nD) (t : Fin cfg2.N) : sProp 𝕄 :=
  iprop((dat2 W c).Φ t.castSucc ∗ (dat2 W c).owesAt () t.castSucc
    ∗ (∃ d, owns (c : Thread nD τ) (win2_0.stage (cfg2.slots t 0) : Memref sig .tc .smem S1 .i32) fullShare ((dat2 W c).before 0 t d))
    ∗ (∃ d, owns (c : Thread nD τ) (win2_1.stage (cfg2.slots t 1) : Memref sig .tc .vmem S1x1x256 .bf16) fullShare ((dat2 W c).before 1 t d))
    ∗ (∃ d, owns (c : Thread nD τ) (win2_2.stage (cfg2.slots t 2) : Memref sig .tc .vmem S256x256 .bf16) fullShare ((dat2 W c).before 2 t d))
    ∗ (∃ d, owns (c : Thread nD τ) (win2_3.stage (cfg2.slots t 3) : Memref sig .tc .vmem S32x256 .bf16) fullShare ((dat2 W c).before 3 t d))
    ∗ (∃ d, owns (c : Thread nD τ) (win2_4.stage (cfg2.slots t 4) : Memref sig .tc .vmem S1x256 .f32) fullShare ((dat2 W c).before 4 t d))
    ∗ (∃ d, owns (c : Thread nD τ) (win2_5.stage (cfg2.slots t 5) : Memref sig .tc .vmem S256x1 .bf16) fullShare ((dat2 W c).before 5 t d))
    ∗ (∃ d, owns (c : Thread nD τ) (win2_6.stage (cfg2.slots t 6) : Memref sig .tc .vmem S1x1 .f32) fullShare ((dat2 W c).before 6 t d))
    ∗ (∃ d, owns (c : Thread nD τ) (win2_7.stage (cfg2.slots t 7) : Memref sig .tc .vmem S1x2048x32 .f32) fullShare ((dat2 W c).before 7 t d))
    ∗ (∃ d, owns (c : Thread nD τ) (win2_8.stage (cfg2.slots t 8) : Memref sig .tc .vmem S2x32 .f32) fullShare ((dat2 W c).before 8 t d))
    ∗ (∃ d, owns (c : Thread nD τ) (win2_9.stage (cfg2.slots t 9) : Memref sig .tc .vmem S1x256x32 .f32) fullShare ((dat2 W c).before 9 t d)))

/-- What it returns. -/
def bodyPost2 (c : Dev nD) (t : Fin cfg2.N) : sProp 𝕄 :=
  iprop((dat2 W c).Φ t.succ ∗ (dat2 W c).owesAt () t.succ
    ∗ owns (c : Thread nD τ) (win2_0.stage (cfg2.slots t 0) : Memref sig .tc .smem S1 .i32) fullShare ((dat2 W c).after 0 t)
    ∗ owns (c : Thread nD τ) (win2_1.stage (cfg2.slots t 1) : Memref sig .tc .vmem S1x1x256 .bf16) fullShare ((dat2 W c).after 1 t)
    ∗ owns (c : Thread nD τ) (win2_2.stage (cfg2.slots t 2) : Memref sig .tc .vmem S256x256 .bf16) fullShare ((dat2 W c).after 2 t)
    ∗ owns (c : Thread nD τ) (win2_3.stage (cfg2.slots t 3) : Memref sig .tc .vmem S32x256 .bf16) fullShare ((dat2 W c).after 3 t)
    ∗ owns (c : Thread nD τ) (win2_4.stage (cfg2.slots t 4) : Memref sig .tc .vmem S1x256 .f32) fullShare ((dat2 W c).after 4 t)
    ∗ owns (c : Thread nD τ) (win2_5.stage (cfg2.slots t 5) : Memref sig .tc .vmem S256x1 .bf16) fullShare ((dat2 W c).after 5 t)
    ∗ owns (c : Thread nD τ) (win2_6.stage (cfg2.slots t 6) : Memref sig .tc .vmem S1x1 .f32) fullShare ((dat2 W c).after 6 t)
    ∗ owns (c : Thread nD τ) (win2_7.stage (cfg2.slots t 7) : Memref sig .tc .vmem S1x2048x32 .f32) fullShare ((dat2 W c).after 7 t)
    ∗ owns (c : Thread nD τ) (win2_8.stage (cfg2.slots t 8) : Memref sig .tc .vmem S2x32 .f32) fullShare ((dat2 W c).after 8 t)
    ∗ owns (c : Thread nD τ) (win2_9.stage (cfg2.slots t 9) : Memref sig .tc .vmem S1x256x32 .f32) fullShare ((dat2 W c).after 9 t))

set_option maxHeartbeats 4000000 in
/-- The body at any point does what the loop's proof asks of it. -/
theorem sound2 (c : Dev nD) (t : Fin cfg2.N) :
    bodyPre2 W c t ⊢ wp frame (wpE (defs₀ (F := F)) Variants.none c none) Set.univ (bodyAt2 t) (fun _ => bodyPost2 W c t) := by
  unfold bodyPre2 bodyPost2 bodyAt2
  simp only [before2_0, before2_1, before2_2, before2_3, before2_4, before2_5, before2_6, before2_7, before2_8]
  rw [show (dat2 W c).owesAt () t.succ = (dat2 W c).owesAt () t.castSucc from rfl,
    after2_0, after2_1, after2_2, after2_3, after2_4, after2_5, after2_6, after2_7, after2_8, after2_9]
  rw [show (dat2 W c).Φ t.castSucc = inv2 W c t.val from rfl, show (dat2 W c).Φ t.succ = inv2 W c (t.val + 1) from rfl,
    inv2_pos W c (t.val + 1) (Nat.succ_ne_zero _), Nat.add_sub_cancel]
  by_cases h0 : t.val % 8 = 0
  · refine (sep_mono (inv2_any W c t.val) .rfl).trans ?_
    unfold smpAt2 scE2 scS2
    rw [row2_self t h0]
    iintro ⟨⟨⟨HS0, HS1, HS2, HS3⟩, Hb, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (fill2 c (grid2.coords t) _ _ _ _ _ _ _ _ _ _ _ _ _ _ _ _ _ _ _ _ _ _ _ _ _ _ _ _ ((hcond2 t).mpr h0) (blk2 W c 0 t) (blk2 W c 1 t) (blk2 W c 2 t) (blk2 W c 3 t) (blk2 W c 4 t) (blk2 W c 5 t) (blk2 W c 6 t) (blk2 W c 7 t) (blk2 W c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hb Hg]
    · isplitl [HS0 HS1 HS2 HS3]
      · isplitl [HS0]; · iexact HS0
        isplitl [HS1]; · iexact HS1
        isplitl [HS2]; · iexact HS2
        iexact HS3
      isplitl [Hb]; · iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [inv2_pos W c t.val (fun e => h0 (by rw [e]))]
    unfold smpAt2 scE2 scS2
    rw [row2_pred t.val h0]
    iintro ⟨⟨⟨HS0, HS1, HS2, HS3⟩, Hb, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (keep2 c (grid2.coords t) _ _ _ _ _ _ _ _ _ _ _ _ _ _ _ _ _ _ _ _ _ _ _ _ _ _ _ _ (fun hc => h0 ((hcond2 t).mp hc)) (blk2 W c 0 t) (blk2 W c 1 t) (blk2 W c 2 t) (blk2 W c 3 t) (blk2 W c 4 t) (blk2 W c 5 t) (blk2 W c 6 t) (blk2 W c 7 t) (blk2 W c 8 t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hb Hg]
    · isplitl [HS0 HS1 HS2 HS3]
      · isplitl [HS0]; · iexact HS0
        isplitl [HS1]; · iexact HS1
        isplitl [HS2]; · iexact HS2
        iexact HS3
      isplitl [Hb]; · iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body's row of the table of bodies. -/
theorem defs2_row (t : Fin cfg2.N) : defs₀ (F := F) .tc cfg2.body (cfg2.bodyArgs t (cfg2.slots t)) = bodyAt2 t := by
  unfold defs₀; rw [Defs.onTc_tc]

theorem body2 (c : Dev nD) : BodyObligation (dat2 W c) (defs₀ (F := F)) Variants.none () Set.univ := fun t => by
  rw [bigSep_W2, bigSep_W2, defs2_row]
  exact triple_restated (sound2 W c t) rfl .rfl fun _ => .rfl

theorem in2 (c : Dev nD) : iprop(Pipeline.scopedRest spec2 c ∗ (∃ r, prngReg c r)) ⊢ (dat2 W c).Φ 0 := by
  rw [show (dat2 W c).Φ 0 = Pipeline.ΦA spec2 c from rfl]
  unfold Pipeline.ΦA
  exact .rfl

theorem out2 (c : Dev nD) : (dat2 W c).Φ (Fin.last cfg2.N) ⊢ iprop(Pipeline.scopedRest spec2 c ∗ (∃ r, prngReg c r)) := by
  rw [show (dat2 W c).Φ (Fin.last cfg2.N) = inv2 W c cfg2.N from rfl]
  refine (inv2_any W c _).trans ?_
  rw [show iprop(Pipeline.scopedRest spec2 c ∗ (∃ r, prngReg c r)) = (Pipeline.ΦA spec2 c : sProp 𝕄) from rfl, PhiA2_eq]
  iintro ⟨Hs, Hb, Hg⟩
  isplitl [Hs Hb]
  · isplitl [Hs]; · iexact Hs
    iexact Hb
  iexact Hg

end Cert.KernelIdeal.Region

end
-- ==== Proof.KernelIdeal.Run3.lean ====
/- What the body of the resampling call 3 leaves in its buffers, at a point that fills the scratch and at one that does not. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point's second coordinate decides the `scf.if`: the scratch is filled at the first of a row's eight points. -/
abbrev cond3 (i : grid3.Coords) : Prop := (Scalar.cmpi .ne (Scalar.extui (Scalar.cmpi .eq (BitVec.ofNat 32 (i 1).val) 0#32)) 0#32) = 1#1
/-- The scratch is filled at the points divisible by 8. -/
theorem hcond3 : ∀ t : Fin cfg3.N, cond3 (grid3.coords t) ↔ t.val % 8 = 0 :=
  (fun t => by
    have ht : t.val < 128 := Nat.lt_of_lt_of_eq t.isLt N_3
    have e1 : (grid3.coords t 1).val = t.val / 1 % 8 := Pipeline.Grid.coords_val t 1 (by decide) rfl
    simp only [cond3, e1]
    word_cmp
   : ∀ t : Fin grid3.N, cond3 (grid3.coords t) ↔ t.val % 8 = 0)

set_option maxHeartbeats 1600000 in
/-- The body at a point where it fills its scratch: what it leaves in the output's buffer and in the four scratch buffers, found by running it. -/
noncomputable def run3A (c : Dev nD) (i : grid3.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : cond3 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) :
    Σ' (v9 : Vec F S1x256x32 .f32), Σ' (s0 : Vec F S1x2048 .f32), Σ' (s1 : Vec F S2048x32 .bf16), Σ' (s2 : Vec F S2048x32 .bf16), { s3 : Vec F S2048x32 .bf16 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare v9 ∗ owns (c : Thread nD τ) arg12 fullShare s0 ∗ owns (c : Thread nD τ) arg13 fullShare s1 ∗ owns (c : Thread nD τ) arg14 fullShare s2 ∗ owns (c : Thread nD τ) arg15 fullShare s3) -∗ K ⟨⟩))
          ⊢ wp frame (wpE (defs₀ (F := F)) Variants.none c none) E (cc3__resample_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc3__resample_kernel_eq_skeleton]; unfold cc3__resample_kernel_skel
    simp only [k3_part2_eq_skeleton, k3_part1_eq_skeleton, k3_part3_eq_skeleton, k3_part4_eq_skeleton, k3_part5_eq_skeleton, k3_part6_eq_skeleton, k3_part7_eq_skeleton, k3_part8_eq_skeleton, k3_part9_eq_skeleton, k3_part10_eq_skeleton, k3_part11_eq_skeleton, k3_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr
      swap; · iexact H9
      ipureintro; exact View.read_writes_full _ _ _ _ _
    isplitl [HS0]
    · iexists _; isplitr
      swap; · iexact HS0
      ipureintro; exact View.read_writes_full _ _ _ _ _
    isplitl [HS1]
    · iexists _; isplitr
      swap; · iexact HS1
      ipureintro; exact View.read_writes_full _ _ _ _ _
    isplitl [HS2]
    · iexists _; isplitr
      swap; · iexact HS2
      ipureintro; exact View.read_writes_full _ _ _ _ _
    iexists _; isplitr
    swap; · iexact HS3
    ipureintro; exact View.read_writes_full _ _ _ _ _

set_option maxHeartbeats 1600000 in
/-- The body at a point where it does not fill its scratch: what it leaves in the output's buffer, found by running it. -/
noncomputable def run3B (c : Dev nD) (i : grid3.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : ¬cond3 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) (xs0 : Vec F S1x2048 .f32) (xs1 : Vec F S2048x32 .bf16) (xs2 : Vec F S2048x32 .bf16) (xs3 : Vec F S2048x32 .bf16) :
    Σ' (v9 : Vec F S1x256x32 .f32), { _u : Unit //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ owns (c : Thread nD τ) arg13 fullShare xs1 ∗ owns (c : Thread nD τ) arg14 fullShare xs2 ∗ owns (c : Thread nD τ) arg15 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare v9 ∗ owns (c : Thread nD τ) arg12 fullShare xs0 ∗ owns (c : Thread nD τ) arg13 fullShare xs1 ∗ owns (c : Thread nD τ) arg14 fullShare xs2 ∗ owns (c : Thread nD τ) arg15 fullShare xs3) -∗ K ⟨⟩))
          ⊢ wp frame (wpE (defs₀ (F := F)) Variants.none c none) E (cc3__resample_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, (), fun E K => ?run⟩
  case run =>
    simp only [cc3__resample_kernel_eq_skeleton]; unfold cc3__resample_kernel_skel
    simp only [k3_part2_eq_skeleton, k3_part3_eq_skeleton, k3_part4_eq_skeleton, k3_part5_eq_skeleton, k3_part6_eq_skeleton, k3_part7_eq_skeleton, k3_part8_eq_skeleton, k3_part9_eq_skeleton, k3_part10_eq_skeleton, k3_part11_eq_skeleton, k3_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg13.eq_unread hfs1; obtain rfl := harg14.eq_unread hfs2; obtain rfl := harg15.eq_unread hfs3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr
      swap; · iexact H9
      ipureintro; exact View.read_writes_full _ _ _ _ _
    isplitl [HS0]
    · iexists _; isplitr; · ipureintro; exact harg12.read_unread _
      iexact HS0
    isplitl [HS1]
    · iexists _; isplitr; · ipureintro; exact harg13.read_unread _
      iexact HS1
    isplitl [HS2]
    · iexists _; isplitr; · ipureintro; exact harg14.read_unread _
      iexact HS2
    iexists _; isplitr; · ipureintro; exact harg15.read_unread _
    iexact HS3

end Cert.KernelIdeal.Region

end
-- ==== Proof.KernelIdeal.Resample3.lean ====
/- The resampling call 3 as the launch needs it: what each point leaves, the invariant of its loop, the body at every point. -/
module

public import proofs.«01_k».proof.Proof.KernelIdeal.Run3
public import proofs.«01_k».proof.Proof.Common

@[expose] public section

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Common

/-- The word of the offset array that the body loads. -/
abbrev offw3 (x0 : Vec F S1 .i32) : Elt F .i32 := View.ld x0 (Rect.unit (s := S1) ![0] S1.size inb_S1_S1_0) (Shape.Idx.first (s := ⟨1, S1.size⟩) (by decide))

/-- The first and the second half of the hash of the position, as the body cuts it. -/
def hA3 (i : grid3.Coords) (v0 : Elt F .i32) : IVec S256x2048 32 := k3_pay26 (k3_pay16 (F := F) i v0) (k3_pay17 (F := F) i v0) 6#32
def hB3 (i : grid3.Coords) (v0 : Elt F .i32) : IVec S256x2048 32 := k3_pay27 (k3_pay16 (F := F) i v0) (k3_pay17 (F := F) i v0) 6#32
def hC3 (i : grid3.Coords) (v0 : Elt F .i32) : IVec S256x2048 32 := k3_pay37 (hA3 (F := F) i v0) (hB3 (F := F) i v0)
def hD3 (i : grid3.Coords) (v0 : Elt F .i32) : IVec S256x2048 32 := k3_pay38 (hA3 (F := F) i v0) (hB3 (F := F) i v0)

/-- The one-hot positions drawn: of each of the block's 256 rows the first column where the perturbed energies are largest. -/
def pick3 (i : grid3.Coords) (v0 : Elt F .i32) (e : Vec F S1x2048 .f32) : IVec S256x2048 32 :=
  k3_pay53 (F := F) (iota .tc S256x2048 32 [1] iota_S256x2048_d1_w32) (k3_pay49 (hC3 (F := F) i v0) (hD3 (F := F) i v0))
    (k3_pay50 (hC3 (F := F) i v0) (hD3 (F := F) i v0)) (k3_pay51 (hC3 (F := F) i v0) (hD3 (F := F) i v0)) k3_pay52 e

/-- The word that the noise's counter is offset by. -/
abbrev rowOff3 (i : grid3.Coords) (v0 : Elt F .i32) : BitVec 32 := Scalar.addi (BitVec.ofNat 32 (i 0).val) v0

/-- The hash of the noise, in the pieces the body cuts it into. -/
def nA3 (i : grid3.Coords) (v0 : Elt F .i32) : IVec S256x32 32 :=
  k3_pay71 (k3_pay59 (BitVec.ofNat 32 (i 1).val) (rowOff3 (F := F) i v0)) (k3_pay60 (BitVec.ofNat 32 (i 1).val) (rowOff3 (F := F) i v0)) k3_pay61
def nB3 (i : grid3.Coords) (v0 : Elt F .i32) : IVec S256x32 32 :=
  k3_pay72 (k3_pay59 (BitVec.ofNat 32 (i 1).val) (rowOff3 (F := F) i v0)) (k3_pay60 (BitVec.ofNat 32 (i 1).val) (rowOff3 (F := F) i v0)) k3_pay61
def nC3 (i : grid3.Coords) (v0 : Elt F .i32) : IVec S256x32 32 := k3_pay82 (nA3 (F := F) i v0) (nB3 (F := F) i v0) 3013727569#32
def nD3 (i : grid3.Coords) (v0 : Elt F .i32) : IVec S256x32 32 := k3_pay83 (nA3 (F := F) i v0) (nB3 (F := F) i v0) 3013727569#32
def nE3 (i : grid3.Coords) (v0 : Elt F .i32) : IVec S256x32 32 := k3_pay94 (nC3 (F := F) i v0) (nD3 (F := F) i v0)
def nF3 (i : grid3.Coords) (v0 : Elt F .i32) : IVec S256x32 32 := k3_pay95 (nC3 (F := F) i v0) (nD3 (F := F) i v0)
def nG3 (i : grid3.Coords) (v0 : Elt F .i32) : IVec S256x32 32 := k3_pay96 (nC3 (F := F) i v0) (nD3 (F := F) i v0)

/-- One row of the bounds. -/
abbrev rowLo3 (x8 : Vec F S2x32 .f32) : Vec F S1x32 .f32 := View.ld x8 (Rect.unit (s := S2x32) ![0, 0] S1x32.size inb_S2x32_S1x32_0_0)
abbrev rowHi3 (x8 : Vec F S2x32 .f32) : Vec F S1x32 .f32 := View.ld x8 (Rect.unit (s := S2x32) ![1, 0] S1x32.size inb_S2x32_S1x32_1_0)

/-- What the body stores: the rows drawn, with the noise, within the bounds. -/
def smp3 (i : grid3.Coords) (x0 : Vec F S1 .i32) (x8 : Vec F S2x32 .f32) (e : Vec F S1x2048 .f32) (hi mid lo : Vec F S2048x32 .bf16) : Vec F S1x256x32 .f32 :=
  k3_pay1 (k3_pay54 (pick3 i (offw3 x0) e) hi mid lo)
    (k3_pay97 (F := F) (nE3 (F := F) i (offw3 x0)) (nF3 (F := F) i (offw3 x0)) (nG3 (F := F) i (offw3 x0)))
    (k3_pay101 (k3_pay99 (F := F) (nE3 (F := F) i (offw3 x0)) (nF3 (F := F) i (offw3 x0)) (nG3 (F := F) i (offw3 x0)))
      (k3_pay100 (F := F) (nE3 (F := F) i (offw3 x0)) (nF3 (F := F) i (offw3 x0)) (nG3 (F := F) i (offw3 x0)))
      (FloatOps.ofBits .f32 0x32F16588#32) (FloatOps.ofBits .f32 0xB951F09B#32))
    (k3_pay102 (k3_pay97 (F := F) (nE3 (F := F) i (offw3 x0)) (nF3 (F := F) i (offw3 x0)) (nG3 (F := F) i (offw3 x0))))
    (rowLo3 x8) (rowHi3 x8)

theorem run3A_v9 (c : Dev nD) (i : grid3.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : cond3 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) :
    (run3A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).1 = smp3 i x0 x8 (k3_pay3 x7 x1 x2 x3 x4 x5 x6) (k3_pay5 x7) (k3_pay8 (k3_pay2 x7) (k3_pay4 x7)) (k3_pay9 (k3_pay2 x7) (k3_pay4 x7)) := by
  unfold run3A
  dsimp only
  sl_unfold_words
  simp only [View.readAt_eq_ld, Memref.IsWhole.read_unread, View.ld_unit_zero (S := S1) z1, View.ld_unit_zero (S := S1x2048x32) z3, View.ld_unit_zero (S := S1x1x256) z3, View.ld_unit_zero (S := S256x256) z2, View.ld_unit_zero (S := S32x256) z2, View.ld_unit_zero (S := S1x256) z2, View.ld_unit_zero (S := S256x1) z2, View.ld_unit_zero (S := S1x1) z2, View.ld_unit_zero (S := S1x2048) z2, View.ld_unit_zero (S := S2048x32) z2, View.readCov_unit_zero (S := S1x2048) _ z2, View.readCov_unit_zero (S := S2048x32) _ z2]
  all_goals (unfold smp3 pick3 nE3 nF3 nG3 nC3 nD3 nA3 nB3 hC3 hD3 hA3 hB3; rfl)

theorem run3A_s0 (c : Dev nD) (i : grid3.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : cond3 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) :
    (run3A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.1 = k3_pay3 x7 x1 x2 x3 x4 x5 x6 := by
  unfold run3A
  dsimp only
  sl_unfold_words
  simp only [View.readAt_eq_ld, Memref.IsWhole.read_unread, View.ld_unit_zero (S := S1) z1, View.ld_unit_zero (S := S1x2048x32) z3, View.ld_unit_zero (S := S1x1x256) z3, View.ld_unit_zero (S := S256x256) z2, View.ld_unit_zero (S := S32x256) z2, View.ld_unit_zero (S := S1x256) z2, View.ld_unit_zero (S := S256x1) z2, View.ld_unit_zero (S := S1x1) z2, View.ld_unit_zero (S := S1x2048) z2, View.ld_unit_zero (S := S2048x32) z2, View.readCov_unit_zero (S := S1x2048) _ z2, View.readCov_unit_zero (S := S2048x32) _ z2]
  all_goals (rfl)

theorem run3A_s1 (c : Dev nD) (i : grid3.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : cond3 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) :
    (run3A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.1 = k3_pay5 x7 := by
  unfold run3A
  dsimp only
  sl_unfold_words
  simp only [View.readAt_eq_ld, Memref.IsWhole.read_unread, View.ld_unit_zero (S := S1) z1, View.ld_unit_zero (S := S1x2048x32) z3, View.ld_unit_zero (S := S1x1x256) z3, View.ld_unit_zero (S := S256x256) z2, View.ld_unit_zero (S := S32x256) z2, View.ld_unit_zero (S := S1x256) z2, View.ld_unit_zero (S := S256x1) z2, View.ld_unit_zero (S := S1x1) z2, View.ld_unit_zero (S := S1x2048) z2, View.ld_unit_zero (S := S2048x32) z2, View.readCov_unit_zero (S := S1x2048) _ z2, View.readCov_unit_zero (S := S2048x32) _ z2]
  all_goals (rfl)

theorem run3A_s2 (c : Dev nD) (i : grid3.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : cond3 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) :
    (run3A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.1 = k3_pay8 (k3_pay2 x7) (k3_pay4 x7) := by
  unfold run3A
  dsimp only
  sl_unfold_words
  simp only [View.readAt_eq_ld, Memref.IsWhole.read_unread, View.ld_unit_zero (S := S1) z1, View.ld_unit_zero (S := S1x2048x32) z3, View.ld_unit_zero (S := S1x1x256) z3, View.ld_unit_zero (S := S256x256) z2, View.ld_unit_zero (S := S32x256) z2, View.ld_unit_zero (S := S1x256) z2, View.ld_unit_zero (S := S256x1) z2, View.ld_unit_zero (S := S1x1) z2, View.ld_unit_zero (S := S1x2048) z2, View.ld_unit_zero (S := S2048x32) z2, View.readCov_unit_zero (S := S1x2048) _ z2, View.readCov_unit_zero (S := S2048x32) _ z2]
  all_goals (rfl)

theorem run3A_s3 (c : Dev nD) (i : grid3.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : cond3 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) :
    (run3A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.2.1 = k3_pay9 (k3_pay2 x7) (k3_pay4 x7) := by
  unfold run3A
  dsimp only
  sl_unfold_words
  simp only [View.readAt_eq_ld, Memref.IsWhole.read_unread, View.ld_unit_zero (S := S1) z1, View.ld_unit_zero (S := S1x2048x32) z3, View.ld_unit_zero (S := S1x1x256) z3, View.ld_unit_zero (S := S256x256) z2, View.ld_unit_zero (S := S32x256) z2, View.ld_unit_zero (S := S1x256) z2, View.ld_unit_zero (S := S256x1) z2, View.ld_unit_zero (S := S1x1) z2, View.ld_unit_zero (S := S1x2048) z2, View.ld_unit_zero (S := S2048x32) z2, View.readCov_unit_zero (S := S1x2048) _ z2, View.readCov_unit_zero (S := S2048x32) _ z2]
  all_goals (rfl)

theorem run3B_v9 (c : Dev nD) (i : grid3.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : ¬cond3 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) (xs0 : Vec F S1x2048 .f32) (xs1 : Vec F S2048x32 .bf16) (xs2 : Vec F S2048x32 .bf16) (xs3 : Vec F S2048x32 .bf16) :
    (run3B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 xs1 xs2 xs3).1 = smp3 i x0 x8 xs0 xs1 xs2 xs3 := by
  unfold run3B
  dsimp only
  sl_unfold_words
  simp only [View.readAt_eq_ld, Memref.IsWhole.read_unread, View.ld_unit_zero (S := S1) z1, View.ld_unit_zero (S := S1x2048x32) z3, View.ld_unit_zero (S := S1x1x256) z3, View.ld_unit_zero (S := S256x256) z2, View.ld_unit_zero (S := S32x256) z2, View.ld_unit_zero (S := S1x256) z2, View.ld_unit_zero (S := S256x1) z2, View.ld_unit_zero (S := S1x1) z2, View.ld_unit_zero (S := S1x2048) z2, View.ld_unit_zero (S := S2048x32) z2, View.readCov_unit_zero (S := S1x2048) _ z2, View.readCov_unit_zero (S := S2048x32) _ z2]
  all_goals (unfold smp3 pick3 nE3 nF3 nG3 nC3 nD3 nA3 nB3 hC3 hD3 hA3 hB3; rfl)

/-- The body at a point that fills the scratch, with what it leaves spelled out. -/
theorem fill3 (c : Dev nD) (i : grid3.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : cond3 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (smp3 i x0 x8 (k3_pay3 x7 x1 x2 x3 x4 x5 x6) (k3_pay5 x7) (k3_pay8 (k3_pay2 x7) (k3_pay4 x7)) (k3_pay9 (k3_pay2 x7) (k3_pay4 x7))) ∗ owns (c : Thread nD τ) arg12 fullShare (k3_pay3 x7 x1 x2 x3 x4 x5 x6) ∗ owns (c : Thread nD τ) arg13 fullShare (k3_pay5 x7) ∗ owns (c : Thread nD τ) arg14 fullShare (k3_pay8 (k3_pay2 x7) (k3_pay4 x7)) ∗ owns (c : Thread nD τ) arg15 fullShare (k3_pay9 (k3_pay2 x7) (k3_pay4 x7))) -∗ K ⟨⟩))
      ⊢ wp frame (wpE (defs₀ (F := F)) Variants.none c none) E (cc3__resample_kernel i arg2 harg2 arg3 harg3 arg4 harg4 arg5 harg5 arg6 harg6 arg7 harg7 arg8 harg8 arg9 harg9 arg10 harg10 arg11 harg11 arg12 harg12 arg13 harg13 arg14 harg14 arg15 harg15) K := by
  have e0 := run3A_v9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
  have e1 := run3A_s0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
  have e2 := run3A_s1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
  have e3 := run3A_s2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
  have e4 := run3A_s3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
  obtain ⟨X, hX⟩ : ∃ X, X = run3A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 := ⟨_, rfl⟩
  rw [← hX] at e0 e1 e2 e3 e4
  clear hX
  obtain ⟨v9, s0, s1, s2, s3, hp⟩ := X
  subst e0 e1 e2 e3 e4
  exact hp E K

/-- The body at a point that finds the scratch filled, with what it leaves spelled out. -/
theorem keep3 (c : Dev nD) (i : grid3.Coords) (arg2 : Memref sig .tc .smem S1 .i32) (harg2 : arg2.IsWhole) (arg3 : Memref sig .tc .vmem S1x1x256 .bf16) (harg3 : arg3.IsWhole) (arg4 : Memref sig .tc .vmem S256x256 .bf16) (harg4 : arg4.IsWhole) (arg5 : Memref sig .tc .vmem S32x256 .bf16) (harg5 : arg5.IsWhole) (arg6 : Memref sig .tc .vmem S1x256 .f32) (harg6 : arg6.IsWhole) (arg7 : Memref sig .tc .vmem S256x1 .bf16) (harg7 : arg7.IsWhole) (arg8 : Memref sig .tc .vmem S1x1 .f32) (harg8 : arg8.IsWhole) (arg9 : Memref sig .tc .vmem S1x2048x32 .f32) (harg9 : arg9.IsWhole) (arg10 : Memref sig .tc .vmem S2x32 .f32) (harg10 : arg10.IsWhole) (arg11 : Memref sig .tc .vmem S1x256x32 .f32) (harg11 : arg11.IsWhole) (arg12 : Memref sig .tc .vmem S1x2048 .f32) (harg12 : arg12.IsWhole) (arg13 : Memref sig .tc .vmem S2048x32 .bf16) (harg13 : arg13.IsWhole) (arg14 : Memref sig .tc .vmem S2048x32 .bf16) (harg14 : arg14.IsWhole) (arg15 : Memref sig .tc .vmem S2048x32 .bf16) (harg15 : arg15.IsWhole) (hc0 : ¬cond3 i)
    (x0 : Vec F S1 .i32) (x1 : Vec F S1x1x256 .bf16) (x2 : Vec F S256x256 .bf16) (x3 : Vec F S32x256 .bf16) (x4 : Vec F S1x256 .f32) (x5 : Vec F S256x1 .bf16) (x6 : Vec F S1x1 .f32) (x7 : Vec F S1x2048x32 .f32) (x8 : Vec F S2x32 .f32) (xs0 : Vec F S1x2048 .f32) (xs1 : Vec F S2048x32 .bf16) (xs2 : Vec F S2048x32 .bf16) (xs3 : Vec F S2048x32 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ owns (c : Thread nD τ) arg13 fullShare xs1 ∗ owns (c : Thread nD τ) arg14 fullShare xs2 ∗ owns (c : Thread nD τ) arg15 fullShare xs3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (smp3 i x0 x8 xs0 xs1 xs2 xs3) ∗ owns (c : Thread nD τ) arg12 fullShare xs0 ∗ owns (c : Thread nD τ) arg13 fullShare xs1 ∗ owns (c : Thread nD τ) arg14 fullShare xs2 ∗ owns (c : Thread nD τ) arg15 fullShare xs3) -∗ K ⟨⟩))
      ⊢ wp frame (wpE (defs₀ (F := F)) Variants.none c none) E (cc3__resample_kernel i arg2 harg2 arg3 harg3 arg4 harg4 arg5 harg5 arg6 harg6 arg7 harg7 arg8 harg8 arg9 harg9 arg10 harg10 arg11 harg11 arg12 harg12 arg13 harg13 arg14 harg14 arg15 harg15) K := by
  have e0 := run3B_v9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 xs1 xs2 xs3
  obtain ⟨X, hX⟩ : ∃ X, X = run3B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 xs1 xs2 xs3 := ⟨_, rfl⟩
  rw [← hX] at e0
  clear hX
  obtain ⟨v9, u, hp⟩ := X
  dsimp only at e0
  subst e0
  exact hp E K

variable (W : Dev nD → Valuation τ sig (Elt F))

/-- The block of window `w` that point `t` works on, cut out of the array as the call finds it. -/
def blk3 (c : Dev nD) (w : Fin cfg3.W) (t : Fin cfg3.N) : ((cfg3.win w).xblock (cfg3.grid.coords t)).Idx → Elt F (cfg3.win w).elt :=
  ((cfg3.win w).blk t).view.read (Elt F) (W c (Proc.devRef .tc (Pipeline.arrRef spec3 w)))

/-- The point at which the scratch that point `n` works with was filled. -/
def row3 (n : ℕ) : Fin cfg3.N := ⟨8 * (n / 8) % 128, lt_of_lt_of_eq (Nat.mod_lt _ (by decide)) N_3.symm⟩

theorem row3_self (t : Fin cfg3.N) (h : t.val % 8 = 0) : row3 t.val = t := by
  have ht : t.val < 128 := lt_of_lt_of_eq t.isLt N_3
  apply Fin.ext; show 8 * (t.val / 8) % 128 = t.val; omega

theorem row3_pred (n : ℕ) (h : ¬n % 8 = 0) : row3 n = row3 (n - 1) := by
  apply Fin.ext; show 8 * (n / 8) % 128 = 8 * ((n - 1) / 8) % 128; omega

/-- The energies in the scratch at point `n`, and the samples they are of. -/
def scE3 (c : Dev nD) (n : ℕ) : Vec F S1x2048 .f32 := k3_pay3 (blk3 W c 7 (row3 n)) (blk3 W c 1 (row3 n)) (blk3 W c 2 (row3 n)) (blk3 W c 3 (row3 n)) (blk3 W c 4 (row3 n)) (blk3 W c 5 (row3 n)) (blk3 W c 6 (row3 n))
def scS3 (c : Dev nD) (n : ℕ) : Vec F S1x2048x32 .f32 := blk3 W c 7 (row3 n)

/-- The block of the result at point `n`. -/
def smpAt3 (c : Dev nD) (t : Fin cfg3.N) : Vec F S1x256x32 .f32 :=
  smp3 (grid3.coords t) (blk3 W c 0 t) (blk3 W c 8 t) (scE3 W c t.val) (k3_pay5 (scS3 W c t.val)) (k3_pay8 (k3_pay2 (scS3 W c t.val)) (k3_pay4 (scS3 W c t.val))) (k3_pay9 (k3_pay2 (scS3 W c t.val)) (k3_pay4 (scS3 W c t.val)))

abbrev sm3_0 : Memref sig .tc .vmem S1x2048 .f32 := Memref.whole cc3_scratch0
abbrev sm3_1 : Memref sig .tc .vmem S2048x32 .bf16 := Memref.whole cc3_scratch1
abbrev sm3_2 : Memref sig .tc .vmem S2048x32 .bf16 := Memref.whole cc3_scratch2
abbrev sm3_3 : Memref sig .tc .vmem S2048x32 .bf16 := Memref.whole cc3_scratch3

/-- Before point `n`: at the start the scratch holds anything, later what the point before left. -/
def inv3 (c : Dev nD) : ℕ → sProp 𝕄
  | 0 => Pipeline.ΦA spec3 c
  | n + 1 => iprop((owns (c : Thread nD τ) sm3_0 fullShare (scE3 W c n) ∗ owns (c : Thread nD τ) sm3_1 fullShare (k3_pay5 (scS3 W c n)) ∗ owns (c : Thread nD τ) sm3_2 fullShare (k3_pay8 (k3_pay2 (scS3 W c n)) (k3_pay4 (scS3 W c n))) ∗ owns (c : Thread nD τ) sm3_3 fullShare (k3_pay9 (k3_pay2 (scS3 W c n)) (k3_pay4 (scS3 W c n)))) ∗ Pipeline.scopedRestBut (Ix := Unit) (Name := ℕ) (U := UR sig nD τ) (Lvl := ℕ) (Val := Elt F) spec3 c [cc3_scratch0, cc3_scratch1, cc3_scratch2, cc3_scratch3] ∗ (∃ r, prngReg c r))

theorem inv3_pos (c : Dev nD) (n : ℕ) (h : n ≠ 0) :
    inv3 W c n = iprop((owns (c : Thread nD τ) sm3_0 fullShare (scE3 W c (n - 1)) ∗ owns (c : Thread nD τ) sm3_1 fullShare (k3_pay5 (scS3 W c (n - 1))) ∗ owns (c : Thread nD τ) sm3_2 fullShare (k3_pay8 (k3_pay2 (scS3 W c (n - 1))) (k3_pay4 (scS3 W c (n - 1)))) ∗ owns (c : Thread nD τ) sm3_3 fullShare (k3_pay9 (k3_pay2 (scS3 W c (n - 1))) (k3_pay4 (scS3 W c (n - 1))))) ∗ Pipeline.scopedRestBut (Ix := Unit) (Name := ℕ) (U := UR sig nD τ) (Lvl := ℕ) (Val := Elt F) spec3 c [cc3_scratch0, cc3_scratch1, cc3_scratch2, cc3_scratch3] ∗ (∃ r, prngReg c r)) := by
  cases n with
  | zero => exact absurd rfl h
  | succ n => rfl

theorem PhiA3_eq (c : Dev nD) : (Pipeline.ΦA spec3 c : sProp 𝕄) = iprop((((∃ d, owns (c : Thread nD τ) sm3_0 fullShare d) ∗ (∃ d, owns (c : Thread nD τ) sm3_1 fullShare d) ∗ (∃ d, owns (c : Thread nD τ) sm3_2 fullShare d) ∗ (∃ d, owns (c : Thread nD τ) sm3_3 fullShare d)) ∗ Pipeline.scopedRestBut (Ix := Unit) (Name := ℕ) (U := UR sig nD τ) (Lvl := ℕ) (Val := Elt F) spec3 c [cc3_scratch0, cc3_scratch1, cc3_scratch2, cc3_scratch3]) ∗ (∃ r, prngReg c r)) := by
  unfold Pipeline.ΦA; rw [scopedRest3_split]; simp only [sm3_0, sm3_1, sm3_2, sm3_3, owns_whole]; try rfl

/-- In any case the scratch holds something. -/
theorem inv3_any (c : Dev nD) (n : ℕ) : inv3 W c n ⊢ iprop(((∃ d, owns (c : Thread nD τ) sm3_0 fullShare d) ∗ (∃ d, owns (c : Thread nD τ) sm3_1 fullShare d) ∗ (∃ d, owns (c : Thread nD τ) sm3_2 fullShare d) ∗ (∃ d, owns (c : Thread nD τ) sm3_3 fullShare d)) ∗ Pipeline.scopedRestBut (Ix := Unit) (Name := ℕ) (U := UR sig nD τ) (Lvl := ℕ) (Val := Elt F) spec3 c [cc3_scratch0, cc3_scratch1, cc3_scratch2, cc3_scratch3] ∗ (∃ r, prngReg c r)) := by
  cases n with
  | zero =>
    show Pipeline.ΦA spec3 c ⊢ _
    rw [PhiA3_eq]
    iintro ⟨⟨Hs, Hb⟩, Hg⟩
    isplitl [Hs]; · iexact Hs
    isplitl [Hb]; · iexact Hb
    iexact Hg
  | succ n =>
    unfold inv3
    iintro ⟨⟨HS0, HS1, HS2, HS3⟩, Hb, Hg⟩
    isplitl [HS0 HS1 HS2 HS3]
    · isplitl [HS0]; · iexists _; iexact HS0
      isplitl [HS1]; · iexists _; iexact HS1
      isplitl [HS2]; · iexists _; iexact HS2
      iexists _; iexact HS3
    isplitl [Hb]; · iexact Hb
    iexact Hg

/-- What the call's loop is proved with: the arrays as found, each input's buffer at its block, the result's at the block computed. -/
def dat3 (c : Dev nD) : Dat τ (Elt F) Unit ℕ (UR sig nD τ) ℕ cfg3 c where
  A w := W c (Proc.devRef .tc (Pipeline.arrRef spec3 w))
  after w t := match w with
    | ⟨0, _⟩ => blk3 W c 0 t
    | ⟨1, _⟩ => blk3 W c 1 t
    | ⟨2, _⟩ => blk3 W c 2 t
    | ⟨3, _⟩ => blk3 W c 3 t
    | ⟨4, _⟩ => blk3 W c 4 t
    | ⟨5, _⟩ => blk3 W c 5 t
    | ⟨6, _⟩ => blk3 W c 6 t
    | ⟨7, _⟩ => blk3 W c 7 t
    | ⟨8, _⟩ => blk3 W c 8 t
    | ⟨9, _⟩ => smpAt3 W c t
  Φ t := inv3 W c t.val
  q _ := fullShare
  owed _ := 0

theorem after3_0 (c : Dev nD) (t : Fin cfg3.N) : (dat3 W c).after 0 t = blk3 W c 0 t := by dsimp only [dat3]
theorem before3_0 (c : Dev nD) (t : Fin cfg3.N) (d) : (dat3 W c).before 0 t d = blk3 W c 0 t :=
  ((dat3 W c).before_in_eq_fetched 0 rfl (fun _ => rfl) (fun _ _ _ => rfl) (fun t => by rw [after3_0]; unfold Dat.blockOf blk3; dsimp only [dat3]; try rfl) t d).trans
    (by unfold Dat.fetched Dat.blockOf blk3; dsimp only [dat3]; try rfl)
theorem after3_1 (c : Dev nD) (t : Fin cfg3.N) : (dat3 W c).after 1 t = blk3 W c 1 t := by dsimp only [dat3]
theorem before3_1 (c : Dev nD) (t : Fin cfg3.N) (d) : (dat3 W c).before 1 t d = blk3 W c 1 t :=
  ((dat3 W c).before_in_eq_fetched 1 rfl (fun _ => rfl) (fun _ _ _ => rfl) (fun t => by rw [after3_1]; unfold Dat.blockOf blk3; dsimp only [dat3]; try rfl) t d).trans
    (by unfold Dat.fetched Dat.blockOf blk3; dsimp only [dat3]; try rfl)
theorem after3_2 (c : Dev nD) (t : Fin cfg3.N) : (dat3 W c).after 2 t = blk3 W c 2 t := by dsimp only [dat3]
theorem before3_2 (c : Dev nD) (t : Fin cfg3.N) (d) : (dat3 W c).before 2 t d = blk3 W c 2 t :=
  ((dat3 W c).before_in_eq_fetched 2 rfl (fun _ => rfl) (fun _ _ _ => rfl) (fun t => by rw [after3_2]; unfold Dat.blockOf blk3; dsimp only [dat3]; try rfl) t d).trans
    (by unfold Dat.fetched Dat.blockOf blk3; dsimp only [dat3]; try rfl)
theorem after3_3 (c : Dev nD) (t : Fin cfg3.N) : (dat3 W c).after 3 t = blk3 W c 3 t := by dsimp only [dat3]
theorem before3_3 (c : Dev nD) (t : Fin cfg3.N) (d) : (dat3 W c).before 3 t d = blk3 W c 3 t :=
  ((dat3 W c).before_in_eq_fetched 3 rfl (fun _ => rfl) (fun _ _ _ => rfl) (fun t => by rw [after3_3]; unfold Dat.blockOf blk3; dsimp only [dat3]; try rfl) t d).trans
    (by unfold Dat.fetched Dat.blockOf blk3; dsimp only [dat3]; try rfl)
theorem after3_4 (c : Dev nD) (t : Fin cfg3.N) : (dat3 W c).after 4 t = blk3 W c 4 t := by dsimp only [dat3]
theorem before3_4 (c : Dev nD) (t : Fin cfg3.N) (d) : (dat3 W c).before 4 t d = blk3 W c 4 t :=
  ((dat3 W c).before_in_eq_fetched 4 rfl (fun _ => rfl) (fun _ _ _ => rfl) (fun t => by rw [after3_4]; unfold Dat.blockOf blk3; dsimp only [dat3]; try rfl) t d).trans
    (by unfold Dat.fetched Dat.blockOf blk3; dsimp only [dat3]; try rfl)
theorem after3_5 (c : Dev nD) (t : Fin cfg3.N) : (dat3 W c).after 5 t = blk3 W c 5 t := by dsimp only [dat3]
theorem before3_5 (c : Dev nD) (t : Fin cfg3.N) (d) : (dat3 W c).before 5 t d = blk3 W c 5 t :=
  ((dat3 W c).before_in_eq_fetched 5 rfl (fun _ => rfl) (fun _ _ _ => rfl) (fun t => by rw [after3_5]; unfold Dat.blockOf blk3; dsimp only [dat3]; try rfl) t d).trans
    (by unfold Dat.fetched Dat.blockOf blk3; dsimp only [dat3]; try rfl)
theorem after3_6 (c : Dev nD) (t : Fin cfg3.N) : (dat3 W c).after 6 t = blk3 W c 6 t := by dsimp only [dat3]
theorem before3_6 (c : Dev nD) (t : Fin cfg3.N) (d) : (dat3 W c).before 6 t d = blk3 W c 6 t :=
  ((dat3 W c).before_in_eq_fetched 6 rfl (fun _ => rfl) (fun _ _ _ => rfl) (fun t => by rw [after3_6]; unfold Dat.blockOf blk3; dsimp only [dat3]; try rfl) t d).trans
    (by unfold Dat.fetched Dat.blockOf blk3; dsimp only [dat3]; try rfl)
theorem after3_7 (c : Dev nD) (t : Fin cfg3.N) : (dat3 W c).after 7 t = blk3 W c 7 t := by dsimp only [dat3]
theorem before3_7 (c : Dev nD) (t : Fin cfg3.N) (d) : (dat3 W c).before 7 t d = blk3 W c 7 t :=
  ((dat3 W c).before_in_eq_fetched 7 rfl (fun _ => rfl) (fun _ _ _ => rfl) (fun t => by rw [after3_7]; unfold Dat.blockOf blk3; dsimp only [dat3]; try rfl) t d).trans
    (by unfold Dat.fetched Dat.blockOf blk3; dsimp only [dat3]; try rfl)
theorem after3_8 (c : Dev nD) (t : Fin cfg3.N) : (dat3 W c).after 8 t = blk3 W c 8 t := by dsimp only [dat3]
theorem before3_8 (c : Dev nD) (t : Fin cfg3.N) (d) : (dat3 W c).before 8 t d = blk3 W c 8 t :=
  ((dat3 W c).before_in_eq_fetched 8 rfl (fun _ => rfl) (fun _ _ _ => rfl) (fun t => by rw [after3_8]; unfold Dat.blockOf blk3; dsimp only [dat3]; try rfl) t d).trans
    (by unfold Dat.fetched Dat.blockOf blk3; dsimp only [dat3]; try rfl)
theorem after3_9 (c : Dev nD) (t : Fin cfg3.N) : (dat3 W c).after 9 t = smpAt3 W c t := by dsimp only [dat3]

/-- What the body is called with at point `t`. -/
def bodyPre3 (c : Dev nD) (t : Fin cfg3.N) : sProp 𝕄 :=
  iprop((dat3 W c).Φ t.castSucc ∗ (dat3 W c).owesAt () t.castSucc
    ∗ (∃ d, owns (c : Thread nD τ) (win3_0.stage (cfg3.slots t 0) : Memref sig .tc .smem S1 .i32) fullShare ((dat3 W c).before 0 t d))
    ∗ (∃ d, owns (c : Thread nD τ) (win3_1.stage (cfg3.slots t 1) : Memref sig .tc .vmem S1x1x256 .bf16) fullShare ((dat3 W c).before 1 t d))
    ∗ (∃ d, owns (c : Thread nD τ) (win3_2.stage (cfg3.slots t 2) : Memref sig .tc .vmem S256x256 .bf16) fullShare ((dat3 W c).before 2 t d))
    ∗ (∃ d, owns (c : Thread nD τ) (win3_3.stage (cfg3.slots t 3) : Memref sig .tc .vmem S32x256 .bf16) fullShare ((dat3 W c).before 3 t d))
    ∗ (∃ d, owns (c : Thread nD τ) (win3_4.stage (cfg3.slots t 4) : Memref sig .tc .vmem S1x256 .f32) fullShare ((dat3 W c).before 4 t d))
    ∗ (∃ d, owns (c : Thread nD τ) (win3_5.stage (cfg3.slots t 5) : Memref sig .tc .vmem S256x1 .bf16) fullShare ((dat3 W c).before 5 t d))
    ∗ (∃ d, owns (c : Thread nD τ) (win3_6.stage (cfg3.slots t 6) : Memref sig .tc .vmem S1x1 .f32) fullShare ((dat3 W c).before 6 t d))
    ∗ (∃ d, owns (c : Thread nD τ) (win3_7.stage (cfg3.slots t 7) : Memref sig .tc .vmem S1x2048x32 .f32) fullShare ((dat3 W c).before 7 t d))
    ∗ (∃ d, owns (c : Thread nD τ) (win3_8.stage (cfg3.slots t 8) : Memref sig .tc .vmem S2x32 .f32) fullShare ((dat3 W c).before 8 t d))
    ∗ (∃ d, owns (c : Thread nD τ) (win3_9.stage (cfg3.slots t 9) : Memref sig .tc .vmem S1x256x32 .f32) fullShare ((dat3 W c).before 9 t d)))

/-- What it returns. -/
def bodyPost3 (c : Dev nD) (t : Fin cfg3.N) : sProp 𝕄 :=
  iprop((dat3 W c).Φ t.succ ∗ (dat3 W c).owesAt () t.succ
    ∗ owns (c : Thread nD τ) (win3_0.stage (cfg3.slots t 0) : Memref sig .tc .smem S1 .i32) fullShare ((dat3 W c).after 0 t)
    ∗ owns (c : Thread nD τ) (win3_1.stage (cfg3.slots t 1) : Memref sig .tc .vmem S1x1x256 .bf16) fullShare ((dat3 W c).after 1 t)
    ∗ owns (c : Thread nD τ) (win3_2.stage (cfg3.slots t 2) : Memref sig .tc .vmem S256x256 .bf16) fullShare ((dat3 W c).after 2 t)
    ∗ owns (c : Thread nD τ) (win3_3.stage (cfg3.slots t 3) : Memref sig .tc .vmem S32x256 .bf16) fullShare ((dat3 W c).after 3 t)
    ∗ owns (c : Thread nD τ) (win3_4.stage (cfg3.slots t 4) : Memref sig .tc .vmem S1x256 .f32) fullShare ((dat3 W c).after 4 t)
    ∗ owns (c : Thread nD τ) (win3_5.stage (cfg3.slots t 5) : Memref sig .tc .vmem S256x1 .bf16) fullShare ((dat3 W c).after 5 t)
    ∗ owns (c : Thread nD τ) (win3_6.stage (cfg3.slots t 6) : Memref sig .tc .vmem S1x1 .f32) fullShare ((dat3 W c).after 6 t)
    ∗ owns (c : Thread nD τ) (win3_7.stage (cfg3.slots t 7) : Memref sig .tc .vmem S1x2048x32 .f32) fullShare ((dat3 W c).after 7 t)
    ∗ owns (c : Thread nD τ) (win3_8.stage (cfg3.slots t 8) : Memref sig .tc .vmem S2x32 .f32) fullShare ((dat3 W c).after 8 t)
    ∗ owns (c : Thread nD τ) (win3_9.stage (cfg3.slots t 9) : Memref sig .tc .vmem S1x256x32 .f32) fullShare ((dat3 W c).after 9 t))

set_option maxHeartbeats 4000000 in
/-- The body at any point does what the loop's proof asks of it. -/
theorem sound3 (c : Dev nD) (t : Fin cfg3.N) :
    bodyPre3 W c t ⊢ wp frame (wpE (defs₀ (F := F)) Variants.none c none) Set.univ (bodyAt3 t) (fun _ => bodyPost3 W c t) := by
  unfold bodyPre3 bodyPost3 bodyAt3
  simp only [before3_0, before3_1, before3_2, before3_3, before3_4, before3_5, before3_6, before3_7, before3_8]
  rw [show (dat3 W c).owesAt () t.succ = (dat3 W c).owesAt () t.castSucc from rfl,
    after3_0, after3_1, after3_2, after3_3, after3_4, after3_5, after3_6, after3_7, after3_8, after3_9]
  rw [show (dat3 W c).Φ t.castSucc = inv3 W c t.val from rfl, show (dat3 W c).Φ t.succ = inv3 W c (t.val + 1) from rfl,
    inv3_pos W c (t.val + 1) (Nat.succ_ne_zero _), Nat.add_sub_cancel]
  by_cases h0 : t.val % 8 = 0
  · refine (sep_mono (inv3_any W c t.val) .rfl).trans ?_
    unfold smpAt3 scE3 scS3
    rw [row3_self t h0]
    iintro ⟨⟨⟨HS0, HS1, HS2, HS3⟩, Hb, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (fill3 c (grid3.coords t) _ _ _ _ _ _ _ _ _ _ _ _ _ _ _ _ _ _ _ _ _ _ _ _ _ _ _ _ ((hcond3 t).mpr h0) (blk3 W c 0 t) (blk3 W c 1 t) (blk3 W c 2 t) (blk3 W c 3 t) (blk3 W c 4 t) (blk3 W c 5 t) (blk3 W c 6 t) (blk3 W c 7 t) (blk3 W c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hb Hg]
    · isplitl [HS0 HS1 HS2 HS3]
      · isplitl [HS0]; · iexact HS0
        isplitl [HS1]; · iexact HS1
        isplitl [HS2]; · iexact HS2
        iexact HS3
      isplitl [Hb]; · iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [inv3_pos W c t.val (fun e => h0 (by rw [e]))]
    unfold smpAt3 scE3 scS3
    rw [row3_pred t.val h0]
    iintro ⟨⟨⟨HS0, HS1, HS2, HS3⟩, Hb, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (keep3 c (grid3.coords t) _ _ _ _ _ _ _ _ _ _ _ _ _ _ _ _ _ _ _ _ _ _ _ _ _ _ _ _ (fun hc => h0 ((hcond3 t).mp hc)) (blk3 W c 0 t) (blk3 W c 1 t) (blk3 W c 2 t) (blk3 W c 3 t) (blk3 W c 4 t) (blk3 W c 5 t) (blk3 W c 6 t) (blk3 W c 7 t) (blk3 W c 8 t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hb Hg]
    · isplitl [HS0 HS1 HS2 HS3]
      · isplitl [HS0]; · iexact HS0
        isplitl [HS1]; · iexact HS1
        isplitl [HS2]; · iexact HS2
        iexact HS3
      isplitl [Hb]; · iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body's row of the table of bodies. -/
theorem defs3_row (t : Fin cfg3.N) : defs₀ (F := F) .tc cfg3.body (cfg3.bodyArgs t (cfg3.slots t)) = bodyAt3 t := by
  unfold defs₀; rw [Defs.onTc_tc]

theorem body3 (c : Dev nD) : BodyObligation (dat3 W c) (defs₀ (F := F)) Variants.none () Set.univ := fun t => by
  rw [bigSep_W3, bigSep_W3, defs3_row]
  exact triple_restated (sound3 W c t) rfl .rfl fun _ => .rfl

theorem in3 (c : Dev nD) : iprop(Pipeline.scopedRest spec3 c ∗ (∃ r, prngReg c r)) ⊢ (dat3 W c).Φ 0 := by
  rw [show (dat3 W c).Φ 0 = Pipeline.ΦA spec3 c from rfl]
  unfold Pipeline.ΦA
  exact .rfl

theorem out3 (c : Dev nD) : (dat3 W c).Φ (Fin.last cfg3.N) ⊢ iprop(Pipeline.scopedRest spec3 c ∗ (∃ r, prngReg c r)) := by
  rw [show (dat3 W c).Φ (Fin.last cfg3.N) = inv3 W c cfg3.N from rfl]
  refine (inv3_any W c _).trans ?_
  rw [show iprop(Pipeline.scopedRest spec3 c ∗ (∃ r, prngReg c r)) = (Pipeline.ΦA spec3 c : sProp 𝕄) from rfl, PhiA3_eq]
  iintro ⟨Hs, Hb, Hg⟩
  isplitl [Hs Hb]
  · isplitl [Hs]; · iexact Hs
    iexact Hb
  iexact Hg

end Cert.KernelIdeal.Region

end
-- ==== Proof.KernelIdeal.Final.lean ====
/- The last call, which picks the sample of largest weight, as the launch needs it: what each point leaves and the body at every point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import proofs.«01_k».proof.Proof.Common

@[expose] public section

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Common

set_option maxHeartbeats 1600000 in
/-- The body at a point: what it leaves in the output's buffer, found by running it. -/
noncomputable def run4 (c : Dev nD) (i : grid4.Coords) (arg1 : Memref sig .tc .vmem S1x1x256 .bf16) (harg1 : arg1.IsWhole) (arg2 : Memref sig .tc .vmem S256x256 .bf16) (harg2 : arg2.IsWhole) (arg3 : Memref sig .tc .vmem S32x256 .bf16) (harg3 : arg3.IsWhole) (arg4 : Memref sig .tc .vmem S1x256 .f32) (harg4 : arg4.IsWhole) (arg5 : Memref sig .tc .vmem S256x1 .bf16) (harg5 : arg5.IsWhole) (arg6 : Memref sig .tc .vmem S1x1 .f32) (harg6 : arg6.IsWhole) (arg7 : Memref sig .tc .vmem S1x2048x32 .f32) (harg7 : arg7.IsWhole) (arg8 : Memref sig .tc .vmem S1x1x32 .f32) (harg8 : arg8.IsWhole)
    (x0 : Vec F S1x1x256 .bf16) (x1 : Vec F S256x256 .bf16) (x2 : Vec F S32x256 .bf16) (x3 : Vec F S1x256 .f32) (x4 : Vec F S256x1 .bf16) (x5 : Vec F S1x1 .f32) (x6 : Vec F S1x2048x32 .f32) :
    { v : Vec F S1x1x32 .f32 //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare v) -∗ K ⟨⟩))
          ⊢ wp frame (wpE (defs₀ (F := F)) Variants.none c none) E (cc4__final_kernel i arg1 harg1 arg2 harg2 arg3 harg3 arg4 harg4 arg5 harg5 arg6 harg6 arg7 harg7 arg8 harg8) K } := by
  refine ⟨?_, fun E K => ?run⟩
  case run =>
    simp only [cc4__final_kernel_eq_skeleton]; unfold cc4__final_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; isplitr
    swap; · iexact H7
    ipureintro; exact View.read_writes_full _ _ _ _ _

/-- What the body stores: the sample whose weight is the largest. -/
def val4 (i : grid4.Coords) (x0 : Vec F S1x1x256 .bf16) (x1 : Vec F S256x256 .bf16) (x2 : Vec F S32x256 .bf16) (x3 : Vec F S1x256 .f32) (x4 : Vec F S256x1 .bf16) (x5 : Vec F S1x1 .f32) (x6 : Vec F S1x2048x32 .f32) : Vec F S1x1x32 .f32 :=
  k4_pay1 (k4_pay2 x6 x0 x1 x2 x3 x4 x5) x6

theorem run4_v (c : Dev nD) (i : grid4.Coords) (arg1 : Memref sig .tc .vmem S1x1x256 .bf16) (harg1 : arg1.IsWhole) (arg2 : Memref sig .tc .vmem S256x256 .bf16) (harg2 : arg2.IsWhole) (arg3 : Memref sig .tc .vmem S32x256 .bf16) (harg3 : arg3.IsWhole) (arg4 : Memref sig .tc .vmem S1x256 .f32) (harg4 : arg4.IsWhole) (arg5 : Memref sig .tc .vmem S256x1 .bf16) (harg5 : arg5.IsWhole) (arg6 : Memref sig .tc .vmem S1x1 .f32) (harg6 : arg6.IsWhole) (arg7 : Memref sig .tc .vmem S1x2048x32 .f32) (harg7 : arg7.IsWhole) (arg8 : Memref sig .tc .vmem S1x1x32 .f32) (harg8 : arg8.IsWhole)
    (x0 : Vec F S1x1x256 .bf16) (x1 : Vec F S256x256 .bf16) (x2 : Vec F S32x256 .bf16) (x3 : Vec F S1x256 .f32) (x4 : Vec F S256x1 .bf16) (x5 : Vec F S1x1 .f32) (x6 : Vec F S1x2048x32 .f32) :
    (run4 c i arg1 harg1 arg2 harg2 arg3 harg3 arg4 harg4 arg5 harg5 arg6 harg6 arg7 harg7 arg8 harg8 x0 x1 x2 x3 x4 x5 x6).1 = val4 i x0 x1 x2 x3 x4 x5 x6 := by
  unfold run4
  dsimp only
  sl_unfold_words
  simp only [View.readAt_eq_ld, Memref.IsWhole.read_unread, View.ld_unit_zero (S := S1x1x256) z3, View.ld_unit_zero (S := S256x256) z2, View.ld_unit_zero (S := S32x256) z2, View.ld_unit_zero (S := S1x256) z2, View.ld_unit_zero (S := S256x1) z2, View.ld_unit_zero (S := S1x1) z2, View.ld_unit_zero (S := S1x2048x32) z3, View.ld_unit_zero (S := S1x1x32) z3]
  all_goals (unfold val4; rfl)

/-- The body at a point, with what it leaves spelled out. -/
theorem give4 (c : Dev nD) (i : grid4.Coords) (arg1 : Memref sig .tc .vmem S1x1x256 .bf16) (harg1 : arg1.IsWhole) (arg2 : Memref sig .tc .vmem S256x256 .bf16) (harg2 : arg2.IsWhole) (arg3 : Memref sig .tc .vmem S32x256 .bf16) (harg3 : arg3.IsWhole) (arg4 : Memref sig .tc .vmem S1x256 .f32) (harg4 : arg4.IsWhole) (arg5 : Memref sig .tc .vmem S256x1 .bf16) (harg5 : arg5.IsWhole) (arg6 : Memref sig .tc .vmem S1x1 .f32) (harg6 : arg6.IsWhole) (arg7 : Memref sig .tc .vmem S1x2048x32 .f32) (harg7 : arg7.IsWhole) (arg8 : Memref sig .tc .vmem S1x1x32 .f32) (harg8 : arg8.IsWhole)
    (x0 : Vec F S1x1x256 .bf16) (x1 : Vec F S256x256 .bf16) (x2 : Vec F S32x256 .bf16) (x3 : Vec F S1x256 .f32) (x4 : Vec F S256x1 .bf16) (x5 : Vec F S1x1 .f32) (x6 : Vec F S1x2048x32 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (val4 i x0 x1 x2 x3 x4 x5 x6)) -∗ K ⟨⟩))
      ⊢ wp frame (wpE (defs₀ (F := F)) Variants.none c none) E (cc4__final_kernel i arg1 harg1 arg2 harg2 arg3 harg3 arg4 harg4 arg5 harg5 arg6 harg6 arg7 harg7 arg8 harg8) K := by
  have e0 := run4_v c i arg1 harg1 arg2 harg2 arg3 harg3 arg4 harg4 arg5 harg5 arg6 harg6 arg7 harg7 arg8 harg8 x0 x1 x2 x3 x4 x5 x6
  obtain ⟨X, hX⟩ : ∃ X, X = run4 c i arg1 harg1 arg2 harg2 arg3 harg3 arg4 harg4 arg5 harg5 arg6 harg6 arg7 harg7 arg8 harg8 x0 x1 x2 x3 x4 x5 x6 := ⟨_, rfl⟩
  rw [← hX] at e0
  clear hX
  obtain ⟨v, hp⟩ := X
  dsimp only at e0
  subst e0
  exact hp E K

variable (W : Dev nD → Valuation τ sig (Elt F))

/-- The block of window `w` that point `t` works on, cut out of the array as the call finds it. -/
def blk4 (c : Dev nD) (w : Fin cfg4.W) (t : Fin cfg4.N) : ((cfg4.win w).xblock (cfg4.grid.coords t)).Idx → Elt F (cfg4.win w).elt :=
  ((cfg4.win w).blk t).view.read (Elt F) (W c (Proc.devRef .tc (Pipeline.arrRef spec4 w)))

/-- The block of the result at point `t`. -/
def valAt4 (c : Dev nD) (t : Fin cfg4.N) : Vec F S1x1x32 .f32 :=
  val4 (grid4.coords t) (blk4 W c 0 t) (blk4 W c 1 t) (blk4 W c 2 t) (blk4 W c 3 t) (blk4 W c 4 t) (blk4 W c 5 t) (blk4 W c 6 t)

/-- What the call's loop is proved with: the arrays as found, each input's buffer at its block, the result's at the block computed. -/
def dat4 (c : Dev nD) : Dat τ (Elt F) Unit ℕ (UR sig nD τ) ℕ cfg4 c where
  A w := W c (Proc.devRef .tc (Pipeline.arrRef spec4 w))
  after w t := match w with
    | ⟨0, _⟩ => blk4 W c 0 t
    | ⟨1, _⟩ => blk4 W c 1 t
    | ⟨2, _⟩ => blk4 W c 2 t
    | ⟨3, _⟩ => blk4 W c 3 t
    | ⟨4, _⟩ => blk4 W c 4 t
    | ⟨5, _⟩ => blk4 W c 5 t
    | ⟨6, _⟩ => blk4 W c 6 t
    | ⟨7, _⟩ => valAt4 W c t
  Φ _ := Pipeline.ΦA spec4 c
  q _ := fullShare
  owed _ := 0

theorem after4_0 (c : Dev nD) (t : Fin cfg4.N) : (dat4 W c).after 0 t = blk4 W c 0 t := by dsimp only [dat4]
theorem before4_0 (c : Dev nD) (t : Fin cfg4.N) (d) : (dat4 W c).before 0 t d = blk4 W c 0 t :=
  ((dat4 W c).before_in_eq_fetched 0 rfl (fun _ => rfl) (fun _ _ _ => rfl) (fun t => by rw [after4_0]; unfold Dat.blockOf blk4; dsimp only [dat4]; try rfl) t d).trans
    (by unfold Dat.fetched Dat.blockOf blk4; dsimp only [dat4]; try rfl)
theorem after4_1 (c : Dev nD) (t : Fin cfg4.N) : (dat4 W c).after 1 t = blk4 W c 1 t := by dsimp only [dat4]
theorem before4_1 (c : Dev nD) (t : Fin cfg4.N) (d) : (dat4 W c).before 1 t d = blk4 W c 1 t :=
  ((dat4 W c).before_in_eq_fetched 1 rfl (fun _ => rfl) (fun _ _ _ => rfl) (fun t => by rw [after4_1]; unfold Dat.blockOf blk4; dsimp only [dat4]; try rfl) t d).trans
    (by unfold Dat.fetched Dat.blockOf blk4; dsimp only [dat4]; try rfl)
theorem after4_2 (c : Dev nD) (t : Fin cfg4.N) : (dat4 W c).after 2 t = blk4 W c 2 t := by dsimp only [dat4]
theorem before4_2 (c : Dev nD) (t : Fin cfg4.N) (d) : (dat4 W c).before 2 t d = blk4 W c 2 t :=
  ((dat4 W c).before_in_eq_fetched 2 rfl (fun _ => rfl) (fun _ _ _ => rfl) (fun t => by rw [after4_2]; unfold Dat.blockOf blk4; dsimp only [dat4]; try rfl) t d).trans
    (by unfold Dat.fetched Dat.blockOf blk4; dsimp only [dat4]; try rfl)
theorem after4_3 (c : Dev nD) (t : Fin cfg4.N) : (dat4 W c).after 3 t = blk4 W c 3 t := by dsimp only [dat4]
theorem before4_3 (c : Dev nD) (t : Fin cfg4.N) (d) : (dat4 W c).before 3 t d = blk4 W c 3 t :=
  ((dat4 W c).before_in_eq_fetched 3 rfl (fun _ => rfl) (fun _ _ _ => rfl) (fun t => by rw [after4_3]; unfold Dat.blockOf blk4; dsimp only [dat4]; try rfl) t d).trans
    (by unfold Dat.fetched Dat.blockOf blk4; dsimp only [dat4]; try rfl)
theorem after4_4 (c : Dev nD) (t : Fin cfg4.N) : (dat4 W c).after 4 t = blk4 W c 4 t := by dsimp only [dat4]
theorem before4_4 (c : Dev nD) (t : Fin cfg4.N) (d) : (dat4 W c).before 4 t d = blk4 W c 4 t :=
  ((dat4 W c).before_in_eq_fetched 4 rfl (fun _ => rfl) (fun _ _ _ => rfl) (fun t => by rw [after4_4]; unfold Dat.blockOf blk4; dsimp only [dat4]; try rfl) t d).trans
    (by unfold Dat.fetched Dat.blockOf blk4; dsimp only [dat4]; try rfl)
theorem after4_5 (c : Dev nD) (t : Fin cfg4.N) : (dat4 W c).after 5 t = blk4 W c 5 t := by dsimp only [dat4]
theorem before4_5 (c : Dev nD) (t : Fin cfg4.N) (d) : (dat4 W c).before 5 t d = blk4 W c 5 t :=
  ((dat4 W c).before_in_eq_fetched 5 rfl (fun _ => rfl) (fun _ _ _ => rfl) (fun t => by rw [after4_5]; unfold Dat.blockOf blk4; dsimp only [dat4]; try rfl) t d).trans
    (by unfold Dat.fetched Dat.blockOf blk4; dsimp only [dat4]; try rfl)
theorem after4_6 (c : Dev nD) (t : Fin cfg4.N) : (dat4 W c).after 6 t = blk4 W c 6 t := by dsimp only [dat4]
theorem before4_6 (c : Dev nD) (t : Fin cfg4.N) (d) : (dat4 W c).before 6 t d = blk4 W c 6 t :=
  ((dat4 W c).before_in_eq_fetched 6 rfl (fun _ => rfl) (fun _ _ _ => rfl) (fun t => by rw [after4_6]; unfold Dat.blockOf blk4; dsimp only [dat4]; try rfl) t d).trans
    (by unfold Dat.fetched Dat.blockOf blk4; dsimp only [dat4]; try rfl)
theorem after4_7 (c : Dev nD) (t : Fin cfg4.N) : (dat4 W c).after 7 t = valAt4 W c t := by dsimp only [dat4]

/-- What the body is called with at point `t`. -/
def bodyPre4 (c : Dev nD) (t : Fin cfg4.N) : sProp 𝕄 :=
  iprop((dat4 W c).Φ t.castSucc ∗ (dat4 W c).owesAt () t.castSucc
    ∗ (∃ d, owns (c : Thread nD τ) (win4_0.stage (cfg4.slots t 0) : Memref sig .tc .vmem S1x1x256 .bf16) fullShare ((dat4 W c).before 0 t d))
    ∗ (∃ d, owns (c : Thread nD τ) (win4_1.stage (cfg4.slots t 1) : Memref sig .tc .vmem S256x256 .bf16) fullShare ((dat4 W c).before 1 t d))
    ∗ (∃ d, owns (c : Thread nD τ) (win4_2.stage (cfg4.slots t 2) : Memref sig .tc .vmem S32x256 .bf16) fullShare ((dat4 W c).before 2 t d))
    ∗ (∃ d, owns (c : Thread nD τ) (win4_3.stage (cfg4.slots t 3) : Memref sig .tc .vmem S1x256 .f32) fullShare ((dat4 W c).before 3 t d))
    ∗ (∃ d, owns (c : Thread nD τ) (win4_4.stage (cfg4.slots t 4) : Memref sig .tc .vmem S256x1 .bf16) fullShare ((dat4 W c).before 4 t d))
    ∗ (∃ d, owns (c : Thread nD τ) (win4_5.stage (cfg4.slots t 5) : Memref sig .tc .vmem S1x1 .f32) fullShare ((dat4 W c).before 5 t d))
    ∗ (∃ d, owns (c : Thread nD τ) (win4_6.stage (cfg4.slots t 6) : Memref sig .tc .vmem S1x2048x32 .f32) fullShare ((dat4 W c).before 6 t d))
    ∗ (∃ d, owns (c : Thread nD τ) (win4_7.stage (cfg4.slots t 7) : Memref sig .tc .vmem S1x1x32 .f32) fullShare ((dat4 W c).before 7 t d)))

/-- What it returns. -/
def bodyPost4 (c : Dev nD) (t : Fin cfg4.N) : sProp 𝕄 :=
  iprop((dat4 W c).Φ t.succ ∗ (dat4 W c).owesAt () t.succ
    ∗ owns (c : Thread nD τ) (win4_0.stage (cfg4.slots t 0) : Memref sig .tc .vmem S1x1x256 .bf16) fullShare ((dat4 W c).after 0 t)
    ∗ owns (c : Thread nD τ) (win4_1.stage (cfg4.slots t 1) : Memref sig .tc .vmem S256x256 .bf16) fullShare ((dat4 W c).after 1 t)
    ∗ owns (c : Thread nD τ) (win4_2.stage (cfg4.slots t 2) : Memref sig .tc .vmem S32x256 .bf16) fullShare ((dat4 W c).after 2 t)
    ∗ owns (c : Thread nD τ) (win4_3.stage (cfg4.slots t 3) : Memref sig .tc .vmem S1x256 .f32) fullShare ((dat4 W c).after 3 t)
    ∗ owns (c : Thread nD τ) (win4_4.stage (cfg4.slots t 4) : Memref sig .tc .vmem S256x1 .bf16) fullShare ((dat4 W c).after 4 t)
    ∗ owns (c : Thread nD τ) (win4_5.stage (cfg4.slots t 5) : Memref sig .tc .vmem S1x1 .f32) fullShare ((dat4 W c).after 5 t)
    ∗ owns (c : Thread nD τ) (win4_6.stage (cfg4.slots t 6) : Memref sig .tc .vmem S1x2048x32 .f32) fullShare ((dat4 W c).after 6 t)
    ∗ owns (c : Thread nD τ) (win4_7.stage (cfg4.slots t 7) : Memref sig .tc .vmem S1x1x32 .f32) fullShare ((dat4 W c).after 7 t))

set_option maxHeartbeats 1600000 in
/-- The body at any point does what the loop's proof asks of it. -/
theorem sound4 (c : Dev nD) (t : Fin cfg4.N) :
    bodyPre4 W c t ⊢ wp frame (wpE (defs₀ (F := F)) Variants.none c none) Set.univ (bodyAt4 t) (fun _ => bodyPost4 W c t) := by
  unfold bodyPre4 bodyPost4 bodyAt4
  simp only [before4_0, before4_1, before4_2, before4_3, before4_4, before4_5, before4_6]
  rw [show (dat4 W c).owesAt () t.succ = (dat4 W c).owesAt () t.castSucc from rfl,
    after4_0, after4_1, after4_2, after4_3, after4_4, after4_5, after4_6, after4_7]
  rw [show (dat4 W c).Φ t.castSucc = Pipeline.ΦA spec4 c from rfl, show (dat4 W c).Φ t.succ = Pipeline.ΦA spec4 c from rfl]
  unfold valAt4
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (give4 c (grid4.coords t) _ _ _ _ _ _ _ _ _ _ _ _ _ _ _ _ (blk4 W c 0 t) (blk4 W c 1 t) (blk4 W c 2 t) (blk4 W c 3 t) (blk4 W c 4 t) (blk4 W c 5 t) (blk4 W c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body's row of the table of bodies. -/
theorem defs4_row (t : Fin cfg4.N) : defs₀ (F := F) .tc cfg4.body (cfg4.bodyArgs t (cfg4.slots t)) = bodyAt4 t := by
  unfold defs₀; rw [Defs.onTc_tc]

theorem body4 (c : Dev nD) : BodyObligation (dat4 W c) (defs₀ (F := F)) Variants.none () Set.univ := fun t => by
  rw [bigSep_W4, bigSep_W4, defs4_row]
  exact triple_restated (sound4 W c t) rfl .rfl fun _ => .rfl

theorem in4 (c : Dev nD) : iprop(Pipeline.scopedRest spec4 c ∗ (∃ r, prngReg c r)) ⊢ (dat4 W c).Φ 0 := by
  rw [show (dat4 W c).Φ 0 = Pipeline.ΦA spec4 c from rfl]
  unfold Pipeline.ΦA
  exact .rfl

theorem out4 (c : Dev nD) : (dat4 W c).Φ (Fin.last cfg4.N) ⊢ iprop(Pipeline.scopedRest spec4 c ∗ (∃ r, prngReg c r)) := by
  rw [show (dat4 W c).Φ (Fin.last cfg4.N) = Pipeline.ΦA spec4 c from rfl]
  unfold Pipeline.ΦA
  exact .rfl

end Cert.KernelIdeal.Region

end
-- ==== Proof.KernelIdeal.Frame.lean ====
/- The program as a chain: the host's operations, the five calls, the result read off at the end. -/
module

public import proofs.«01_k».proof.Proof.KernelIdeal.Init
public import proofs.«01_k».proof.Proof.KernelIdeal.Resample1
public import proofs.«01_k».proof.Proof.KernelIdeal.Resample2
public import proofs.«01_k».proof.Proof.KernelIdeal.Resample3
public import proofs.«01_k».proof.Proof.KernelIdeal.Final
public import proofs.«01_k».proof.Proof.Gen.KernelIdeal.Regions
public import Idealize.ShloMosaic.Lib.Pipeline.Frame
public import Idealize.ShloMosaic.Lib.Pipeline.Regions
public import Idealize.ShloMosaic.Lib.Pipeline.RegionArraysS

@[expose] public section

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Common
open Idealize.ShloMosaic.Pipeline (Seg HostSeg RegionSeg)

variable (m : (ℓ : Loc nD τ sig) → Buf (Elt F) ℓ) (ρ : Dev nD → PrngReg)

/-! ## The buffers between the calls -/

/-- What the host's operations leave for the first call; then what each call leaves for the next. -/
def W1 : Dev nD → Valuation τ sig (Elt F) := fun c => V1 m c
def W2 : Dev nD → Valuation τ sig (Elt F) := fun c => Function.update (W1 m c) (Proc.devRef .tc (Pipeline.arrRef spec0 2)) ((dat0 (W1 m) c).arrAt 2 cfg0.N)
def W3 : Dev nD → Valuation τ sig (Elt F) := fun c => Function.update (W2 m c) (Proc.devRef .tc (Pipeline.arrRef spec1 9)) ((dat1 (W2 m) c).arrAt 9 cfg1.N)
def W4 : Dev nD → Valuation τ sig (Elt F) := fun c => Function.update (W3 m c) (Proc.devRef .tc (Pipeline.arrRef spec2 9)) ((dat2 (W3 m) c).arrAt 9 cfg2.N)
def W5 : Dev nD → Valuation τ sig (Elt F) := fun c => Function.update (W4 m c) (Proc.devRef .tc (Pipeline.arrRef spec3 9)) ((dat3 (W4 m) c).arrAt 9 cfg3.N)
def W6 : Dev nD → Valuation τ sig (Elt F) := fun c => Function.update (W5 m c) (Proc.devRef .tc (Pipeline.arrRef spec4 7)) ((dat4 (W5 m) c).arrAt 7 cfg4.N)

/-- The same as the table the program's chain is written over. -/
def outs : Outs (F := F) := fun J r c => match J with
  | 2 => W2 m c (Proc.devRef .tc r)
  | 3 => W3 m c (Proc.devRef .tc r)
  | 4 => W4 m c (Proc.devRef .tc r)
  | 5 => W5 m c (Proc.devRef .tc r)
  | 6 => W6 m c (Proc.devRef .tc r)
  | _ => m (c, Proc.devRef .tc r)

theorem V2_eq (c : Dev nD) : V2 m (outs m) c = W2 m c := by
  show Function.update (V1 m c) _ (W2 m c (Proc.devRef .tc main_v10)) = _
  rw [show V1 m c = W1 m c from rfl]
  unfold W2
  exact congrArg _ (Function.update_self _ _ _)
theorem V3_eq (c : Dev nD) : V3 m (outs m) c = W3 m c := by
  show Function.update (V2 m (outs m) c) _ (W3 m c (Proc.devRef .tc main_v11)) = _
  rw [V2_eq]
  unfold W3
  exact congrArg _ (Function.update_self _ _ _)
theorem V4_eq (c : Dev nD) : V4 m (outs m) c = W4 m c := by
  show Function.update (V3 m (outs m) c) _ (W4 m c (Proc.devRef .tc main_v12)) = _
  rw [V3_eq]
  unfold W4
  exact congrArg _ (Function.update_self _ _ _)
theorem V5_eq (c : Dev nD) : V5 m (outs m) c = W5 m c := by
  show Function.update (V4 m (outs m) c) _ (W5 m c (Proc.devRef .tc main_v13)) = _
  rw [V4_eq]
  unfold W5
  exact congrArg _ (Function.update_self _ _ _)
theorem V6_eq (c : Dev nD) : V6 m (outs m) c = W6 m c := by
  show Function.update (V5 m (outs m) c) _ (W6 m c (Proc.devRef .tc main_v14)) = _
  rw [V5_eq]
  unfold W6
  exact congrArg _ (Function.update_self _ _ _)

/-- The five calls' loops, one table. -/
def pdats : (p : Fin 5) → (c : Dev nD) → Dat τ (Elt F) Unit ℕ (UR sig nD τ) ℕ (cfgs p) c
  | 0 => fun c => dat0 (W1 m) c
  | 1 => fun c => dat1 (W2 m) c
  | 2 => fun c => dat2 (W3 m) c
  | 3 => fun c => dat3 (W4 m) c
  | 4 => fun c => dat4 (W5 m) c

/-- Who may signal whom: only the staging counters of the calls themselves. -/
def lset : GSem nD τ sig → Finset Unit := fun g => if g.1.2 = .tc then {()} else ∅
def lev : GSem nD τ sig → Unit → ℕ := fun _ _ => 0
theorem lset_off (g : GSem nD τ sig) (h : g.1.2 ≠ .tc) : lset g = ∅ := if_neg h

/-- What a core carries beside its buffers: that it owes nothing, and its generator's register. -/
def carry : Dev nD → sProp 𝕄 := fun c => iprop((∃ Wd, owes (c : Thread nD τ) (0 : CellTallies nD τ sig Unit) Wd) ∗ (∃ r, prngReg c r) ∗ emp)

theorem only0 : ∀ w : Fin cfg0.W, w ≠ 2 → (cfg0.win w).isOut = false := by decide
theorem sub0 : Pipeline.arrRefs (pcfgs (F := F) 0).spec ⊆ Pipeline.ucRefs τ sig := Pipeline.arrRefs_sub_ucRefs _ (show ∀ w, (Pipeline.arrRef spec0 w).isScoped = false by decide)
/-- Call 0 as an item of the program. -/
def reg0 : RegionSeg (pcfgs (F := F)) adm (pdats m) () defs₀ Variants.none lset lev 0 :=
  RegionSeg.ofHeldIn (pcfgs (F := F)) adm (pdats m) () defs₀ Variants.none lset lev 0 (fun _ => 0) (Pipeline.ucRefs τ sig)
    (fun c => iprop(∃ r, prngReg c r)) (fun c => iprop(∃ r, prngReg c r)) launch0.toP rfl
    (fun c => (body0 (W1 m) c).loose) (fun _ _ => rfl) (fun _ => rfl) (fun c => (dat0 (W1 m) c).share_full fun _ => rfl)
    (fun c => in0 (W1 m) c) (fun c => out0 (W1 m) c) (fun _ => 0)
    ⟨fun _ _ _ => Finset.mem_singleton.mpr rfl, fun _ _ _ => le_refl _, fun _ _ _ h => absurd h (lt_irrefl _)⟩
    (fun _ => iprop(emp)) (W1 m) (fun _ _ => rfl)

theorem pre0 (c : Dev nD) : iprop(StableHlo.held (c : Thread nD τ) (Pipeline.ucRefs τ sig) (V1 m c) ∗ carry (F := F) c) ⊢ (reg0 m).pre c := by
  rw [show V1 m c = W1 m c from rfl]
  refine BIBase.Entails.trans ?_ (RegionSeg.ofHeldIn_pre (sub0 (F := F)) c)
  exact .rfl

theorem post0 (c : Dev nD) : (reg0 m).post c ⊢ iprop(StableHlo.held (c : Thread nD τ) (Pipeline.ucRefs τ sig) (V2 m (outs m) c) ∗ carry (F := F) c) := by
  refine (RegionSeg.ofHeldIn_post (sub0 (F := F)) c).trans ?_
  rw [V2_eq, show Pipeline.afterRegion (pdats m 0 c) (W1 m c) = W2 m c from
    afterRegion_one (dat0 (W1 m) c) (W1 m c) launch0.win.arr_inj (fun _ => rfl) 2 only0]
  exact .rfl
theorem only1 : ∀ w : Fin cfg1.W, w ≠ 9 → (cfg1.win w).isOut = false := by decide
theorem sub1 : Pipeline.arrRefs (pcfgs (F := F) 1).spec ⊆ Pipeline.ucRefs τ sig := Pipeline.arrRefs_sub_ucRefs _ (show ∀ w, (Pipeline.arrRef spec1 w).isScoped = false by decide)
/-- Call 1 as an item of the program. -/
def reg1 : RegionSeg (pcfgs (F := F)) adm (pdats m) () defs₀ Variants.none lset lev 1 :=
  RegionSeg.ofHeldIn (pcfgs (F := F)) adm (pdats m) () defs₀ Variants.none lset lev 1 (fun _ => 0) (Pipeline.ucRefs τ sig)
    (fun c => iprop(∃ r, prngReg c r)) (fun c => iprop(∃ r, prngReg c r)) launch1.toP rfl
    (fun c => (body1 (W2 m) c).loose) (fun _ _ => rfl) (fun _ => rfl) (fun c => (dat1 (W2 m) c).share_full fun _ => rfl)
    (fun c => in1 (W2 m) c) (fun c => out1 (W2 m) c) (fun _ => 0)
    ⟨fun _ _ _ => Finset.mem_singleton.mpr rfl, fun _ _ _ => le_refl _, fun _ _ _ h => absurd h (lt_irrefl _)⟩
    (fun _ => iprop(emp)) (W2 m) (fun _ _ => rfl)

theorem pre1 (c : Dev nD) : iprop(StableHlo.held (c : Thread nD τ) (Pipeline.ucRefs τ sig) (V2 m (outs m) c) ∗ carry (F := F) c) ⊢ (reg1 m).pre c := by
  rw [V2_eq]
  refine BIBase.Entails.trans ?_ (RegionSeg.ofHeldIn_pre (sub1 (F := F)) c)
  exact .rfl

theorem post1 (c : Dev nD) : (reg1 m).post c ⊢ iprop(StableHlo.held (c : Thread nD τ) (Pipeline.ucRefs τ sig) (V3 m (outs m) c) ∗ carry (F := F) c) := by
  refine (RegionSeg.ofHeldIn_post (sub1 (F := F)) c).trans ?_
  rw [V3_eq, show Pipeline.afterRegion (pdats m 1 c) (W2 m c) = W3 m c from
    afterRegion_one (dat1 (W2 m) c) (W2 m c) launch1.win.arr_inj (fun _ => rfl) 9 only1]
  exact .rfl
theorem only2 : ∀ w : Fin cfg2.W, w ≠ 9 → (cfg2.win w).isOut = false := by decide
theorem sub2 : Pipeline.arrRefs (pcfgs (F := F) 2).spec ⊆ Pipeline.ucRefs τ sig := Pipeline.arrRefs_sub_ucRefs _ (show ∀ w, (Pipeline.arrRef spec2 w).isScoped = false by decide)
/-- Call 2 as an item of the program. -/
def reg2 : RegionSeg (pcfgs (F := F)) adm (pdats m) () defs₀ Variants.none lset lev 2 :=
  RegionSeg.ofHeldIn (pcfgs (F := F)) adm (pdats m) () defs₀ Variants.none lset lev 2 (fun _ => 0) (Pipeline.ucRefs τ sig)
    (fun c => iprop(∃ r, prngReg c r)) (fun c => iprop(∃ r, prngReg c r)) launch2.toP rfl
    (fun c => (body2 (W3 m) c).loose) (fun _ _ => rfl) (fun _ => rfl) (fun c => (dat2 (W3 m) c).share_full fun _ => rfl)
    (fun c => in2 (W3 m) c) (fun c => out2 (W3 m) c) (fun _ => 0)
    ⟨fun _ _ _ => Finset.mem_singleton.mpr rfl, fun _ _ _ => le_refl _, fun _ _ _ h => absurd h (lt_irrefl _)⟩
    (fun _ => iprop(emp)) (W3 m) (fun _ _ => rfl)

theorem pre2 (c : Dev nD) : iprop(StableHlo.held (c : Thread nD τ) (Pipeline.ucRefs τ sig) (V3 m (outs m) c) ∗ carry (F := F) c) ⊢ (reg2 m).pre c := by
  rw [V3_eq]
  refine BIBase.Entails.trans ?_ (RegionSeg.ofHeldIn_pre (sub2 (F := F)) c)
  exact .rfl

theorem post2 (c : Dev nD) : (reg2 m).post c ⊢ iprop(StableHlo.held (c : Thread nD τ) (Pipeline.ucRefs τ sig) (V4 m (outs m) c) ∗ carry (F := F) c) := by
  refine (RegionSeg.ofHeldIn_post (sub2 (F := F)) c).trans ?_
  rw [V4_eq, show Pipeline.afterRegion (pdats m 2 c) (W3 m c) = W4 m c from
    afterRegion_one (dat2 (W3 m) c) (W3 m c) launch2.win.arr_inj (fun _ => rfl) 9 only2]
  exact .rfl
theorem only3 : ∀ w : Fin cfg3.W, w ≠ 9 → (cfg3.win w).isOut = false := by decide
theorem sub3 : Pipeline.arrRefs (pcfgs (F := F) 3).spec ⊆ Pipeline.ucRefs τ sig := Pipeline.arrRefs_sub_ucRefs _ (show ∀ w, (Pipeline.arrRef spec3 w).isScoped = false by decide)
/-- Call 3 as an item of the program. -/
def reg3 : RegionSeg (pcfgs (F := F)) adm (pdats m) () defs₀ Variants.none lset lev 3 :=
  RegionSeg.ofHeldIn (pcfgs (F := F)) adm (pdats m) () defs₀ Variants.none lset lev 3 (fun _ => 0) (Pipeline.ucRefs τ sig)
    (fun c => iprop(∃ r, prngReg c r)) (fun c => iprop(∃ r, prngReg c r)) launch3.toP rfl
    (fun c => (body3 (W4 m) c).loose) (fun _ _ => rfl) (fun _ => rfl) (fun c => (dat3 (W4 m) c).share_full fun _ => rfl)
    (fun c => in3 (W4 m) c) (fun c => out3 (W4 m) c) (fun _ => 0)
    ⟨fun _ _ _ => Finset.mem_singleton.mpr rfl, fun _ _ _ => le_refl _, fun _ _ _ h => absurd h (lt_irrefl _)⟩
    (fun _ => iprop(emp)) (W4 m) (fun _ _ => rfl)

theorem pre3 (c : Dev nD) : iprop(StableHlo.held (c : Thread nD τ) (Pipeline.ucRefs τ sig) (V4 m (outs m) c) ∗ carry (F := F) c) ⊢ (reg3 m).pre c := by
  rw [V4_eq]
  refine BIBase.Entails.trans ?_ (RegionSeg.ofHeldIn_pre (sub3 (F := F)) c)
  exact .rfl

theorem post3 (c : Dev nD) : (reg3 m).post c ⊢ iprop(StableHlo.held (c : Thread nD τ) (Pipeline.ucRefs τ sig) (V5 m (outs m) c) ∗ carry (F := F) c) := by
  refine (RegionSeg.ofHeldIn_post (sub3 (F := F)) c).trans ?_
  rw [V5_eq, show Pipeline.afterRegion (pdats m 3 c) (W4 m c) = W5 m c from
    afterRegion_one (dat3 (W4 m) c) (W4 m c) launch3.win.arr_inj (fun _ => rfl) 9 only3]
  exact .rfl
theorem only4 : ∀ w : Fin cfg4.W, w ≠ 7 → (cfg4.win w).isOut = false := by decide
theorem sub4 : Pipeline.arrRefs (pcfgs (F := F) 4).spec ⊆ Pipeline.ucRefs τ sig := Pipeline.arrRefs_sub_ucRefs _ (show ∀ w, (Pipeline.arrRef spec4 w).isScoped = false by decide)
/-- Call 4 as an item of the program. -/
def reg4 : RegionSeg (pcfgs (F := F)) adm (pdats m) () defs₀ Variants.none lset lev 4 :=
  RegionSeg.ofHeldIn (pcfgs (F := F)) adm (pdats m) () defs₀ Variants.none lset lev 4 (fun _ => 0) (Pipeline.ucRefs τ sig)
    (fun c => iprop(∃ r, prngReg c r)) (fun c => iprop(∃ r, prngReg c r)) launch4.toP rfl
    (fun c => (body4 (W5 m) c).loose) (fun _ _ => rfl) (fun _ => rfl) (fun c => (dat4 (W5 m) c).share_full fun _ => rfl)
    (fun c => in4 (W5 m) c) (fun c => out4 (W5 m) c) (fun _ => 0)
    ⟨fun _ _ _ => Finset.mem_singleton.mpr rfl, fun _ _ _ => le_refl _, fun _ _ _ h => absurd h (lt_irrefl _)⟩
    (fun _ => iprop(emp)) (W5 m) (fun _ _ => rfl)

theorem pre4 (c : Dev nD) : iprop(StableHlo.held (c : Thread nD τ) (Pipeline.ucRefs τ sig) (V5 m (outs m) c) ∗ carry (F := F) c) ⊢ (reg4 m).pre c := by
  rw [V5_eq]
  refine BIBase.Entails.trans ?_ (RegionSeg.ofHeldIn_pre (sub4 (F := F)) c)
  exact .rfl

theorem post4 (c : Dev nD) : (reg4 m).post c ⊢ iprop(StableHlo.held (c : Thread nD τ) (Pipeline.ucRefs τ sig) (V6 m (outs m) c) ∗ carry (F := F) c) := by
  refine (RegionSeg.ofHeldIn_post (sub4 (F := F)) c).trans ?_
  rw [V6_eq, show Pipeline.afterRegion (pdats m 4 c) (W5 m c) = W6 m c from
    afterRegion_one (dat4 (W5 m) c) (W5 m c) launch4.win.arr_inj (fun _ => rfl) 7 only4]
  exact .rfl

set_option backward.isDefEq.respectTransparency.types false in
/-- The whole program from any memory with zero counters: it ends, the result holds what the chain of calls computes, every
    argument is as launched and every counter is zero. -/
theorem run : θ_run defs (onTc (τ := τ) (main (F := F))) ⟨m, fun _ => 0, ρ⟩ (fun r => (∀ c : Dev nD,
      r.2.mem ((c.tc : Thread nD τ).loc main_v15) = V7 m (outs m) c (Proc.devRef .tc main_v15) ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.sem = fun _ => 0) := by
  let ss := segs m (outs m) Variants.none lset lev (fun _ => carry (F := F)) () (pdats m) (reg0 m) (reg1 m) (reg2 m) (reg3 m) (reg4 m)
  refine Pipeline.θ_run_regions_kit_dev_sems (pcfgs (F := F)) adm (pdats m) () cellOf_inj emb₁ defs₀ Variants.none lset lev m ρ main ss
    (fun c Q => by
      rewrite [main_chain c, Seg.run_eq_chain, show (ss c).map Seg.prog = [
          StableHlo.seq hostOps0, Prog.lift (.customCall (Pipeline.entry 0) ()), Prog.lift (.customCall (Pipeline.entry 1) ()),
          Prog.lift (.customCall (Pipeline.entry 2) ()), Prog.lift (.customCall (Pipeline.entry 3) ()),
          Prog.lift (.customCall (Pipeline.entry 4) ()), StableHlo.seq hostOps5 ] from rfl]
      dsimp (config := { failIfUnchanged := false }) only
      exact .rfl)
    (fun c => by simp only [ss, segs, Seg.pipes_host, Seg.pipes_region, Seg.pipes_nil]; decide) (fun _ => 0) lset_off (fun _ => iprop(emp))
    (initOf (Pipeline.cells cfgs cellOf_inj) (Pipeline.launchToks cfgs cellOf_inj))
    (by
      iintro Hu
      ihave HP := (Entails.of_eq (ownU_emb₁ _)) $$ Hu
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ carry (F := F) c))
    (Tₙ := fun c => StableHlo.held (c : Thread nD τ) (Pipeline.ucRefs τ sig) (V7 m (outs m) c))
    (hch := fun c => ⟨.rfl, pre0 m c, (post0 m c).trans (pre1 m c), (post1 m c).trans (pre2 m c), (post2 m c).trans (pre3 m c), (post3 m c).trans (pre4 m c), post4 m c,
      sep_mono .rfl (by unfold carry; iintro ⟨Ho, -⟩; iexact Ho)⟩)
    (hinit := ?_) (QY := fun c s => s.mem ((c.tc : Thread nD τ).loc main_v15) = V7 m (outs m) c (Proc.devRef .tc main_v15) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h hz => ⟨h, funext fun g => hz g (.inr (regions_no_unscoped g.2))⟩)
  · refine Pipeline.initEach lset lev fun c => ?_
    rw [show unscopedBufs c (fun b => m ((c : Thread nD τ).loc b)) = StableHlo.held (c : Thread nD τ) (Pipeline.ucRefs τ sig) (V0 m c) from Pipeline.unscopedBufs_held c (V0 m c)]
    unfold carry
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro
      have rd : ∀ b : Ref sig .tc, _ → _ := fun b hb => h (Proc.devRef .tc b) (Finset.mem_filter.mpr ⟨StableHlo.devRef_mem_tcRefs b, hb⟩)
      exact ⟨rd main_v15 (by decide), (rd main_arg0 (by decide)).trans (V7_main_arg0 m (outs m) c), (rd main_arg1 (by decide)).trans (V7_main_arg1 m (outs m) c), (rd main_arg2 (by decide)).trans (V7_main_arg2 m (outs m) c), (rd main_arg3 (by decide)).trans (V7_main_arg3 m (outs m) c), (rd main_arg4 (by decide)).trans (V7_main_arg4 m (outs m) c), (rd main_arg5 (by decide)).trans (V7_main_arg5 m (outs m) c)⟩
    · iexact HSI

end Cert.KernelIdeal.Region

end
-- ==== Proof.Value.Spec.lean ====
/- The draws in words: the threefry-2x32 hash of a position, twenty rounds in five blocks, as both programs compute it element by element. -/
module

public import Idealize.ShloMosaic.PureOps
public import Idealize.ShloMosaic.PureOps.Ideal

@[expose] public section

noncomputable section

namespace Cert.Spec

open Idealize.ShloMosaic

/-- A word rotated: shifted left by `r` and right by `s`, the two joined; on one of the units that shift. -/
def rot (u : ArithUnit) (x r s : BitVec 32) : BitVec 32 := IntOp.ori (IntOp.shli u x r) (IntOp.shrui u x s)
/-- One round on the two words of the state. -/
def rnd (u : ArithUnit) (r s : BitVec 32) (p : BitVec 32 × BitVec 32) : BitVec 32 × BitVec 32 :=
  (IntOp.addi p.1 p.2, IntOp.xori (IntOp.addi p.1 p.2) (rot u p.2 r s))
/-- The two kinds of four rounds. -/
def odd (u : ArithUnit) (p : BitVec 32 × BitVec 32) : BitVec 32 × BitVec 32 :=
  rnd u 6#32 26#32 (rnd u 26#32 6#32 (rnd u 15#32 17#32 (rnd u 13#32 19#32 p)))
def even (u : ArithUnit) (p : BitVec 32 × BitVec 32) : BitVec 32 × BitVec 32 :=
  rnd u 24#32 8#32 (rnd u 16#32 16#32 (rnd u 29#32 3#32 (rnd u 17#32 15#32 p)))
/-- The key words added after four rounds. -/
def inj (a b : BitVec 32) (p : BitVec 32 × BitVec 32) : BitVec 32 × BitVec 32 := (IntOp.addi p.1 a, IntOp.addi p.2 b)
/-- The state after twenty rounds, of a position under the key words `k0`, `k1` and their combination `k2`. -/
def mix (u : ArithUnit) (k0 k1 k2 pos : BitVec 32) : BitVec 32 × BitVec 32 :=
  inj k2 (IntOp.addi k0 5#32) (odd u (inj k1 (IntOp.addi k2 4#32) (even u (inj k0 (IntOp.addi k1 3#32) (odd u
    (inj k2 (IntOp.addi k0 2#32) (even u (inj k1 (IntOp.addi k2 1#32) (odd u (k0, IntOp.addi pos k1))))))))))
/-- The hash of a position. -/
def hash (u : ArithUnit) (k0 k1 k2 pos : BitVec 32) : BitVec 32 := IntOp.xori (mix u k0 k1 k2 pos).1 (mix u k0 k1 k2 pos).2

/-! The same in the pieces that the resampling calls cut it into, for their gumbels and for their noise. -/
def gst1 (u : ArithUnit) (k0 k1 k2 pos : BitVec 32) : BitVec 32 × BitVec 32 := rnd u 26#32 6#32 (rnd u 15#32 17#32 (rnd u 13#32 19#32 (k0, IntOp.addi pos k1)))
def gst2 (u : ArithUnit) (k0 k1 k2 : BitVec 32) (S : BitVec 32 × BitVec 32) : BitVec 32 × BitVec 32 :=
  inj k2 (IntOp.addi k0 2#32) (even u (inj k1 (IntOp.addi k2 1#32) (rnd u 6#32 26#32 S)))
def gst3 (u : ArithUnit) (k0 k1 k2 : BitVec 32) (S : BitVec 32 × BitVec 32) : BitVec 32 × BitVec 32 :=
  rnd u 17#32 15#32 (inj k0 (IntOp.addi k1 3#32) (odd u S))
def gst4 (u : ArithUnit) (k0 k1 k2 : BitVec 32) (S : BitVec 32 × BitVec 32) : BitVec 32 × BitVec 32 :=
  rnd u 26#32 6#32 (rnd u 15#32 17#32 (rnd u 13#32 19#32 (inj k1 (IntOp.addi k2 4#32) (rnd u 24#32 8#32 (rnd u 16#32 16#32 (rnd u 29#32 3#32 S))))))
theorem mix_gst (u : ArithUnit) (k0 k1 k2 pos : BitVec 32) :
    mix u k0 k1 k2 pos = inj k2 (IntOp.addi k0 5#32) (rnd u 6#32 26#32 (gst4 u k0 k1 k2 (gst3 u k0 k1 k2 (gst2 u k0 k1 k2 (gst1 u k0 k1 k2 pos))))) := by
  simp only [mix, gst1, gst2, gst3, gst4, odd, even]
def nst1 (u : ArithUnit) (k0 k1 k2 pos : BitVec 32) : BitVec 32 × BitVec 32 := rnd u 15#32 17#32 (rnd u 13#32 19#32 (k0, IntOp.addi pos k1))
def nst2 (u : ArithUnit) (k0 k1 k2 : BitVec 32) (S : BitVec 32 × BitVec 32) : BitVec 32 × BitVec 32 :=
  even u (inj k1 (IntOp.addi k2 1#32) (rnd u 6#32 26#32 (rnd u 26#32 6#32 S)))
def nst3 (u : ArithUnit) (k0 k1 k2 : BitVec 32) (S : BitVec 32 × BitVec 32) : BitVec 32 × BitVec 32 :=
  rnd u 17#32 15#32 (inj k0 (IntOp.addi k1 3#32) (odd u (inj k2 (IntOp.addi k0 2#32) S)))
def nst4 (u : ArithUnit) (k0 k1 k2 : BitVec 32) (S : BitVec 32 × BitVec 32) : BitVec 32 × BitVec 32 :=
  rnd u 15#32 17#32 (rnd u 13#32 19#32 (inj k1 (IntOp.addi k2 4#32) (rnd u 24#32 8#32 (rnd u 16#32 16#32 (rnd u 29#32 3#32 S)))))
theorem mix_nst (u : ArithUnit) (k0 k1 k2 pos : BitVec 32) :
    mix u k0 k1 k2 pos = inj k2 (IntOp.addi k0 5#32) (rnd u 6#32 26#32 (rnd u 26#32 6#32 (nst4 u k0 k1 k2 (nst3 u k0 k1 k2 (nst2 u k0 k1 k2 (nst1 u k0 k1 k2 pos)))))) := by
  simp only [mix, nst1, nst2, nst3, nst4, odd, even]

theorem rnd_unit (u v : ArithUnit) (r s : BitVec 32) (hr : r.toNat < 32) (hs : s.toNat < 32) : rnd u r s = rnd v r s := by
  funext p
  unfold rnd rot IntOp.shli IntOp.shrui
  simp only [if_pos hr, if_pos hs]

/-- The units shift by these amounts alike. -/
theorem hash_unit (u v : ArithUnit) (k0 k1 k2 pos : BitVec 32) : hash u k0 k1 k2 pos = hash v k0 k1 k2 pos := by
  have ho : odd u = odd v := by
    unfold odd
    rw [rnd_unit u v 6#32 26#32 (by decide) (by decide), rnd_unit u v 26#32 6#32 (by decide) (by decide),
      rnd_unit u v 15#32 17#32 (by decide) (by decide), rnd_unit u v 13#32 19#32 (by decide) (by decide)]
  have he : even u = even v := by
    unfold even
    rw [rnd_unit u v 24#32 8#32 (by decide) (by decide), rnd_unit u v 16#32 16#32 (by decide) (by decide),
      rnd_unit u v 29#32 3#32 (by decide) (by decide), rnd_unit u v 17#32 15#32 (by decide) (by decide)]
  unfold hash mix
  rw [ho, he]

end Cert.Spec

end
-- ==== Proof.Value.Scalar.lean ====
/- The draws as extended reals and the step of the sampler, element by element: what both programs are shown to compute. -/
module

public import proofs.«01_k».proof.Proof.Value.Spec
public import Idealize.ShloMosaic.Lib.Pointwise

@[expose] public section

noncomputable section

namespace Cert.Spec

open Idealize.ShloMosaic

/-- The word of the state after the last round. -/
def fin2 (p : BitVec 32 × BitVec 32) : BitVec 32 := IntOp.xori p.1 p.2

/-- The word of a unit float's mantissa drawn from the hash's word. -/
def mant (u : ArithUnit) (w : BitVec 32) : BitVec 32 := IntOp.ori (IntOp.shrui u w 9#32) 1065353216#32
theorem mant_unit (u v : ArithUnit) (w : BitVec 32) : mant u w = mant v w := by
  unfold mant IntOp.shrui
  simp only [if_pos (show (9#32).toNat < 32 by decide)]

/-- A uniform draw: the float of the word less one, scaled and shifted, not below the shift. -/
def uni (u : ArithUnit) (sc lo w : BitVec 32) : EReal :=
  max (Ideal.ofBits .f32 lo) ((Ideal.ofBits .f32 (mant u w) - Ideal.ofBits .f32 0x3F800000#32) * Ideal.ofBits .f32 sc + Ideal.ofBits .f32 lo)
/-- A Gumbel draw. -/
def gum (u : ArithUnit) (w : BitVec 32) : EReal := -Ideal.log (-Ideal.log (uni u 0x3F800000#32 0x00800000#32 w))

/-- The polynomial of the inverse error function, on either of its two branches. -/
def erfPoly (c : BitVec 1) (x : EReal) : EReal :=
  let k (a b : BitVec 32) : EReal := Scalar.select c (Ideal.ofBits .f32 a) (Ideal.ofBits .f32 b)
  k 0x3FC02E2F#32 0x40354F7E#32 + (k 0x3E7C8F63#32 0x3F8036DB#32 + (k 0xBB88E4EF#32 0x3C1AA57E#32 + (k 0xBAA45408#32 0xBBF9C5D7#32
    + (k 0x396532DB#32 0x3BBC127B#32 + (k 0xB6935AC1#32 0xBB70BDE7#32 + (k 0xB66C7357#32 0x3AB0DC72#32 + (k 0x34B84B36#32 0x38D3B56B#32
    + k 0x32F16588#32 0xB951F09B#32 * x) * x) * x) * x) * x) * x) * x) * x
/-- What the polynomial is taken at, of the number whose inverse error function it is. -/
def erfW (x : EReal) : EReal := -Ideal.log1p (x * -x)
def erfC (x : EReal) : BitVec 1 := Ideal.cmp .olt (erfW x) (Ideal.ofBits .f32 0x40A00000#32)
def erfX (x : EReal) : EReal :=
  Scalar.select (erfC x) (erfW x - Ideal.ofBits .f32 0x40200000#32) (Ideal.sqrt (erfW x) - Ideal.ofBits .f32 0x40400000#32)
/-- The inverse error function as both programs approximate it. -/
def erfInv (x : EReal) : EReal :=
  Scalar.select (Ideal.cmp .oeq (max x (-x)) (Ideal.ofBits .f32 0x3F800000#32)) (Ideal.ofBits .f32 0x7F800000#32 * x) (erfPoly (erfC x) (erfX x) * x)
/-- A normal draw. -/
def nrm (u : ArithUnit) (w : BitVec 32) : EReal := Ideal.ofBits .f32 0x3FB504F3#32 * erfInv (uni u 0x40000000#32 0xBF7FFFFF#32 w)

theorem gum_unit (u v : ArithUnit) (w : BitVec 32) : gum u w = gum v w := by unfold gum uni; rw [mant_unit u v]
theorem nrm_unit (u v : ArithUnit) (w : BitVec 32) : nrm u w = nrm v w := by unfold nrm uni; rw [mant_unit u v]

theorem ninf : Ideal.ofBits .f32 0xFF800000#32 = (⊥ : EReal) := by simp [Ideal.ofBits, Ideal.ieee]

/-- The largest of 2048 values, and the word of the first place where it is taken. -/
def top (v : Fin 2048 → EReal) : EReal := Finset.univ.fold max (Ideal.ofBits .f32 0xFF800000#32) v
def firstMax (v : Fin 2048 → EReal) : BitVec 32 :=
  Finset.univ.fold IntOp.minsi 2147483647#32 fun c : Fin 2048 => if v c = top v then BitVec.ofNat 32 c.val else 2048#32

theorem top_mem (v : Fin 2048 → EReal) : ∃ c, v c = top v := by
  have h : ∀ c, v c ≤ top v := fun c => (Finset.le_fold_max _).2 (Or.inr ⟨c, Finset.mem_univ _, le_rfl⟩)
  by_contra hn
  push Not at hn
  have hlt : ∀ c, v c < top v := fun c => lt_of_le_of_ne (h c) (hn c)
  have hb : (⊥ : EReal) < top v := lt_of_le_of_lt bot_le (hlt 0)
  have : top v < top v := by
    conv_lhs => unfold top
    refine (Finset.fold_max_lt _).2 ⟨?_, fun c _ => hlt c⟩
    rw [ninf]; exact hb
  exact lt_irrefl _ this

theorem minsi_toInt (a b : BitVec 32) : (IntOp.minsi a b).toInt ≤ a.toInt ∧ (IntOp.minsi a b).toInt ≤ b.toInt ∧ (IntOp.minsi a b = a ∨ IntOp.minsi a b = b) := by
  unfold IntOp.minsi
  split
  · rename_i h
    rw [BitVec.slt_iff_toInt_lt] at h
    exact ⟨le_rfl, h.le, Or.inl rfl⟩
  · rename_i h
    rw [BitVec.slt_iff_toInt_lt] at h
    exact ⟨not_lt.1 h, le_rfl, Or.inr rfl⟩

theorem fold_minsi {ι : Type} [DecidableEq ι] (s : Finset ι) (b : BitVec 32) (g : ι → BitVec 32) :
    (∀ i ∈ s, (s.fold IntOp.minsi b g).toInt ≤ (g i).toInt) ∧ (s.fold IntOp.minsi b g = b ∨ ∃ i ∈ s, s.fold IntOp.minsi b g = g i) := by
  induction s using Finset.induction_on with
  | empty => exact ⟨fun i h => absurd h (Finset.notMem_empty i), Or.inl rfl⟩
  | insert a s ha ih =>
    rw [Finset.fold_insert ha]
    obtain ⟨h1, h2, h3⟩ := minsi_toInt (g a) (s.fold IntOp.minsi b g)
    refine ⟨fun i hi => ?_, ?_⟩
    · rcases Finset.mem_insert.1 hi with rfl | hi
      · exact h1
      · exact h2.trans (ih.1 i hi)
    · rcases h3 with h | h
      · exact Or.inr ⟨a, Finset.mem_insert_self _ _, h⟩
      · rcases ih.2 with e | ⟨i, hi, e⟩
        · exact Or.inl (h.trans e)
        · exact Or.inr ⟨i, Finset.mem_insert_of_mem hi, h.trans e⟩

theorem firstMax_mem (v : Fin 2048 → EReal) : ∃ n : Fin 2048, firstMax v = BitVec.ofNat 32 n.val := by
  obtain ⟨c0, hc⟩ := top_mem v
  obtain ⟨h1, h2⟩ := fold_minsi Finset.univ 2147483647#32 fun c : Fin 2048 => if v c = top v then BitVec.ofNat 32 c.val else 2048#32
  have hle := h1 c0 (Finset.mem_univ _)
  have small : ∀ c : Fin 2048, (BitVec.ofNat 32 c.val).toInt = c.val := fun c => by
    have := c.isLt
    rw [BitVec.toInt_eq_toNat_cond, BitVec.toNat_ofNat, Nat.mod_eq_of_lt (by omega), if_pos (by omega)]
  rw [if_pos hc, small] at hle
  have hc0 := c0.isLt
  change (firstMax v).toInt ≤ _ at hle
  rcases h2 with h | ⟨i, _, h⟩
  · change firstMax v = _ at h
    rw [h] at hle
    have : (2147483647#32).toInt = 2147483647 := by decide
    omega
  · change firstMax v = _ at h
    refine ⟨i, ?_⟩
    rw [h] at hle ⊢
    split
    · rfl
    · rename_i hne
      rw [if_neg hne] at hle
      have : (2048#32).toInt = 2048 := by decide
      omega

/-- The first place where the largest value is taken. -/
def pick (v : Fin 2048 → EReal) : Fin 2048 := (firstMax_mem v).choose
theorem pick_word (v : Fin 2048 → EReal) : firstMax v = BitVec.ofNat 32 (pick v).val := (firstMax_mem v).choose_spec

/-- The word that is one there and zero elsewhere, and its float. -/
theorem hot_word (v : Fin 2048 → EReal) (k : Fin 2048) : BitVec.setWidth 32 (IntOp.cmpi .eq (BitVec.ofNat 32 k.val) (firstMax v)) = if k = pick v then 1#32 else 0#32 := by
  rw [pick_word]
  unfold IntOp.cmpi
  have := k.isLt
  have := (pick v).isLt
  by_cases h : k = pick v
  · rw [if_pos h, ← h]
    simp
  · rw [if_neg h]
    have hne : BitVec.ofNat 32 k.val ≠ BitVec.ofNat 32 (pick v).val := fun e => h (Fin.ext (by
      have := congrArg BitVec.toNat e
      rwa [BitVec.toNat_ofNat, BitVec.toNat_ofNat, Nat.mod_eq_of_lt (by omega), Nat.mod_eq_of_lt (by omega)] at this))
    rw [show (BitVec.ofNat 32 k.val == BitVec.ofNat 32 (pick v).val) = false from beq_eq_false_iff_ne.2 hne]
    rfl
theorem hot_float (n x : Fin 2048) : (FloatOps.sitofp .f32 (if x = n then 1#32 else 0#32) : Ideal .f32) = if x = n then (1 : EReal) else 0 := by
  split
  · exact congrArg (fun z : ℝ => (z : EReal)) (by norm_num : (((1#32).toInt : ℤ) : ℝ) = 1)
  · exact congrArg (fun z : ℝ => (z : EReal)) (by norm_num : (((0#32).toInt : ℤ) : ℝ) = 0)

/-- Numbers that are neither infinity. -/
def Fin' (x : EReal) : Prop := ∃ r : ℝ, x = (r : EReal)
theorem Fin'.sub_self {x : EReal} (h : Fin' x) : x - x = 0 := by
  obtain ⟨r, rfl⟩ := h
  rw [← EReal.coe_sub, _root_.sub_self]; rfl
theorem Fin'.max {x y : EReal} (hx : Fin' x) (hy : Fin' y) : Fin' (max x y) := by rcases max_choice x y with h | h <;> rw [h] <;> assumption
theorem Fin'.min {x y : EReal} (hx : Fin' x) (hy : Fin' y) : Fin' (min x y) := by rcases min_choice x y with h | h <;> rw [h] <;> assumption
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.sub {x y : EReal} (hx : Fin' x) (hy : Fin' y) : Fin' (x - y) := by
  obtain ⟨a, rfl⟩ := hx; obtain ⟨b, rfl⟩ := hy; exact ⟨a - b, (EReal.coe_sub a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
/-- Clipping between finite bounds leaves something finite. -/
theorem clip_fin (x : EReal) {lo hi : EReal} (hl : Fin' lo) (hh : Fin' hi) : Fin' (Min.min (Max.max x lo) hi) := by
  obtain ⟨a, rfl⟩ := hl; obtain ⟨b, rfl⟩ := hh
  have h1 : Min.min (Max.max x (a : EReal)) (b : EReal) ≠ ⊤ := ne_of_lt (lt_of_le_of_lt (min_le_right _ _) (EReal.coe_lt_top b))
  have h2 : Min.min (Max.max x (a : EReal)) (b : EReal) ≠ ⊥ := ne_of_gt (lt_min (lt_of_lt_of_le (EReal.bot_lt_coe a) (le_max_right _ _)) (EReal.bot_lt_coe b))
  exact ⟨_, (EReal.coe_toReal h1 h2).symm⟩

theorem ofBits_fin (w : BitVec 32) (h : (w.extractLsb' 23 8).toNat ≠ 255) : Fin' (Ideal.ofBits .f32 w) := by
  unfold Ideal.ofBits Ideal.ieee
  dsimp only
  rw [if_neg (by simpa using h)]
  split <;> exact ⟨_, rfl⟩

theorem mant_fin (u : ArithUnit) (w : BitVec 32) : Fin' (Ideal.ofBits .f32 (mant u w)) := by
  refine ofBits_fin _ ?_
  have e : (mant u w).extractLsb' 23 8 = 127#8 := by
    unfold mant IntOp.shrui IntOp.ori
    rw [if_pos (by decide)]
    ext i hi
    simp only [BitVec.getElem_extractLsb', BitVec.getLsbD_or]
    have : (w >>> 9#32).getLsbD (23 + i) = false := by
      rw [BitVec.ushiftRight_eq', BitVec.getLsbD_ushiftRight]
      exact BitVec.getLsbD_of_ge _ _ (by simp; omega)
    rw [this, Bool.false_or]
    clear this
    interval_cases i <;> (revert hi; decide)
  rw [e]; decide

theorem uni_fin (u : ArithUnit) (w : BitVec 32) : Fin' (uni u 0x3F800000#32 0x00000000#32 w) := by
  unfold uni
  have h0 : Fin' (Ideal.ofBits .f32 0x00000000#32) := ofBits_fin _ (by decide)
  have h1 : Fin' (Ideal.ofBits .f32 0x3F800000#32) := ofBits_fin _ (by decide)
  exact h0.max ((((mant_fin u w).sub h1).mul h1).add h0)

/-! ### The sampler -/

/-- The points drawn at first: uniform between the bounds. -/
def samp0 (bd : Fin 2 → Fin 32 → EReal) (b : Fin 16) (r : Fin 2048) (c : Fin 32) : EReal :=
  bd 0 c + uni .vector 0x3F800000#32 0x00000000#32 (hash .vector 64467757#32 2916123636#32 3050711811#32 (BitVec.ofNat 32 ((b.val * 2048 + r.val) * 32 + c.val))) * (bd 1 c - bd 0 c)

/-- The energy of a point `s` beside the observation `x`, under two layers. -/
def energy (x : Fin 256 → EReal) (w1 : Fin 288 → Fin 256 → EReal) (b1 w2 : Fin 256 → EReal) (b2 : EReal) (s : Fin 32 → EReal) : EReal :=
  (∑ k : Fin 256, max ((∑ a : Fin 32, s a * w1 ⟨256 + a.val, by have := a.isLt; omega⟩ k) + (∑ d : Fin 256, x d * w1 ⟨d.val, by have := d.isLt; omega⟩ k) + b1 k) 0 * w2 k) + b2

/-- One round of resampling: each row takes the row that a Gumbel-perturbed draw by energies picks, with noise, within the bounds. -/
def step (g0 g1 g2 n0 n1 n2 sc : BitVec 32) (bd : Fin 2 → Fin 32 → EReal) (en : Fin 16 → (Fin 32 → EReal) → EReal)
    (S : Fin 16 → Fin 2048 → Fin 32 → EReal) (b : Fin 16) (r : Fin 2048) (c : Fin 32) : EReal :=
  min (max (S b (pick fun k => gum .vector (hash .vector g0 g1 g2 (BitVec.ofNat 32 ((b.val * 2048 + r.val) * 2048 + k.val))) - en b (S b k)) c
    + nrm .vector (hash .vector n0 n1 n2 (BitVec.ofNat 32 ((b.val * 2048 + r.val) * 32 + c.val))) * Ideal.ofBits .f32 sc) (bd 0 c)) (bd 1 c)

/-- The probabilities up to their common factor, and the point of the largest. -/
def unn (en : Fin 16 → (Fin 32 → EReal) → EReal) (S : Fin 16 → Fin 2048 → Fin 32 → EReal) (b : Fin 16) (k : Fin 2048) : EReal :=
  Ideal.exp (-en b (S b k) - top fun q => -en b (S b q))
def best (en : Fin 16 → (Fin 32 → EReal) → EReal) (S : Fin 16 → Fin 2048 → Fin 32 → EReal) (b : Fin 16) (c : Fin 32) : EReal :=
  S b (pick fun k => Ideal.div (unn en S b k) (∑ q : Fin 2048, unn en S b q)) c

theorem samp0_fin (bd : Fin 2 → Fin 32 → EReal) (hbd : ∀ a c, Fin' (bd a c)) (b : Fin 16) (r : Fin 2048) (c : Fin 32) : Fin' (samp0 bd b r c) :=
  (hbd 0 c).add ((uni_fin _ _).mul ((hbd 1 c).sub (hbd 0 c)))
theorem step_fin (g0 g1 g2 n0 n1 n2 sc : BitVec 32) (bd : Fin 2 → Fin 32 → EReal) (hbd : ∀ a c, Fin' (bd a c)) (en S) (b : Fin 16) (r : Fin 2048) (c : Fin 32) :
    Fin' (step g0 g1 g2 n0 n1 n2 sc bd en S b r c) := clip_fin _ (hbd 0 c) (hbd 1 c)

end Cert.Spec

end
-- ==== Proof.KernelIdeal.Tail.lean ====
/- What follows the words in the resampling calls, read at an element: the pick of a row, the row picked, the noise, the energies. -/
module

public import proofs.«01_k».proof.Proof.KernelIdeal.Resample1
public import proofs.«01_k».proof.Proof.Value.Scalar

@[expose] public section

set_option maxRecDepth 16384

noncomputable section

namespace Cert.KernelIdeal.Region

open Cert.KernelIdeal Cert.KernelIdeal.Gen
open Idealize.ShloMosaic
open Cert.Spec

/-- The word of a position, as the calls count it from the step's coordinates. -/
theorem pos_word (a b r m c : ℕ) : IntOp.addi (IntOp.addi (Scalar.muli (Scalar.addi (Scalar.muli (Scalar.addi (BitVec.ofNat 32 a) 0#32) 2048#32) (Scalar.muli (BitVec.ofNat 32 b) 256#32)) (BitVec.ofNat 32 m))
    (IntOp.muli (BitVec.ofNat 32 r) (BitVec.ofNat 32 m))) (BitVec.ofNat 32 c) = BitVec.ofNat 32 ((a * 2048 + (b * 256 + r)) * m + c) := by
  simp only [Scalar.muli, Scalar.addi, IntOp.addi, IntOp.muli, BitVec.ofNat_add, BitVec.ofNat_mul]
  grind

theorem iota_g0 (q : Fin 256) (k : Fin 2048) : iota .tc S256x2048 32 [0] iota_S256x2048_d0_w32 (ix2 q k) = BitVec.ofNat 32 q.val := by pointwise
theorem iota_g1 (q : Fin 256) (k : Fin 2048) : iota .tc S256x2048 32 [1] iota_S256x2048_d1_w32 (ix2 q k) = BitVec.ofNat 32 k.val := by pointwise
theorem iota_n0 (q : Fin 256) (k : Fin 32) : iota .tc S256x32 32 [0] iota_S256x32_d0_w32 (ix2 q k) = BitVec.ofNat 32 q.val := by pointwise
theorem iota_n1 (q : Fin 256) (k : Fin 32) : iota .tc S256x32 32 [1] iota_S256x32_d1_w32 (ix2 q k) = BitVec.ofNat 32 k.val := by pointwise

/-- The two rows of bounds that a step loads. -/
theorem row_lo (x8 : Vec Ideal S2x32 .f32) (c : Fin 32) : rowLo1 x8 (ix2 0 c) = x8 (ix2 0 c) := congrArg x8 (by funext a; fin_cases a <;> exact Fin.ext (by simp [Rect.emb, Rect.unit, ix2]))
theorem row_hi (x8 : Vec Ideal S2x32 .f32) (c : Fin 32) : rowHi1 x8 (ix2 0 c) = x8 (ix2 1 c) := congrArg x8 (by funext a; fin_cases a <;> exact Fin.ext (by simp [Rect.emb, Rect.unit, ix2]))

/-- The gumbels of a block of words. -/
def gumT {F : FTy → Type} [FloatOps F] (w : IVec S256x2048 32) : FVec F S256x2048 .f32 :=
  subf (broadcast S256x2048 (Scalar.ofBits .f32 0x00000000#32)) (log (subf (broadcast S256x2048 (Scalar.ofBits .f32 0x00000000#32)) (log
    (maximumf (broadcast S256x2048 (Scalar.ofBits .f32 0x00800000#32))
      (addf (mulf (subf (bitcastToFloat .f32 (ori (shrui w (broadcast S256x2048 9#32)) (broadcast S256x2048 1065353216#32))) (broadcast S256x2048 (Scalar.ofBits .f32 0x3F800000#32)))
        (broadcast S256x2048 (Scalar.ofBits .f32 0x3F800000#32))) (broadcast S256x2048 (Scalar.ofBits .f32 0x00800000#32)))))))
/-- The perturbed values of the rows. -/
def pertT {F : FTy → Type} [FloatOps F] (w : IVec S256x2048 32) (e : Vec F S1x2048 .f32) : FVec F S256x2048 .f32 :=
  subf (gumT w) (broadcastTo S256x2048 (shapeCast S1x2048 (shapeCast S2048 e shapeCasts_S1x2048_S2048) shapeCasts_S2048_S1x2048) broadcasts_S1x2048_S256x2048)
/-- In each row a one at the first place of its largest value, and zeros. -/
def hotT {F : FTy → Type} [FloatOps F] (v5 : IVec S256x2048 32) (v : FVec F S256x2048 .f32) : IVec S256x2048 32 :=
  extui 32 (cmpi .eq v5 (broadcastTo S256x2048 (shapeCast S256x1 (multiReductionI .minsi [1] S256
    (select (cmpf .oeq v (broadcastTo S256x2048 (shapeCast S256x1 (multiReduction .maximumf [1] S256 v 0xFF800000#32 reduces_S256x2048_S256 (.inl rfl) rfl) shapeCasts_S256_S256x1) broadcasts_S256x1_S256x2048))
      v5 (broadcast S256x2048 2048#32)) 2147483647#32 reduces_S256x2048_S256 rfl) shapeCasts_S256_S256x1) broadcasts_S256x1_S256x2048)) natLt_1_32

abbrev lane : IVec S256x2048 32 := iota .tc S256x2048 32 [1] iota_S256x2048_d1_w32

theorem gumT_apply (w : IVec S256x2048 32) (j : S256x2048.Idx) : gumT (F := Ideal) w j = gum .vector (w j) := by
  pointwise [gumT, gum, uni, mant]
  simp only [zero_sub]

theorem pertT_apply (w : IVec S256x2048 32) (e : Vec Ideal S1x2048 .f32) (r : Fin 256) (k : Fin 2048) :
    pertT w e (ix2 r k) = gum .vector (w (ix2 r k)) - e (ix2 0 k) := by
  pointwise [pertT]
  rw [gumT_apply]

theorem hotT_apply (v : FVec Ideal S256x2048 .f32) (r : Fin 256) (k : Fin 2048) :
    hotT lane v (ix2 r k) = if k = pick (fun q => v (ix2 r q)) then 1#32 else 0#32 := by
  pointwise [hotT]
  exact hot_word (fun q => v (ix2 r q)) k

/-- The row that the ones pick, of a block cut in three parts. -/
theorem pay54_apply (h : IVec S256x2048 32) (n : Fin 256 → Fin 2048) (hh : ∀ r k, h (ix2 r k) = if k = n r then 1#32 else 0#32)
    (hi mid lo : Vec Ideal S2048x32 .bf16) (r : Fin 256) (c : Fin 32) :
    k1_pay54 h hi mid lo (ix2 r c) = hi (ix2 (n r) c) + mid (ix2 (n r) c) + lo (ix2 (n r) c) := by
  pointwise [k1_pay54, hh]
  simp only [hot_float, ite_mul, one_mul, zero_mul, Finset.sum_ite_eq', Finset.sum_ite_eq, Finset.mem_univ, if_true]

/-- The energies of a block of points. -/
theorem pay3_apply (x7 : Vec Ideal S1x2048x32 .f32) (x1 : Vec Ideal S1x1x256 .bf16) (x2 : Vec Ideal S256x256 .bf16) (x3 : Vec Ideal S32x256 .bf16)
    (x4 : Vec Ideal S1x256 .f32) (x5 : Vec Ideal S256x1 .bf16) (x6 : Vec Ideal S1x1 .f32) (r : Fin 2048) :
    k1_pay3 x7 x1 x2 x3 x4 x5 x6 (ix2 0 r) =
      (∑ k : Fin 256, max ((∑ a : Fin 32, x7 (ix3 0 r a) * x3 (ix2 a k)) + (∑ d : Fin 256, x1 (ix3 0 0 d) * x2 (ix2 d k)) + x4 (ix2 0 k)) 0 * x5 (ix2 k 0)) + x6 (ix2 0 0) := by
  pointwise [k1_pay3, k1_pay2]

theorem pay5_apply (x : Vec Ideal S1x2048x32 .f32) (r : Fin 2048) (c : Fin 32) : k1_pay5 x (ix2 r c) = x (ix3 0 r c) := by
  pointwise [k1_pay5, k1_pay4, k1_pay2]
theorem pay8_apply (x : Vec Ideal S1x2048x32 .f32) (r : Fin 2048) (c : Fin 32) : k1_pay8 (k1_pay2 x) (k1_pay4 x) (ix2 r c) = x (ix3 0 r c) - x (ix3 0 r c) := by
  pointwise [k1_pay8, k1_pay7, k1_pay6, k1_pay4, k1_pay2]
theorem pay9_apply (x : Vec Ideal S1x2048x32 .f32) (r : Fin 2048) (c : Fin 32) :
    k1_pay9 (k1_pay2 x) (k1_pay4 x) (ix2 r c) = x (ix3 0 r c) - x (ix3 0 r c) - (x (ix3 0 r c) - x (ix3 0 r c)) := by
  pointwise [k1_pay9, k1_pay7, k1_pay6, k1_pay4, k1_pay2]

/-- The uniform floats of a block of words between minus one and one. -/
def uniT {F : FTy → Type} [FloatOps F] (w : IVec S256x32 32) : FVec F S256x32 .f32 :=
  maximumf (broadcast S256x32 (Scalar.ofBits .f32 0xBF7FFFFF#32))
    (addf (mulf (subf (bitcastToFloat .f32 (ori (shrui w (broadcast S256x32 9#32)) (broadcast S256x32 1065353216#32))) (broadcast S256x32 (Scalar.ofBits .f32 0x3F800000#32)))
      (broadcast S256x32 (Scalar.ofBits .f32 0x40000000#32))) (broadcast S256x32 (Scalar.ofBits .f32 0xBF7FFFFF#32)))
theorem uniT_apply (w : IVec S256x32 32) (j : S256x32.Idx) : uniT (F := Ideal) w j = uni .vector 0x40000000#32 0xBF7FFFFF#32 (w j) := by
  pointwise [uniT, uni, mant]
/-- What the inverse error function's polynomial is taken at, and its branch. -/
def erfWT {F : FTy → Type} [FloatOps F] (x : FVec F S256x32 .f32) : FVec F S256x32 .f32 :=
  subf (broadcast S256x32 (Scalar.ofBits .f32 0x00000000#32)) (log1p (mulf x (subf (broadcast S256x32 (Scalar.ofBits .f32 0x00000000#32)) x)))
def erfCT {F : FTy → Type} [FloatOps F] (x : FVec F S256x32 .f32) : IVec S256x32 1 := cmpf .olt (erfWT x) (broadcast S256x32 (Scalar.ofBits .f32 0x40A00000#32))
def erfXT {F : FTy → Type} [FloatOps F] (x : FVec F S256x32 .f32) : FVec F S256x32 .f32 :=
  select (erfCT x) (subf (erfWT x) (broadcast S256x32 (Scalar.ofBits .f32 0x40200000#32))) (subf (sqrt (erfWT x)) (broadcast S256x32 (Scalar.ofBits .f32 0x40400000#32)))

/-- What a call stores, of its picked rows and its uniform floats; only the noise's scale differs. -/
def outT {F : FTy → Type} [FloatOps F] (sc : BitVec 32) (g x : FVec F S256x32 .f32) (lo hi : Vec F S1x32 .f32) : FVec F S1x256x32 .f32 :=
  shapeCast S1x256x32 (minimumf (maximumf (addf g (mulf (mulf (broadcast S256x32 (Scalar.ofBits .f32 0x3FB504F3#32))
    (select (cmpf .oeq (absf x) (broadcast S256x32 (Scalar.ofBits .f32 0x3F800000#32))) (mulf (broadcast S256x32 (Scalar.ofBits .f32 0x7F800000#32)) x)
      (mulf (k1_pay101 (erfCT x) (erfXT x) (Scalar.ofBits .f32 0x32F16588#32) (Scalar.ofBits .f32 0xB951F09B#32)) x))) (broadcast S256x32 (Scalar.ofBits .f32 sc))))
    (broadcastTo S256x32 (shapeCast S1x32 (shapeCast S32 lo shapeCasts_S1x32_S32) shapeCasts_S32_S1x32) broadcasts_S1x32_S256x32))
    (broadcastTo S256x32 (shapeCast S1x32 (shapeCast S32 hi shapeCasts_S1x32_S32) shapeCasts_S32_S1x32) broadcasts_S1x32_S256x32)) shapeCasts_S256x32_S1x256x32
theorem outT_apply (sc : BitVec 32) (g : FVec Ideal S256x32 .f32) (w : IVec S256x32 32) (lo hi : Vec Ideal S1x32 .f32) (r : Fin 256) (c : Fin 32) :
    outT sc g (uniT w) lo hi (ix3 0 r c) = min (max (g (ix2 r c) + nrm .vector (w (ix2 r c)) * Ideal.ofBits .f32 sc) (lo (ix2 0 c))) (hi (ix2 0 c)) := by
  pointwise [outT, k1_pay101, erfCT, erfXT, erfWT, uniT_apply, nrm, erfInv, erfPoly, erfC, erfX, erfW]
  have ha : ∀ x : EReal, (FloatOps.absf (F := Ideal) (φ := .f32) x) = max x (-x) := fun _ => rfl
  simp only [zero_sub, ha]

end Cert.KernelIdeal.Region

end
-- ==== Proof.KernelIdeal.Ends.lean ====
/- What the first and the last call store, element by element. -/
module

public import proofs.«01_k».proof.Proof.KernelIdeal.Tail
public import proofs.«01_k».proof.Proof.KernelIdeal.Init
public import proofs.«01_k».proof.Proof.KernelIdeal.Final

@[expose] public section

set_option maxRecDepth 16384

noncomputable section

namespace Cert.KernelIdeal.Region

open Cert.KernelIdeal Cert.KernelIdeal.Gen
open Idealize.ShloMosaic
open Cert.Spec

section
variable {F : FTy → Type} [FloatOps F]

/-- The hash of the first draws in the pieces that the call cuts it into. -/
def ist1 (pos : BitVec 32) : BitVec 32 × BitVec 32 := odd .vector (64467757#32, IntOp.addi pos 2916123636#32)
def ist2 (S : BitVec 32 × BitVec 32) : BitVec 32 × BitVec 32 :=
  rnd .vector 13#32 19#32 (inj 3050711811#32 (IntOp.addi 64467757#32 2#32) (even .vector (IntOp.addi S.1 2916123636#32, IntOp.addi S.2 (IntOp.addi 3050711811#32 1#32))))
def ist3 (S : BitVec 32 × BitVec 32) : BitVec 32 × BitVec 32 :=
  rnd .vector 16#32 16#32 (rnd .vector 29#32 3#32 (rnd .vector 17#32 15#32 (inj 64467757#32 (IntOp.addi 2916123636#32 3#32) (rnd .vector 6#32 26#32 (rnd .vector 26#32 6#32 (rnd .vector 15#32 17#32 S))))))
def ist4 (S : BitVec 32 × BitVec 32) : BitVec 32 × BitVec 32 :=
  inj 3050711811#32 (IntOp.addi 64467757#32 5#32) (odd .vector (inj 2916123636#32 (IntOp.addi 3050711811#32 4#32) (rnd .vector 24#32 8#32 S)))
theorem mix_ist (pos : BitVec 32) : mix .vector 64467757#32 2916123636#32 3050711811#32 pos = ist4 (ist3 (ist2 (ist1 pos))) := by
  simp only [mix, ist1, ist2, ist3, ist4, odd, even, inj]

def ipos (i : grid0.Coords) (v0 : Elt F .i32) (j : S2048x32.Idx) : BitVec 32 :=
  IntOp.addi (IntOp.addi (Scalar.muli (Scalar.addi (BitVec.ofNat 32 (i 0).val) v0) 65536#32) (IntOp.muli (iota .tc S2048x32 32 [0] iota_S2048x32_d0_w32 j) 32#32)) (iota .tc S2048x32 32 [1] iota_S2048x32_d1_w32 j)

theorem i1a (i : grid0.Coords) (v0 : Elt F .i32) : k0_pay10 (F := F) i v0 = fun j => (ist1 (ipos (F := F) i v0 j)).2 := rfl
theorem i1b (i : grid0.Coords) (v0 : Elt F .i32) : k0_pay11 (F := F) i v0 = fun j => IntOp.addi (ist1 (ipos (F := F) i v0 j)).1 2916123636#32 := rfl
theorem i2a (S : S2048x32.Idx → BitVec 32 × BitVec 32) : k0_pay22 (fun j => (S j).2) (fun j => IntOp.addi (S j).1 2916123636#32) 3050711811#32 1#32 = fun j => (ist2 (S j)).2 := rfl
theorem i2b (S : S2048x32.Idx → BitVec 32 × BitVec 32) : k0_pay23 (fun j => (S j).2) (fun j => IntOp.addi (S j).1 2916123636#32) 3050711811#32 1#32 = fun j => (ist2 (S j)).1 + (ist2 (S j)).2 := rfl
theorem i2c (S : S2048x32.Idx → BitVec 32 × BitVec 32) : k0_pay24 (fun j => (S j).2) (fun j => IntOp.addi (S j).1 2916123636#32) 3050711811#32 1#32 = fun j => IntOp.shli .vector (ist2 (S j)).2 15#32 := rfl
theorem i3a (S : S2048x32.Idx → BitVec 32 × BitVec 32) : k0_pay35 (fun j => (S j).2) (fun j => (S j).1 + (S j).2) (fun j => IntOp.shli .vector (S j).2 15#32) = fun j => (ist3 (S j)).2 := rfl
theorem i3b (S : S2048x32.Idx → BitVec 32 × BitVec 32) : k0_pay36 (fun j => (S j).2) (fun j => (S j).1 + (S j).2) (fun j => IntOp.shli .vector (S j).2 15#32) = fun j => (ist3 (S j)).1 + (ist3 (S j)).2 := rfl
theorem i4 (S : S2048x32.Idx → BitVec 32 × BitVec 32) : k0_pay37 (fun j => (S j).2) (fun j => (S j).1 + (S j).2) 24#32 = fun j => fin2 (ist4 (S j)) := rfl

theorem init_word (i : grid0.Coords) (v0 : Elt F .i32) :
    k0_pay37 (iD (F := F) i v0) (iE (F := F) i v0) 24#32 = fun j => Spec.hash .vector 64467757#32 2916123636#32 3050711811#32 (ipos (F := F) i v0 j) := by
  unfold iD iE iA iB iC
  rw [i1a, i1b, i2a, i2b, i2c, i3a, i3b, i4]
  unfold Spec.hash fin2
  simp only [mix_ist]
end

theorem iota_i0 (q : Fin 2048) (k : Fin 32) : iota .tc S2048x32 32 [0] iota_S2048x32_d0_w32 (ix2 q k) = BitVec.ofNat 32 q.val := by pointwise
theorem iota_i1 (q : Fin 2048) (k : Fin 32) : iota .tc S2048x32 32 [1] iota_S2048x32_d1_w32 (ix2 q k) = BitVec.ofNat 32 k.val := by pointwise
theorem pos_word0 (a r c : ℕ) : IntOp.addi (IntOp.addi (Scalar.muli (Scalar.addi (BitVec.ofNat 32 a) 0#32) 65536#32) (IntOp.muli (BitVec.ofNat 32 r) 32#32)) (BitVec.ofNat 32 c)
    = BitVec.ofNat 32 ((a * 2048 + r) * 32 + c) := by
  simp only [Scalar.muli, Scalar.addi, IntOp.addi, IntOp.muli, BitVec.ofNat_add, BitVec.ofNat_mul]
  grind

theorem pay1_apply (w : IVec S2048x32 32) (lo hi : Vec Ideal S1x32 .f32) (r : Fin 2048) (c : Fin 32) :
    k0_pay1 (F := Ideal) w lo hi (ix3 0 r c) = lo (ix2 0 c) + uni .vector 0x3F800000#32 0x00000000#32 (w (ix2 r c)) * (hi (ix2 0 c) - lo (ix2 0 c)) := by
  pointwise [k0_pay1, uni, mant]

/-- The points drawn at first. -/
theorem val0_apply (i : grid0.Coords) (x0 : Vec Ideal S1 .i32) (hx0 : x0 = fun _ => 0#32) (x1 : Vec Ideal S2x32 .f32) (b : Fin 16) (hb : (i 0).val = b.val) (r : Fin 2048) (c : Fin 32) :
    val0 (F := Ideal) i x0 x1 (ix3 0 r c) = samp0 (fun a c => x1 (ix2 a c)) b r c := by
  have h0 : offw0 (F := Ideal) x0 = 0#32 := by rw [hx0]
  have hp : ipos (F := Ideal) i (offw0 (F := Ideal) x0) (ix2 r c) = BitVec.ofNat 32 ((b.val * 2048 + r.val) * 32 + c.val) := by
    rw [h0, ipos, iota_i0, iota_i1, hb]; exact pos_word0 _ _ _
  unfold val0 samp0
  rw [pay1_apply, init_word]
  dsimp only
  rw [hp]
  rw [show (View.ld x1 (Rect.unit (s := S2x32) ![0, 0] S1x32.size inb_S2x32_S1x32_0_0) : Vec Ideal S1x32 .f32) (ix2 0 c) = x1 (ix2 0 c) from row_lo x1 c,
    show (View.ld x1 (Rect.unit (s := S2x32) ![1, 0] S1x32.size inb_S2x32_S1x32_1_0) : Vec Ideal S1x32 .f32) (ix2 0 c) = x1 (ix2 1 c) from row_hi x1 c]

/-- The unnormalized probabilities. -/
theorem k4pay2_apply (x6 : Vec Ideal S1x2048x32 .f32) (x0 : Vec Ideal S1x1x256 .bf16) (x1 : Vec Ideal S256x256 .bf16) (x2 : Vec Ideal S32x256 .bf16) (x3 : Vec Ideal S1x256 .f32)
    (x4 : Vec Ideal S256x1 .bf16) (x5 : Vec Ideal S1x1 .f32) (en : Fin 2048 → EReal) (hen : ∀ k, k1_pay3 x6 x0 x1 x2 x3 x4 x5 (ix2 0 k) = en k) (k : Fin 2048) :
    k4_pay2 x6 x0 x1 x2 x3 x4 x5 (ix2 0 k) = Ideal.exp (-en k - top fun q => -en q) := by
  simp only [pay3_apply] at hen
  pointwise [k4_pay2]
  simp only [zero_sub, hen]
  rfl

/-- The point of the largest probability. -/
theorem k4pay1_apply (u : FVec Ideal S1x2048 .f32) (S : Vec Ideal S1x2048x32 .f32) (c : Fin 32) :
    k4_pay1 u S (ix3 0 0 c) = S (ix3 0 (pick fun k => Ideal.div (u (ix2 0 k)) (∑ q : Fin 2048, u (ix2 0 q))) c) := by
  pointwise [k4_pay1]
  have h : ∀ x : Fin 2048, _ = _ := hot_word fun k => Ideal.div (u (ix2 0 k)) (∑ q : Fin 2048, u (ix2 0 q))
  unfold firstMax top at h
  simp only [h, hot_float, ite_mul, one_mul, zero_mul, Finset.sum_ite_eq', Finset.sum_ite_eq, Finset.mem_univ, if_true]

end Cert.KernelIdeal.Region

end
-- ==== Proof.KernelIdeal.Array0.lean ====
/- The array that the first call leaves: the points drawn at first. -/
module

public import proofs.«01_k».proof.Proof.KernelIdeal.Ends
public import Idealize.ShloMosaic.Lib.Pipeline.ValueKit

@[expose] public section

set_option maxRecDepth 16384

noncomputable section

namespace Cert.KernelIdeal.Region

open Cert.KernelIdeal Cert.KernelIdeal.Gen
open Idealize.ShloMosaic Idealize.ShloMosaic.TcCoe
open Cert.Spec

variable (W : Dev nD → Valuation τ sig (Elt Ideal))

theorem win0_at : ∀ t : Fin cfg0.N, (cfg0.win 2).index t = ![(grid0.coords t 0).val, 0, 0] ∧ (cfg0.win 0).index t = ![0] ∧ (cfg0.win 1).index t = ![0, 0] := by decide +kernel

theorem blk0_off (c : Dev nD) (t : Fin cfg0.N) (hoff : ∀ j : S1.Idx, (W c (Proc.devRef .tc main_v9) : Vec Ideal S1 .i32) j = 0#32) : (blk0 W c 0 t : Vec Ideal S1 .i32) = fun _ => 0#32 := by
  funext y
  unfold blk0
  exact hoff _
theorem blk0_bounds (c : Dev nD) (t : Fin cfg0.N) (a : Fin 2) (l : Fin 32) : (blk0 W c 1 t : Vec Ideal S2x32 .f32) (ix2 a l) = (W c (Proc.devRef .tc main_arg5) : Vec Ideal S2x32 .f32) (ix2 a l) := by
  blk_ext [blk0, (win0_at t).2.2]

theorem array0 (c : Dev nD) (hoff : ∀ j : S1.Idx, (W c (Proc.devRef .tc main_v9) : Vec Ideal S1 .i32) j = 0#32) (bd : Vec Ideal S2x32 .f32) (hbd : W c (Proc.devRef .tc main_arg5) = bd) :
    (dat0 W c).arrAt 2 cfg0.N = (fun j : S16x2048x32.Idx => samp0 (fun a c => bd (ix2 a c)) (j 0) (j 1) (j 2)) := by
  refine (dat0 W c).arrAt_eq_of_covers 2 _ (by decide +kernel) fun t hf y => ?_
  blk_simp
  have e0 : ((win0_2.blk t).view.emb y 0).val = (grid0.coords t 0).val := by blk_simp [(win0_at t).1]
  have e1 : ((win0_2.blk t).view.emb y 1).val = (y 1).val := by blk_simp [(win0_at t).1]
  have e2 : ((win0_2.blk t).view.emb y 2).val = (y 2).val := by blk_simp [(win0_at t).1]
  rw [after0_2]
  unfold valAt0
  have h := val0_apply (grid0.coords t) (blk0 W c 0 t) (blk0_off W c t hoff) (blk0 W c 1 t) ((win0_2.blk t).view.emb y 0) e0.symm (y 1) (y 2)
  have hy : y = (ix3 0 (y 1) (y 2) : S1x2048x32.Idx) := (eq_ix3 (n0 := 1) (n1 := 2048) (n2 := 32) y).trans (congrArg (fun a : Fin 1 => (ix3 a (y 1) (y 2) : S1x2048x32.Idx)) (Subsingleton.elim _ _))
  have hb : (fun (a : Fin 2) (l : Fin 32) => (blk0 W c 1 t : Vec Ideal S2x32 .f32) (ix2 a l)) = fun a l => bd (ix2 a l) := by
    funext a l; rw [blk0_bounds, hbd]
  rw [hb] at h
  rw [show (win0_2.blk t).view.emb y 1 = y 1 from Fin.ext e1, show (win0_2.blk t).view.emb y 2 = y 2 from Fin.ext e2]
  rw [← h]
  exact congrArg _ hy

end Cert.KernelIdeal.Region

end
-- ==== Proof.KernelIdeal.Hash1.lean ====
/- The words drawn by the resampling call 1 are the hashes of their positions. -/
module

public import proofs.«01_k».proof.Proof.KernelIdeal.Resample1
public import proofs.«01_k».proof.Proof.Value.Spec

@[expose] public section

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec

/-- The position of an element of a block of gumbels, and of a block of noise. -/
def gpos1 (i : grid1.Coords) (v0 : Elt F .i32) (j : S256x2048.Idx) : BitVec 32 :=
  IntOp.addi (IntOp.addi (Scalar.muli (Scalar.addi (Scalar.muli (Scalar.addi (BitVec.ofNat 32 (i 0).val) v0) 2048#32) (Scalar.muli (BitVec.ofNat 32 (i 1).val) 256#32)) 2048#32)
    (IntOp.muli (iota .tc S256x2048 32 [0] iota_S256x2048_d0_w32 j) 2048#32)) (iota .tc S256x2048 32 [1] iota_S256x2048_d1_w32 j)
def npos1 (i : grid1.Coords) (v0 : Elt F .i32) (j : S256x32.Idx) : BitVec 32 :=
  IntOp.addi (IntOp.addi (Scalar.muli (Scalar.addi (Scalar.muli (Scalar.addi (BitVec.ofNat 32 (i 0).val) v0) 2048#32) (Scalar.muli (BitVec.ofNat 32 (i 1).val) 256#32)) 32#32)
    (IntOp.muli (iota .tc S256x32 32 [0] iota_S256x32_d0_w32 j) 32#32)) (iota .tc S256x32 32 [1] iota_S256x32_d1_w32 j)

theorem g1_1a (i : grid1.Coords) (v0 : Elt F .i32) : k1_pay16 (F := F) i v0 = fun j => (gst1 .vector 1705926158#32 899080142#32 1273600538#32 (gpos1 (F := F) i v0 j)).2 := rfl
theorem g1_1b (i : grid1.Coords) (v0 : Elt F .i32) : k1_pay17 (F := F) i v0 = fun j => (gst1 .vector 1705926158#32 899080142#32 1273600538#32 (gpos1 (F := F) i v0 j)).1 + (gst1 .vector 1705926158#32 899080142#32 1273600538#32 (gpos1 (F := F) i v0 j)).2 := rfl
theorem g2_1a (S : S256x2048.Idx → BitVec 32 × BitVec 32) : k1_pay26 (fun j => (S j).2) (fun j => (S j).1 + (S j).2) 6#32 = fun j => (gst2 .vector 1705926158#32 899080142#32 1273600538#32 (S j)).2 := rfl
theorem g2_1b (S : S256x2048.Idx → BitVec 32 × BitVec 32) : k1_pay27 (fun j => (S j).2) (fun j => (S j).1 + (S j).2) 6#32 = fun j => (gst2 .vector 1705926158#32 899080142#32 1273600538#32 (S j)).1 + (gst2 .vector 1705926158#32 899080142#32 1273600538#32 (S j)).2 := rfl
theorem g3_1a (S : S256x2048.Idx → BitVec 32 × BitVec 32) : k1_pay37 (fun j => (S j).2) (fun j => (S j).1 + (S j).2) = fun j => (gst3 .vector 1705926158#32 899080142#32 1273600538#32 (S j)).1 + (gst3 .vector 1705926158#32 899080142#32 1273600538#32 (S j)).2 := rfl
theorem g3_1b (S : S256x2048.Idx → BitVec 32 × BitVec 32) : k1_pay38 (fun j => (S j).2) (fun j => (S j).1 + (S j).2) = fun j => rot .vector (gst3 .vector 1705926158#32 899080142#32 1273600538#32 (S j)).2 29#32 3#32 := rfl
theorem g4_1a (S : S256x2048.Idx → BitVec 32 × BitVec 32) : k1_pay49 (fun j => (S j).1 + (S j).2) (fun j => rot .vector (S j).2 29#32 3#32) = fun j => (gst4 .vector 1705926158#32 899080142#32 1273600538#32 (S j)).2 := rfl
theorem g4_1b (S : S256x2048.Idx → BitVec 32 × BitVec 32) : k1_pay50 (fun j => (S j).1 + (S j).2) (fun j => rot .vector (S j).2 29#32 3#32) = fun j => (gst4 .vector 1705926158#32 899080142#32 1273600538#32 (S j)).1 + (gst4 .vector 1705926158#32 899080142#32 1273600538#32 (S j)).2 := rfl
theorem g4_1c (S : S256x2048.Idx → BitVec 32 × BitVec 32) : k1_pay51 (fun j => (S j).1 + (S j).2) (fun j => rot .vector (S j).2 29#32 3#32) = fun j => IntOp.shli .vector (gst4 .vector 1705926158#32 899080142#32 1273600538#32 (S j)).2 6#32 := rfl

theorem n1_1a (i : grid1.Coords) (v0 : Elt F .i32) : k1_pay59 (BitVec.ofNat 32 (i 1).val) (rowOff1 (F := F) i v0) = fun j => (nst1 .vector 1712723395#32 2526649282#32 3948844507#32 (npos1 (F := F) i v0 j)).2 := rfl
theorem n1_1b (i : grid1.Coords) (v0 : Elt F .i32) : k1_pay60 (BitVec.ofNat 32 (i 1).val) (rowOff1 (F := F) i v0) = fun j => (nst1 .vector 1712723395#32 2526649282#32 3948844507#32 (npos1 (F := F) i v0 j)).1 + (nst1 .vector 1712723395#32 2526649282#32 3948844507#32 (npos1 (F := F) i v0 j)).2 := rfl
theorem n2_1a (S : S256x32.Idx → BitVec 32 × BitVec 32) : k1_pay71 (fun j => (S j).2) (fun j => (S j).1 + (S j).2) k1_pay61 = fun j => (nst2 .vector 1712723395#32 2526649282#32 3948844507#32 (S j)).1 := rfl
theorem n2_1b (S : S256x32.Idx → BitVec 32 × BitVec 32) : k1_pay72 (fun j => (S j).2) (fun j => (S j).1 + (S j).2) k1_pay61 = fun j => (nst2 .vector 1712723395#32 2526649282#32 3948844507#32 (S j)).2 := rfl
theorem n3_1a (S : S256x32.Idx → BitVec 32 × BitVec 32) : k1_pay82 (fun j => (S j).1) (fun j => (S j).2) 3948844507#32 = fun j => (nst3 .vector 1712723395#32 2526649282#32 3948844507#32 (S j)).1 := rfl
theorem n3_1b (S : S256x32.Idx → BitVec 32 × BitVec 32) : k1_pay83 (fun j => (S j).1) (fun j => (S j).2) 3948844507#32 = fun j => (nst3 .vector 1712723395#32 2526649282#32 3948844507#32 (S j)).2 := rfl
theorem n4_1a (S : S256x32.Idx → BitVec 32 × BitVec 32) : k1_pay94 (fun j => (S j).1) (fun j => (S j).2) = fun j => (nst4 .vector 1712723395#32 2526649282#32 3948844507#32 (S j)).1 + (nst4 .vector 1712723395#32 2526649282#32 3948844507#32 (S j)).2 := rfl
theorem n4_1b (S : S256x32.Idx → BitVec 32 × BitVec 32) : k1_pay95 (fun j => (S j).1) (fun j => (S j).2) = fun j => IntOp.shli .vector (nst4 .vector 1712723395#32 2526649282#32 3948844507#32 (S j)).2 26#32 := rfl
theorem n4_1c (S : S256x32.Idx → BitVec 32 × BitVec 32) : k1_pay96 (fun j => (S j).1) (fun j => (S j).2) = fun j => IntOp.shrui .vector (nst4 .vector 1712723395#32 2526649282#32 3948844507#32 (S j)).2 6#32 := rfl

end Cert.KernelIdeal.Region

end
-- ==== Proof.KernelIdeal.Draw1.lean ====
/- What the resampling call 1 stores at a step, element by element. -/
module

public import proofs.«01_k».proof.Proof.KernelIdeal.Hash1
public import proofs.«01_k».proof.Proof.KernelIdeal.Tail

@[expose] public section

set_option maxRecDepth 16384

noncomputable section

namespace Cert.KernelIdeal.Region

open Cert.KernelIdeal Cert.KernelIdeal.Gen
open Idealize.ShloMosaic
open Cert.Spec

section
variable {F : FTy → Type} [FloatOps F]

theorem g5_1 (S : S256x2048.Idx → BitVec 32 × BitVec 32) (e : Vec F S1x2048 .f32) :
    k1_pay53 lane (fun j => (S j).2) (fun j => (S j).1 + (S j).2) (fun j => IntOp.shli .vector (S j).2 6#32) k1_pay52 e
      = hotT lane (pertT (fun j => fin2 (inj 1273600538#32 (IntOp.addi 1705926158#32 5#32) (rnd .vector 6#32 26#32 (S j)))) e) := rfl
theorem n5_1 (S : S256x32.Idx → BitVec 32 × BitVec 32) :
    k1_pay97 (F := F) (fun j => (S j).1 + (S j).2) (fun j => IntOp.shli .vector (S j).2 26#32) (fun j => IntOp.shrui .vector (S j).2 6#32)
      = uniT (fun j => fin2 (inj 3948844507#32 (IntOp.addi 1712723395#32 5#32) (rnd .vector 6#32 26#32 (rnd .vector 26#32 6#32 (S j))))) := rfl
theorem n6_1 (a b c : IVec S256x32 32) : k1_pay99 (F := F) a b c = erfCT (F := F) (k1_pay97 a b c) := rfl
theorem n7_1 (a b c : IVec S256x32 32) : k1_pay100 (F := F) a b c = erfXT (F := F) (k1_pay97 a b c) := rfl
theorem n8_1 (g x : FVec F S256x32 .f32) (lo hi : Vec F S1x32 .f32) :
    k1_pay1 g x (k1_pay101 (erfCT x) (erfXT x) (Scalar.ofBits .f32 0x32F16588#32) (Scalar.ofBits .f32 0xB951F09B#32)) (k1_pay102 x) lo hi = outT 0x3EA8F5C3#32 g x lo hi := rfl

theorem pick1_eq (i : grid1.Coords) (v0 : Elt F .i32) (e : Vec F S1x2048 .f32) :
    pick1 i v0 e = hotT lane (pertT (fun j => Spec.hash .vector 1705926158#32 899080142#32 1273600538#32 (gpos1 (F := F) i v0 j)) e) := by
  unfold pick1 hC1 hD1 hA1 hB1
  rw [g1_1a, g1_1b, g2_1a, g2_1b, g3_1a, g3_1b, g4_1a, g4_1b, g4_1c, g5_1]
  unfold Spec.hash fin2
  simp only [mix_gst]
theorem noise1_eq (i : grid1.Coords) (v0 : Elt F .i32) :
    k1_pay97 (F := F) (nE1 (F := F) i v0) (nF1 (F := F) i v0) (nG1 (F := F) i v0) = uniT (fun j => Spec.hash .vector 1712723395#32 2526649282#32 3948844507#32 (npos1 (F := F) i v0 j)) := by
  unfold nE1 nF1 nG1 nC1 nD1 nA1 nB1
  rw [n1_1a, n1_1b, n2_1a, n2_1b, n3_1a, n3_1b, n4_1a, n4_1b, n4_1c, n5_1]
  unfold Spec.hash fin2
  simp only [mix_nst]
theorem smp1_eq (i : grid1.Coords) (x0 : Vec F S1 .i32) (x8 : Vec F S2x32 .f32) (e : Vec F S1x2048 .f32) (hi mid lo : Vec F S2048x32 .bf16) :
    smp1 i x0 x8 e hi mid lo = outT 0x3EA8F5C3#32 (k1_pay54 (hotT lane (pertT (fun j => Spec.hash .vector 1705926158#32 899080142#32 1273600538#32 (gpos1 (F := F) i (offw1 x0) j)) e)) hi mid lo)
      (uniT (fun j => Spec.hash .vector 1712723395#32 2526649282#32 3948844507#32 (npos1 (F := F) i (offw1 x0) j))) (rowLo1 x8) (rowHi1 x8) := by
  unfold smp1
  rw [n6_1, n7_1, noise1_eq, pick1_eq]
  exact n8_1 _ _ _ _
end

/-- What a step stores, at row `r` of its block and column `c`. -/
theorem smp1_apply (i : grid1.Coords) (x0 : Vec Ideal S1 .i32) (hx0 : x0 = fun _ => 0#32) (x8 : Vec Ideal S2x32 .f32) (e : Vec Ideal S1x2048 .f32)
    (hi mid lo : Vec Ideal S2048x32 .bf16) (r : Fin 256) (c : Fin 32) (n : Fin 2048)
    (hn : n = pick fun k => gum .vector (Spec.hash .vector 1705926158#32 899080142#32 1273600538#32 (BitVec.ofNat 32 (((i 0).val * 2048 + ((i 1).val * 256 + r.val)) * 2048 + k.val))) - e (ix2 0 k)) :
    smp1 i x0 x8 e hi mid lo (ix3 0 r c) = min (max ((hi (ix2 n c) + mid (ix2 n c) + lo (ix2 n c))
      + nrm .vector (Spec.hash .vector 1712723395#32 2526649282#32 3948844507#32 (BitVec.ofNat 32 (((i 0).val * 2048 + ((i 1).val * 256 + r.val)) * 32 + c.val))) * Ideal.ofBits .f32 0x3EA8F5C3#32)
      (x8 (ix2 0 c))) (x8 (ix2 1 c)) := by
  have h0 : offw1 (F := Ideal) x0 = 0#32 := by rw [hx0]
  have hg : ∀ (q : Fin 256) (k : Fin 2048), gpos1 (F := Ideal) i (offw1 (F := Ideal) x0) (ix2 q k) = BitVec.ofNat 32 (((i 0).val * 2048 + ((i 1).val * 256 + q.val)) * 2048 + k.val) := fun q k => by
    rw [h0, gpos1, iota_g0, iota_g1]; exact pos_word _ _ _ _ _
  have hp : ∀ (q : Fin 256) (k : Fin 32), npos1 (F := Ideal) i (offw1 (F := Ideal) x0) (ix2 q k) = BitVec.ofNat 32 (((i 0).val * 2048 + ((i 1).val * 256 + q.val)) * 32 + k.val) := fun q k => by
    rw [h0, npos1, iota_n0, iota_n1]; exact pos_word _ _ _ _ _
  have hl : rowLo1 x8 (ix2 0 c) = x8 (ix2 0 c) := row_lo x8 c
  have hh : rowHi1 x8 (ix2 0 c) = x8 (ix2 1 c) := row_hi x8 c
  have hk : n = pick (fun k => pertT (F := Ideal) (fun j => Spec.hash .vector 1705926158#32 899080142#32 1273600538#32 (gpos1 (F := Ideal) i (offw1 (F := Ideal) x0) j)) e (ix2 r k)) := by
    rw [hn]
    simp only [pertT_apply, hg]
  rw [smp1_eq, outT_apply, pay54_apply _ _ (hotT_apply _), hl, hh, hp, ← hk]

end Cert.KernelIdeal.Region

end
-- ==== Proof.KernelIdeal.Inputs.lean ====
/- The arrays that the calls read: the program's arguments, reshaped, cut and in the formats of the calls, as the calls find them. -/
module

public import proofs.«01_k».proof.Proof.KernelIdeal.Frame
public import proofs.«01_k».proof.Proof.Value.Scalar
public import Idealize.ShloMosaic.Lib.Pipeline.ValueKit
public import Idealize.ShloMosaic.Lib.StableHlo.ReadAt

@[expose] public section

set_option maxRecDepth 16384

noncomputable section

namespace Cert.KernelIdeal.Region

open Cert.KernelIdeal Cert.KernelIdeal.Gen
open Idealize.ShloMosaic Idealize.ShloMosaic.TcCoe
open Cert.Spec

/-- What the calls find in their operands that are no samples. -/
structure Ins (W : Valuation τ sig (Elt Ideal)) (x : Fin 16 → Fin 256 → EReal) (w1 : Fin 288 → Fin 256 → EReal) (b1 w2 : Fin 256 → EReal) (b2 : EReal) (bd : Fin 2 → Fin 32 → EReal) : Prop where
  off : ∀ j : S1.Idx, (W (Proc.devRef .tc main_v9) : Vec Ideal S1 .i32) j = 0#32
  x : ∀ b d, (W (Proc.devRef .tc main_v1) : Vec Ideal S16x1x256 .bf16) (ix3 b 0 d) = x b d
  w1x : ∀ (d : Fin 256) k, (W (Proc.devRef .tc main_v3) : Vec Ideal S256x256 .bf16) (ix2 d k) = w1 ⟨d.val, by have := d.isLt; omega⟩ k
  w1a : ∀ (a : Fin 32) k, (W (Proc.devRef .tc main_v5) : Vec Ideal S32x256 .bf16) (ix2 a k) = w1 ⟨256 + a.val, by have := a.isLt; omega⟩ k
  b1 : ∀ k, (W (Proc.devRef .tc main_v6) : Vec Ideal S1x256 .f32) (ix2 0 k) = b1 k
  w2 : ∀ k, (W (Proc.devRef .tc main_v7) : Vec Ideal S256x1 .bf16) (ix2 k 0) = w2 k
  b2 : (W (Proc.devRef .tc main_v8) : Vec Ideal S1x1 .f32) (ix2 0 0) = b2
  bounds : ∀ a l, (W (Proc.devRef .tc main_arg5) : Vec Ideal S2x32 .f32) (ix2 a l) = bd a l

/-- Another array changed leaves them. -/
theorem Ins.update {W : Valuation τ sig (Elt Ideal)} {x w1 b1 w2 b2 bd} (h : Ins W x w1 b1 w2 b2 bd) (r : Ref sig .tc)
    (hr : r ∉ ([main_v9, main_v1, main_v3, main_v5, main_v6, main_v7, main_v8, main_arg5] : List (Ref sig .tc)))
    (v : (Proc.devRef (τ := τ) .tc r).ty.Contents (Elt Ideal)) : Ins (Function.update W (Proc.devRef .tc r) v) x w1 b1 w2 b2 bd := by
  have e : ∀ q ∈ ([main_v9, main_v1, main_v3, main_v5, main_v6, main_v7, main_v8, main_arg5] : List (Ref sig .tc)),
      Function.update W (Proc.devRef .tc r) v (Proc.devRef .tc q) = W (Proc.devRef .tc q) := fun q hq =>
    Function.update_of_ne (fun e => hr (by rw [← Proc.devRef_injective _ e]; exact hq)) _ _
  exact ⟨by rw [e _ (by simp)]; exact h.off, by rw [e _ (by simp)]; exact h.x, by rw [e _ (by simp)]; exact h.w1x, by rw [e _ (by simp)]; exact h.w1a,
    by rw [e _ (by simp)]; exact h.b1, by rw [e _ (by simp)]; exact h.w2, by rw [e _ (by simp)]; exact h.b2, by rw [e _ (by simp)]; exact h.bounds⟩

variable (m : (ℓ : Loc nD τ sig) → Buf (Elt Ideal) ℓ)

/-- The arguments themselves. -/
abbrev ax (c : Dev nD) (b : Fin 16) (d : Fin 256) : EReal := (m ((c : Thread nD τ).loc main_arg0) : Vec Ideal S16x256 .f32) (ix2 b d)
abbrev aw1 (c : Dev nD) (d : Fin 288) (k : Fin 256) : EReal := (m ((c : Thread nD τ).loc main_arg1) : Vec Ideal S288x256 .f32) (ix2 d k)
abbrev ab1 (c : Dev nD) (k : Fin 256) : EReal := (m ((c : Thread nD τ).loc main_arg2) : Vec Ideal S256 .f32) (ix1 k)
abbrev aw2 (c : Dev nD) (k : Fin 256) : EReal := (m ((c : Thread nD τ).loc main_arg3) : Vec Ideal S256x1 .f32) (ix2 k 0)
abbrev ab2 (c : Dev nD) : EReal := (m ((c : Thread nD τ).loc main_arg4) : Vec Ideal S1 .f32) (ix1 0)
abbrev abd (c : Dev nD) (a : Fin 2) (l : Fin 32) : EReal := (m ((c : Thread nD τ).loc main_arg5) : Vec Ideal S2x32 .f32) (ix2 a l)

theorem ins (c : Dev nD) : Ins (W1 m c) (ax m c) (aw1 m c) (ab1 m c) (aw2 m c) (ab2 m c) (abd m c) := by
  refine ⟨fun j => ?_, fun b d => ?_, fun d k => ?_, fun a k => ?_, fun k => ?_, fun k => ?_, ?_, fun a l => ?_⟩
  all_goals (unfold W1 V1; after_reads_at)

end Cert.KernelIdeal.Region

end
-- ==== Proof.KernelIdeal.Array1.lean ====
/- The array that the resampling call 1 leaves: the points of one more round. -/
module

public import proofs.«01_k».proof.Proof.KernelIdeal.Draw1
public import proofs.«01_k».proof.Proof.KernelIdeal.Inputs

@[expose] public section

set_option maxRecDepth 16384

noncomputable section

namespace Cert.KernelIdeal.Region

open Cert.KernelIdeal Cert.KernelIdeal.Gen
open Idealize.ShloMosaic Idealize.ShloMosaic.TcCoe
open Cert.Spec

variable (W : Dev nD → Valuation τ sig (Elt Ideal))

theorem win1_at : ∀ t : Fin cfg1.N, (cfg1.win 9).index t = ![(grid1.coords t 0).val, (grid1.coords t 1).val, 0] ∧ (cfg1.win 7).index t = ![(grid1.coords t 0).val, 0, 0]
    ∧ (cfg1.win 1).index t = ![(grid1.coords t 0).val, 0, 0] ∧ (cfg1.win 2).index t = ![0, 0] ∧ (cfg1.win 3).index t = ![0, 0] ∧ (cfg1.win 4).index t = ![0, 0]
    ∧ (cfg1.win 5).index t = ![0, 0] ∧ (cfg1.win 6).index t = ![0, 0] ∧ (cfg1.win 8).index t = ![0, 0] ∧ (grid1.coords (row1 t.val) 0).val = (grid1.coords t 0).val := by decide +kernel

section
variable (c : Dev nD) (t : Fin cfg1.N) (b : Fin 16) (hb : (grid1.coords t 0).val = b.val)
include hb
theorem blk1_s (q : Fin 2048) (l : Fin 32) : (blk1 W c 7 t : Vec Ideal S1x2048x32 .f32) (ix3 0 q l) = (W c (Proc.devRef .tc main_v10) : Vec Ideal S16x2048x32 .f32) (ix3 b q l) := by
  blk_ext [blk1, (win1_at t).2.1, hb]
theorem blk1_x (d : Fin 256) : (blk1 W c 1 t : Vec Ideal S1x1x256 .bf16) (ix3 0 0 d) = (W c (Proc.devRef .tc main_v1) : Vec Ideal S16x1x256 .bf16) (ix3 b 0 d) := by
  blk_ext [blk1, (win1_at t).2.2.1, hb]
omit hb
theorem blk1_w1x (d k : Fin 256) : (blk1 W c 2 t : Vec Ideal S256x256 .bf16) (ix2 d k) = (W c (Proc.devRef .tc main_v3) : Vec Ideal S256x256 .bf16) (ix2 d k) := by
  blk_ext [blk1, (win1_at t).2.2.2.1]
theorem blk1_w1a (d : Fin 32) (k : Fin 256) : (blk1 W c 3 t : Vec Ideal S32x256 .bf16) (ix2 d k) = (W c (Proc.devRef .tc main_v5) : Vec Ideal S32x256 .bf16) (ix2 d k) := by
  blk_ext [blk1, (win1_at t).2.2.2.2.1]
theorem blk1_b1 (k : Fin 256) : (blk1 W c 4 t : Vec Ideal S1x256 .f32) (ix2 0 k) = (W c (Proc.devRef .tc main_v6) : Vec Ideal S1x256 .f32) (ix2 0 k) := by
  blk_ext [blk1, (win1_at t).2.2.2.2.2.1]
theorem blk1_w2 (k : Fin 256) : (blk1 W c 5 t : Vec Ideal S256x1 .bf16) (ix2 k 0) = (W c (Proc.devRef .tc main_v7) : Vec Ideal S256x1 .bf16) (ix2 k 0) := by
  blk_ext [blk1, (win1_at t).2.2.2.2.2.2.1]
theorem blk1_b2 : (blk1 W c 6 t : Vec Ideal S1x1 .f32) (ix2 0 0) = (W c (Proc.devRef .tc main_v8) : Vec Ideal S1x1 .f32) (ix2 0 0) := by
  blk_ext [blk1, (win1_at t).2.2.2.2.2.2.2.1]
theorem blk1_bounds (a : Fin 2) (l : Fin 32) : (blk1 W c 8 t : Vec Ideal S2x32 .f32) (ix2 a l) = (W c (Proc.devRef .tc main_arg5) : Vec Ideal S2x32 .f32) (ix2 a l) := by
  blk_ext [blk1, (win1_at t).2.2.2.2.2.2.2.2.1]
end

variable {x : Fin 16 → Fin 256 → EReal} {w1 : Fin 288 → Fin 256 → EReal} {b1 w2 : Fin 256 → EReal} {b2 : EReal} {bd : Fin 2 → Fin 32 → EReal}

/-- The energies in the scratch. -/
theorem energy1 (c : Dev nD) (hI : Ins (W c) x w1 b1 w2 b2 bd) (t : Fin cfg1.N) (b : Fin 16) (hb : (grid1.coords t 0).val = b.val)
    (S : Fin 16 → Fin 2048 → Fin 32 → EReal) (hS : ∀ b q l, (W c (Proc.devRef .tc main_v10) : Vec Ideal S16x2048x32 .f32) (ix3 b q l) = S b q l) (q : Fin 2048) :
    (scE1 W c t.val : Vec Ideal S1x2048 .f32) (ix2 0 q) = energy (x b) w1 b1 w2 b2 (S b q) := by
  have hb' : (grid1.coords (row1 t.val) 0).val = b.val := (win1_at t).2.2.2.2.2.2.2.2.2.trans hb
  unfold scE1 energy
  refine (pay3_apply _ _ _ _ _ _ _ q).trans ?_
  simp only [blk1_s W c (row1 t.val) b hb', blk1_x W c (row1 t.val) b hb', blk1_w1x, blk1_w1a, blk1_b1, blk1_w2, blk1_b2, hS, hI.x, hI.w1x, hI.w1a, hI.b1, hI.w2, hI.b2]

/-- One coordinate of the block that a step writes. -/
theorem wrote1 (c : Dev nD) (hI : Ins (W c) x w1 b1 w2 b2 bd) (t : Fin cfg1.N) (b : Fin 16) (hb : (grid1.coords t 0).val = b.val)
    (S : Fin 16 → Fin 2048 → Fin 32 → EReal) (hS : ∀ b q l, (W c (Proc.devRef .tc main_v10) : Vec Ideal S16x2048x32 .f32) (ix3 b q l) = S b q l) (hf : ∀ b q l, Fin' (S b q l))
    (r : Fin 256) (l : Fin 32) (R : Fin 2048) (hR : R.val = (grid1.coords t 1).val * 256 + r.val) :
    (smpAt1 W c t : Vec Ideal S1x256x32 .f32) (ix3 0 r l) = step 1705926158#32 899080142#32 1273600538#32 1712723395#32 2526649282#32 3948844507#32 0x3EA8F5C3#32 bd (fun b => energy (x b) w1 b1 w2 b2) S b R l := by
  unfold smpAt1
  have hb' : (grid1.coords (row1 t.val) 0).val = b.val := (win1_at t).2.2.2.2.2.2.2.2.2.trans hb
  have ho : (blk1 W c 0 t : Vec Ideal S1 .i32) = fun _ => 0#32 := by funext z; unfold blk1; exact hI.off _
  refine (smp1_apply (grid1.coords t) (blk1 W c 0 t) ho (blk1 W c 8 t) (scE1 W c t.val) _ _ _ r l _ rfl).trans ?_
  have hs : ∀ q l, (scS1 W c t.val : Vec Ideal S1x2048x32 .f32) (ix3 0 q l) = S b q l := fun q l => (blk1_s W c _ b hb' q l).trans (hS _ _ _)
  have h5 : ∀ q l, k1_pay5 (scS1 W c t.val) (ix2 q l) = S b q l := fun q l => (pay5_apply _ q l).trans (hs q l)
  have h8 : ∀ q l, k1_pay8 (k1_pay2 (scS1 W c t.val)) (k1_pay4 (scS1 W c t.val)) (ix2 q l) = S b q l - S b q l := fun q l => (pay8_apply _ q l).trans (by rw [hs])
  have h9 : ∀ q l, k1_pay9 (k1_pay2 (scS1 W c t.val)) (k1_pay4 (scS1 W c t.val)) (ix2 q l) = S b q l - S b q l - (S b q l - S b q l) := fun q l => (pay9_apply _ q l).trans (by rw [hs])
  have he : ∀ q, (scE1 W c t.val : Vec Ideal S1x2048 .f32) (ix2 0 q) = energy (x b) w1 b1 w2 b2 (S b q) := energy1 W c hI t b hb S hS
  have h0 : ∀ a l, (blk1 W c 8 t : Vec Ideal S2x32 .f32) (ix2 a l) = bd a l := fun a l => (blk1_bounds W c t a l).trans (hI.bounds a l)
  rw [h5, h8, h9, h0, h0, (hf _ _ _).sub_self, sub_zero, add_zero, add_zero, ← hR, hb]
  simp only [he]
  rfl

theorem array1 (c : Dev nD) (hI : Ins (W c) x w1 b1 w2 b2 bd)
    (S : Fin 16 → Fin 2048 → Fin 32 → EReal) (hS : ∀ b q l, (W c (Proc.devRef .tc main_v10) : Vec Ideal S16x2048x32 .f32) (ix3 b q l) = S b q l) (hf : ∀ b q l, Fin' (S b q l)) :
    (dat1 W c).arrAt 9 cfg1.N = (fun j : S16x2048x32.Idx => step 1705926158#32 899080142#32 1273600538#32 1712723395#32 2526649282#32 3948844507#32 0x3EA8F5C3#32 bd (fun b => energy (x b) w1 b1 w2 b2) S (j 0) (j 1) (j 2)) := by
  refine (dat1 W c).arrAt_eq_of_covers 9 _ (by decide +kernel) fun t hfl y => ?_
  blk_simp
  have e0 : ((win1_9.blk t).view.emb y 0).val = (grid1.coords t 0).val := by blk_simp [(win1_at t).1]
  have e1 : ((win1_9.blk t).view.emb y 1).val = (grid1.coords t 1).val * 256 + (y 1).val := by blk_simp [(win1_at t).1]
  have e2 : ((win1_9.blk t).view.emb y 2).val = (y 2).val := by blk_simp [(win1_at t).1]
  rw [after1_9, show (win1_9.blk t).view.emb y 2 = y 2 from Fin.ext e2]
  have hy : y = (ix3 0 (y 1) (y 2) : S1x256x32.Idx) := (eq_ix3 (n0 := 1) (n1 := 256) (n2 := 32) y).trans (congrArg (fun a : Fin 1 => (ix3 a (y 1) (y 2) : S1x256x32.Idx)) (Subsingleton.elim _ _))
  exact (congrArg _ hy).trans (wrote1 W c hI t _ e0.symm S hS hf (y 1) (y 2) _ e1)

end Cert.KernelIdeal.Region

end
-- ==== Proof.KernelIdeal.Hash2.lean ====
/- The words drawn by the resampling call 2 are the hashes of their positions. -/
module

public import proofs.«01_k».proof.Proof.KernelIdeal.Resample2
public import proofs.«01_k».proof.Proof.Value.Spec

@[expose] public section

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec

/-- The position of an element of a block of gumbels, and of a block of noise. -/
def gpos2 (i : grid2.Coords) (v0 : Elt F .i32) (j : S256x2048.Idx) : BitVec 32 :=
  IntOp.addi (IntOp.addi (Scalar.muli (Scalar.addi (Scalar.muli (Scalar.addi (BitVec.ofNat 32 (i 0).val) v0) 2048#32) (Scalar.muli (BitVec.ofNat 32 (i 1).val) 256#32)) 2048#32)
    (IntOp.muli (iota .tc S256x2048 32 [0] iota_S256x2048_d0_w32 j) 2048#32)) (iota .tc S256x2048 32 [1] iota_S256x2048_d1_w32 j)
def npos2 (i : grid2.Coords) (v0 : Elt F .i32) (j : S256x32.Idx) : BitVec 32 :=
  IntOp.addi (IntOp.addi (Scalar.muli (Scalar.addi (Scalar.muli (Scalar.addi (BitVec.ofNat 32 (i 0).val) v0) 2048#32) (Scalar.muli (BitVec.ofNat 32 (i 1).val) 256#32)) 32#32)
    (IntOp.muli (iota .tc S256x32 32 [0] iota_S256x32_d0_w32 j) 32#32)) (iota .tc S256x32 32 [1] iota_S256x32_d1_w32 j)

theorem g1_2a (i : grid2.Coords) (v0 : Elt F .i32) : k2_pay16 (F := F) i v0 = fun j => (gst1 .vector 2232176465#32 33846082#32 2631477193#32 (gpos2 (F := F) i v0 j)).2 := rfl
theorem g1_2b (i : grid2.Coords) (v0 : Elt F .i32) : k2_pay17 (F := F) i v0 = fun j => (gst1 .vector 2232176465#32 33846082#32 2631477193#32 (gpos2 (F := F) i v0 j)).1 + (gst1 .vector 2232176465#32 33846082#32 2631477193#32 (gpos2 (F := F) i v0 j)).2 := rfl
theorem g2_2a (S : S256x2048.Idx → BitVec 32 × BitVec 32) : k2_pay26 (fun j => (S j).2) (fun j => (S j).1 + (S j).2) 6#32 = fun j => (gst2 .vector 2232176465#32 33846082#32 2631477193#32 (S j)).2 := rfl
theorem g2_2b (S : S256x2048.Idx → BitVec 32 × BitVec 32) : k2_pay27 (fun j => (S j).2) (fun j => (S j).1 + (S j).2) 6#32 = fun j => (gst2 .vector 2232176465#32 33846082#32 2631477193#32 (S j)).1 + (gst2 .vector 2232176465#32 33846082#32 2631477193#32 (S j)).2 := rfl
theorem g3_2a (S : S256x2048.Idx → BitVec 32 × BitVec 32) : k2_pay37 (fun j => (S j).2) (fun j => (S j).1 + (S j).2) = fun j => (gst3 .vector 2232176465#32 33846082#32 2631477193#32 (S j)).1 + (gst3 .vector 2232176465#32 33846082#32 2631477193#32 (S j)).2 := rfl
theorem g3_2b (S : S256x2048.Idx → BitVec 32 × BitVec 32) : k2_pay38 (fun j => (S j).2) (fun j => (S j).1 + (S j).2) = fun j => rot .vector (gst3 .vector 2232176465#32 33846082#32 2631477193#32 (S j)).2 29#32 3#32 := rfl
theorem g4_2a (S : S256x2048.Idx → BitVec 32 × BitVec 32) : k2_pay49 (fun j => (S j).1 + (S j).2) (fun j => rot .vector (S j).2 29#32 3#32) = fun j => (gst4 .vector 2232176465#32 33846082#32 2631477193#32 (S j)).2 := rfl
theorem g4_2b (S : S256x2048.Idx → BitVec 32 × BitVec 32) : k2_pay50 (fun j => (S j).1 + (S j).2) (fun j => rot .vector (S j).2 29#32 3#32) = fun j => (gst4 .vector 2232176465#32 33846082#32 2631477193#32 (S j)).1 + (gst4 .vector 2232176465#32 33846082#32 2631477193#32 (S j)).2 := rfl
theorem g4_2c (S : S256x2048.Idx → BitVec 32 × BitVec 32) : k2_pay51 (fun j => (S j).1 + (S j).2) (fun j => rot .vector (S j).2 29#32 3#32) = fun j => IntOp.shli .vector (gst4 .vector 2232176465#32 33846082#32 2631477193#32 (S j)).2 6#32 := rfl

theorem n1_2a (i : grid2.Coords) (v0 : Elt F .i32) : k2_pay59 (BitVec.ofNat 32 (i 1).val) (rowOff2 (F := F) i v0) = fun j => (nst1 .vector 767915537#32 735759787#32 500080736#32 (npos2 (F := F) i v0 j)).2 := rfl
theorem n1_2b (i : grid2.Coords) (v0 : Elt F .i32) : k2_pay60 (BitVec.ofNat 32 (i 1).val) (rowOff2 (F := F) i v0) = fun j => (nst1 .vector 767915537#32 735759787#32 500080736#32 (npos2 (F := F) i v0 j)).1 + (nst1 .vector 767915537#32 735759787#32 500080736#32 (npos2 (F := F) i v0 j)).2 := rfl
theorem n2_2a (S : S256x32.Idx → BitVec 32 × BitVec 32) : k2_pay71 (fun j => (S j).2) (fun j => (S j).1 + (S j).2) k2_pay61 = fun j => (nst2 .vector 767915537#32 735759787#32 500080736#32 (S j)).1 := rfl
theorem n2_2b (S : S256x32.Idx → BitVec 32 × BitVec 32) : k2_pay72 (fun j => (S j).2) (fun j => (S j).1 + (S j).2) k2_pay61 = fun j => (nst2 .vector 767915537#32 735759787#32 500080736#32 (S j)).2 := rfl
theorem n3_2a (S : S256x32.Idx → BitVec 32 × BitVec 32) : k2_pay82 (fun j => (S j).1) (fun j => (S j).2) 500080736#32 = fun j => (nst3 .vector 767915537#32 735759787#32 500080736#32 (S j)).1 := rfl
theorem n3_2b (S : S256x32.Idx → BitVec 32 × BitVec 32) : k2_pay83 (fun j => (S j).1) (fun j => (S j).2) 500080736#32 = fun j => (nst3 .vector 767915537#32 735759787#32 500080736#32 (S j)).2 := rfl
theorem n4_2a (S : S256x32.Idx → BitVec 32 × BitVec 32) : k2_pay94 (fun j => (S j).1) (fun j => (S j).2) = fun j => (nst4 .vector 767915537#32 735759787#32 500080736#32 (S j)).1 + (nst4 .vector 767915537#32 735759787#32 500080736#32 (S j)).2 := rfl
theorem n4_2b (S : S256x32.Idx → BitVec 32 × BitVec 32) : k2_pay95 (fun j => (S j).1) (fun j => (S j).2) = fun j => IntOp.shli .vector (nst4 .vector 767915537#32 735759787#32 500080736#32 (S j)).2 26#32 := rfl
theorem n4_2c (S : S256x32.Idx → BitVec 32 × BitVec 32) : k2_pay96 (fun j => (S j).1) (fun j => (S j).2) = fun j => IntOp.shrui .vector (nst4 .vector 767915537#32 735759787#32 500080736#32 (S j)).2 6#32 := rfl

end Cert.KernelIdeal.Region

end
-- ==== Proof.KernelIdeal.Draw2.lean ====
/- What the resampling call 2 stores at a step, element by element. -/
module

public import proofs.«01_k».proof.Proof.KernelIdeal.Hash2
public import proofs.«01_k».proof.Proof.KernelIdeal.Tail

@[expose] public section

set_option maxRecDepth 16384

noncomputable section

namespace Cert.KernelIdeal.Region

open Cert.KernelIdeal Cert.KernelIdeal.Gen
open Idealize.ShloMosaic
open Cert.Spec

section
variable {F : FTy → Type} [FloatOps F]

theorem g5_2 (S : S256x2048.Idx → BitVec 32 × BitVec 32) (e : Vec F S1x2048 .f32) :
    k2_pay53 lane (fun j => (S j).2) (fun j => (S j).1 + (S j).2) (fun j => IntOp.shli .vector (S j).2 6#32) k2_pay52 e
      = hotT lane (pertT (fun j => fin2 (inj 2631477193#32 (IntOp.addi 2232176465#32 5#32) (rnd .vector 6#32 26#32 (S j)))) e) := rfl
theorem n5_2 (S : S256x32.Idx → BitVec 32 × BitVec 32) :
    k2_pay97 (F := F) (fun j => (S j).1 + (S j).2) (fun j => IntOp.shli .vector (S j).2 26#32) (fun j => IntOp.shrui .vector (S j).2 6#32)
      = uniT (fun j => fin2 (inj 500080736#32 (IntOp.addi 767915537#32 5#32) (rnd .vector 6#32 26#32 (rnd .vector 26#32 6#32 (S j))))) := rfl
theorem n6_2 (a b c : IVec S256x32 32) : k2_pay99 (F := F) a b c = erfCT (F := F) (k2_pay97 a b c) := rfl
theorem n7_2 (a b c : IVec S256x32 32) : k2_pay100 (F := F) a b c = erfXT (F := F) (k2_pay97 a b c) := rfl
theorem n8_2 (g x : FVec F S256x32 .f32) (lo hi : Vec F S1x32 .f32) :
    k2_pay1 g x (k2_pay101 (erfCT x) (erfXT x) (Scalar.ofBits .f32 0x32F16588#32) (Scalar.ofBits .f32 0xB951F09B#32)) (k2_pay102 x) lo hi = outT 0x3E28F5C3#32 g x lo hi := rfl

theorem pick2_eq (i : grid2.Coords) (v0 : Elt F .i32) (e : Vec F S1x2048 .f32) :
    pick2 i v0 e = hotT lane (pertT (fun j => Spec.hash .vector 2232176465#32 33846082#32 2631477193#32 (gpos2 (F := F) i v0 j)) e) := by
  unfold pick2 hC2 hD2 hA2 hB2
  rw [g1_2a, g1_2b, g2_2a, g2_2b, g3_2a, g3_2b, g4_2a, g4_2b, g4_2c, g5_2]
  unfold Spec.hash fin2
  simp only [mix_gst]
theorem noise2_eq (i : grid2.Coords) (v0 : Elt F .i32) :
    k2_pay97 (F := F) (nE2 (F := F) i v0) (nF2 (F := F) i v0) (nG2 (F := F) i v0) = uniT (fun j => Spec.hash .vector 767915537#32 735759787#32 500080736#32 (npos2 (F := F) i v0 j)) := by
  unfold nE2 nF2 nG2 nC2 nD2 nA2 nB2
  rw [n1_2a, n1_2b, n2_2a, n2_2b, n3_2a, n3_2b, n4_2a, n4_2b, n4_2c, n5_2]
  unfold Spec.hash fin2
  simp only [mix_nst]
theorem smp2_eq (i : grid2.Coords) (x0 : Vec F S1 .i32) (x8 : Vec F S2x32 .f32) (e : Vec F S1x2048 .f32) (hi mid lo : Vec F S2048x32 .bf16) :
    smp2 i x0 x8 e hi mid lo = outT 0x3E28F5C3#32 (k1_pay54 (hotT lane (pertT (fun j => Spec.hash .vector 2232176465#32 33846082#32 2631477193#32 (gpos2 (F := F) i (offw2 x0) j)) e)) hi mid lo)
      (uniT (fun j => Spec.hash .vector 767915537#32 735759787#32 500080736#32 (npos2 (F := F) i (offw2 x0) j))) (rowLo2 x8) (rowHi2 x8) := by
  unfold smp2
  rw [n6_2, n7_2, noise2_eq, pick2_eq]
  exact n8_2 _ _ _ _
end

/-- What a step stores, at row `r` of its block and column `c`. -/
theorem smp2_apply (i : grid2.Coords) (x0 : Vec Ideal S1 .i32) (hx0 : x0 = fun _ => 0#32) (x8 : Vec Ideal S2x32 .f32) (e : Vec Ideal S1x2048 .f32)
    (hi mid lo : Vec Ideal S2048x32 .bf16) (r : Fin 256) (c : Fin 32) (n : Fin 2048)
    (hn : n = pick fun k => gum .vector (Spec.hash .vector 2232176465#32 33846082#32 2631477193#32 (BitVec.ofNat 32 (((i 0).val * 2048 + ((i 1).val * 256 + r.val)) * 2048 + k.val))) - e (ix2 0 k)) :
    smp2 i x0 x8 e hi mid lo (ix3 0 r c) = min (max ((hi (ix2 n c) + mid (ix2 n c) + lo (ix2 n c))
      + nrm .vector (Spec.hash .vector 767915537#32 735759787#32 500080736#32 (BitVec.ofNat 32 (((i 0).val * 2048 + ((i 1).val * 256 + r.val)) * 32 + c.val))) * Ideal.ofBits .f32 0x3E28F5C3#32)
      (x8 (ix2 0 c))) (x8 (ix2 1 c)) := by
  have h0 : offw2 (F := Ideal) x0 = 0#32 := by rw [hx0]
  have hg : ∀ (q : Fin 256) (k : Fin 2048), gpos2 (F := Ideal) i (offw2 (F := Ideal) x0) (ix2 q k) = BitVec.ofNat 32 (((i 0).val * 2048 + ((i 1).val * 256 + q.val)) * 2048 + k.val) := fun q k => by
    rw [h0, gpos2, iota_g0, iota_g1]; exact pos_word _ _ _ _ _
  have hp : ∀ (q : Fin 256) (k : Fin 32), npos2 (F := Ideal) i (offw2 (F := Ideal) x0) (ix2 q k) = BitVec.ofNat 32 (((i 0).val * 2048 + ((i 1).val * 256 + q.val)) * 32 + k.val) := fun q k => by
    rw [h0, npos2, iota_n0, iota_n1]; exact pos_word _ _ _ _ _
  have hl : rowLo2 x8 (ix2 0 c) = x8 (ix2 0 c) := row_lo x8 c
  have hh : rowHi2 x8 (ix2 0 c) = x8 (ix2 1 c) := row_hi x8 c
  have hk : n = pick (fun k => pertT (F := Ideal) (fun j => Spec.hash .vector 2232176465#32 33846082#32 2631477193#32 (gpos2 (F := Ideal) i (offw2 (F := Ideal) x0) j)) e (ix2 r k)) := by
    rw [hn]
    simp only [pertT_apply, hg]
  rw [smp2_eq, outT_apply, pay54_apply _ _ (hotT_apply _), hl, hh, hp, ← hk]

end Cert.KernelIdeal.Region

end
-- ==== Proof.KernelIdeal.Array2.lean ====
/- The array that the resampling call 2 leaves: the points of one more round. -/
module

public import proofs.«01_k».proof.Proof.KernelIdeal.Draw2
public import proofs.«01_k».proof.Proof.KernelIdeal.Inputs

@[expose] public section

set_option maxRecDepth 16384

noncomputable section

namespace Cert.KernelIdeal.Region

open Cert.KernelIdeal Cert.KernelIdeal.Gen
open Idealize.ShloMosaic Idealize.ShloMosaic.TcCoe
open Cert.Spec

variable (W : Dev nD → Valuation τ sig (Elt Ideal))

theorem win2_at : ∀ t : Fin cfg2.N, (cfg2.win 9).index t = ![(grid2.coords t 0).val, (grid2.coords t 1).val, 0] ∧ (cfg2.win 7).index t = ![(grid2.coords t 0).val, 0, 0]
    ∧ (cfg2.win 1).index t = ![(grid2.coords t 0).val, 0, 0] ∧ (cfg2.win 2).index t = ![0, 0] ∧ (cfg2.win 3).index t = ![0, 0] ∧ (cfg2.win 4).index t = ![0, 0]
    ∧ (cfg2.win 5).index t = ![0, 0] ∧ (cfg2.win 6).index t = ![0, 0] ∧ (cfg2.win 8).index t = ![0, 0] ∧ (grid2.coords (row2 t.val) 0).val = (grid2.coords t 0).val := by decide +kernel

section
variable (c : Dev nD) (t : Fin cfg2.N) (b : Fin 16) (hb : (grid2.coords t 0).val = b.val)
include hb
theorem blk2_s (q : Fin 2048) (l : Fin 32) : (blk2 W c 7 t : Vec Ideal S1x2048x32 .f32) (ix3 0 q l) = (W c (Proc.devRef .tc main_v11) : Vec Ideal S16x2048x32 .f32) (ix3 b q l) := by
  blk_ext [blk2, (win2_at t).2.1, hb]
theorem blk2_x (d : Fin 256) : (blk2 W c 1 t : Vec Ideal S1x1x256 .bf16) (ix3 0 0 d) = (W c (Proc.devRef .tc main_v1) : Vec Ideal S16x1x256 .bf16) (ix3 b 0 d) := by
  blk_ext [blk2, (win2_at t).2.2.1, hb]
omit hb
theorem blk2_w1x (d k : Fin 256) : (blk2 W c 2 t : Vec Ideal S256x256 .bf16) (ix2 d k) = (W c (Proc.devRef .tc main_v3) : Vec Ideal S256x256 .bf16) (ix2 d k) := by
  blk_ext [blk2, (win2_at t).2.2.2.1]
theorem blk2_w1a (d : Fin 32) (k : Fin 256) : (blk2 W c 3 t : Vec Ideal S32x256 .bf16) (ix2 d k) = (W c (Proc.devRef .tc main_v5) : Vec Ideal S32x256 .bf16) (ix2 d k) := by
  blk_ext [blk2, (win2_at t).2.2.2.2.1]
theorem blk2_b1 (k : Fin 256) : (blk2 W c 4 t : Vec Ideal S1x256 .f32) (ix2 0 k) = (W c (Proc.devRef .tc main_v6) : Vec Ideal S1x256 .f32) (ix2 0 k) := by
  blk_ext [blk2, (win2_at t).2.2.2.2.2.1]
theorem blk2_w2 (k : Fin 256) : (blk2 W c 5 t : Vec Ideal S256x1 .bf16) (ix2 k 0) = (W c (Proc.devRef .tc main_v7) : Vec Ideal S256x1 .bf16) (ix2 k 0) := by
  blk_ext [blk2, (win2_at t).2.2.2.2.2.2.1]
theorem blk2_b2 : (blk2 W c 6 t : Vec Ideal S1x1 .f32) (ix2 0 0) = (W c (Proc.devRef .tc main_v8) : Vec Ideal S1x1 .f32) (ix2 0 0) := by
  blk_ext [blk2, (win2_at t).2.2.2.2.2.2.2.1]
theorem blk2_bounds (a : Fin 2) (l : Fin 32) : (blk2 W c 8 t : Vec Ideal S2x32 .f32) (ix2 a l) = (W c (Proc.devRef .tc main_arg5) : Vec Ideal S2x32 .f32) (ix2 a l) := by
  blk_ext [blk2, (win2_at t).2.2.2.2.2.2.2.2.1]
end

variable {x : Fin 16 → Fin 256 → EReal} {w1 : Fin 288 → Fin 256 → EReal} {b1 w2 : Fin 256 → EReal} {b2 : EReal} {bd : Fin 2 → Fin 32 → EReal}

/-- The energies in the scratch. -/
theorem energy2 (c : Dev nD) (hI : Ins (W c) x w1 b1 w2 b2 bd) (t : Fin cfg2.N) (b : Fin 16) (hb : (grid2.coords t 0).val = b.val)
    (S : Fin 16 → Fin 2048 → Fin 32 → EReal) (hS : ∀ b q l, (W c (Proc.devRef .tc main_v11) : Vec Ideal S16x2048x32 .f32) (ix3 b q l) = S b q l) (q : Fin 2048) :
    (scE2 W c t.val : Vec Ideal S1x2048 .f32) (ix2 0 q) = energy (x b) w1 b1 w2 b2 (S b q) := by
  have hb' : (grid2.coords (row2 t.val) 0).val = b.val := (win2_at t).2.2.2.2.2.2.2.2.2.trans hb
  unfold scE2 energy
  refine (pay3_apply _ _ _ _ _ _ _ q).trans ?_
  simp only [blk2_s W c (row2 t.val) b hb', blk2_x W c (row2 t.val) b hb', blk2_w1x, blk2_w1a, blk2_b1, blk2_w2, blk2_b2, hS, hI.x, hI.w1x, hI.w1a, hI.b1, hI.w2, hI.b2]

/-- One coordinate of the block that a step writes. -/
theorem wrote2 (c : Dev nD) (hI : Ins (W c) x w1 b1 w2 b2 bd) (t : Fin cfg2.N) (b : Fin 16) (hb : (grid2.coords t 0).val = b.val)
    (S : Fin 16 → Fin 2048 → Fin 32 → EReal) (hS : ∀ b q l, (W c (Proc.devRef .tc main_v11) : Vec Ideal S16x2048x32 .f32) (ix3 b q l) = S b q l) (hf : ∀ b q l, Fin' (S b q l))
    (r : Fin 256) (l : Fin 32) (R : Fin 2048) (hR : R.val = (grid2.coords t 1).val * 256 + r.val) :
    (smpAt2 W c t : Vec Ideal S1x256x32 .f32) (ix3 0 r l) = step 2232176465#32 33846082#32 2631477193#32 767915537#32 735759787#32 500080736#32 0x3E28F5C3#32 bd (fun b => energy (x b) w1 b1 w2 b2) S b R l := by
  unfold smpAt2
  have hb' : (grid2.coords (row2 t.val) 0).val = b.val := (win2_at t).2.2.2.2.2.2.2.2.2.trans hb
  have ho : (blk2 W c 0 t : Vec Ideal S1 .i32) = fun _ => 0#32 := by funext z; unfold blk2; exact hI.off _
  refine (smp2_apply (grid2.coords t) (blk2 W c 0 t) ho (blk2 W c 8 t) (scE2 W c t.val) _ _ _ r l _ rfl).trans ?_
  have hs : ∀ q l, (scS2 W c t.val : Vec Ideal S1x2048x32 .f32) (ix3 0 q l) = S b q l := fun q l => (blk2_s W c _ b hb' q l).trans (hS _ _ _)
  have h5 : ∀ q l, k2_pay5 (scS2 W c t.val) (ix2 q l) = S b q l := fun q l => (pay5_apply _ q l).trans (hs q l)
  have h8 : ∀ q l, k2_pay8 (k2_pay2 (scS2 W c t.val)) (k2_pay4 (scS2 W c t.val)) (ix2 q l) = S b q l - S b q l := fun q l => (pay8_apply _ q l).trans (by rw [hs])
  have h9 : ∀ q l, k2_pay9 (k2_pay2 (scS2 W c t.val)) (k2_pay4 (scS2 W c t.val)) (ix2 q l) = S b q l - S b q l - (S b q l - S b q l) := fun q l => (pay9_apply _ q l).trans (by rw [hs])
  have he : ∀ q, (scE2 W c t.val : Vec Ideal S1x2048 .f32) (ix2 0 q) = energy (x b) w1 b1 w2 b2 (S b q) := energy2 W c hI t b hb S hS
  have h0 : ∀ a l, (blk2 W c 8 t : Vec Ideal S2x32 .f32) (ix2 a l) = bd a l := fun a l => (blk2_bounds W c t a l).trans (hI.bounds a l)
  rw [h5, h8, h9, h0, h0, (hf _ _ _).sub_self, sub_zero, add_zero, add_zero, ← hR, hb]
  simp only [he]
  rfl

theorem array2 (c : Dev nD) (hI : Ins (W c) x w1 b1 w2 b2 bd)
    (S : Fin 16 → Fin 2048 → Fin 32 → EReal) (hS : ∀ b q l, (W c (Proc.devRef .tc main_v11) : Vec Ideal S16x2048x32 .f32) (ix3 b q l) = S b q l) (hf : ∀ b q l, Fin' (S b q l)) :
    (dat2 W c).arrAt 9 cfg2.N = (fun j : S16x2048x32.Idx => step 2232176465#32 33846082#32 2631477193#32 767915537#32 735759787#32 500080736#32 0x3E28F5C3#32 bd (fun b => energy (x b) w1 b1 w2 b2) S (j 0) (j 1) (j 2)) := by
  refine (dat2 W c).arrAt_eq_of_covers 9 _ (by decide +kernel) fun t hfl y => ?_
  blk_simp
  have e0 : ((win2_9.blk t).view.emb y 0).val = (grid2.coords t 0).val := by blk_simp [(win2_at t).1]
  have e1 : ((win2_9.blk t).view.emb y 1).val = (grid2.coords t 1).val * 256 + (y 1).val := by blk_simp [(win2_at t).1]
  have e2 : ((win2_9.blk t).view.emb y 2).val = (y 2).val := by blk_simp [(win2_at t).1]
  rw [after2_9, show (win2_9.blk t).view.emb y 2 = y 2 from Fin.ext e2]
  have hy : y = (ix3 0 (y 1) (y 2) : S1x256x32.Idx) := (eq_ix3 (n0 := 1) (n1 := 256) (n2 := 32) y).trans (congrArg (fun a : Fin 1 => (ix3 a (y 1) (y 2) : S1x256x32.Idx)) (Subsingleton.elim _ _))
  exact (congrArg _ hy).trans (wrote2 W c hI t _ e0.symm S hS hf (y 1) (y 2) _ e1)

end Cert.KernelIdeal.Region

end
-- ==== Proof.KernelIdeal.Hash3.lean ====
/- The words drawn by the resampling call 3 are the hashes of their positions. -/
module

public import proofs.«01_k».proof.Proof.KernelIdeal.Resample3
public import proofs.«01_k».proof.Proof.Value.Spec

@[expose] public section

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec

/-- The position of an element of a block of gumbels, and of a block of noise. -/
def gpos3 (i : grid3.Coords) (v0 : Elt F .i32) (j : S256x2048.Idx) : BitVec 32 :=
  IntOp.addi (IntOp.addi (Scalar.muli (Scalar.addi (Scalar.muli (Scalar.addi (BitVec.ofNat 32 (i 0).val) v0) 2048#32) (Scalar.muli (BitVec.ofNat 32 (i 1).val) 256#32)) 2048#32)
    (IntOp.muli (iota .tc S256x2048 32 [0] iota_S256x2048_d0_w32 j) 2048#32)) (iota .tc S256x2048 32 [1] iota_S256x2048_d1_w32 j)
def npos3 (i : grid3.Coords) (v0 : Elt F .i32) (j : S256x32.Idx) : BitVec 32 :=
  IntOp.addi (IntOp.addi (Scalar.muli (Scalar.addi (Scalar.muli (Scalar.addi (BitVec.ofNat 32 (i 0).val) v0) 2048#32) (Scalar.muli (BitVec.ofNat 32 (i 1).val) 256#32)) 32#32)
    (IntOp.muli (iota .tc S256x32 32 [0] iota_S256x32_d0_w32 j) 32#32)) (iota .tc S256x32 32 [1] iota_S256x32_d1_w32 j)

theorem g1_3a (i : grid3.Coords) (v0 : Elt F .i32) : k3_pay16 (F := F) i v0 = fun j => (gst1 .vector 2252301940#32 331845914#32 2385112244#32 (gpos3 (F := F) i v0 j)).2 := rfl
theorem g1_3b (i : grid3.Coords) (v0 : Elt F .i32) : k3_pay17 (F := F) i v0 = fun j => (gst1 .vector 2252301940#32 331845914#32 2385112244#32 (gpos3 (F := F) i v0 j)).1 + (gst1 .vector 2252301940#32 331845914#32 2385112244#32 (gpos3 (F := F) i v0 j)).2 := rfl
theorem g2_3a (S : S256x2048.Idx → BitVec 32 × BitVec 32) : k3_pay26 (fun j => (S j).2) (fun j => (S j).1 + (S j).2) 6#32 = fun j => (gst2 .vector 2252301940#32 331845914#32 2385112244#32 (S j)).2 := rfl
theorem g2_3b (S : S256x2048.Idx → BitVec 32 × BitVec 32) : k3_pay27 (fun j => (S j).2) (fun j => (S j).1 + (S j).2) 6#32 = fun j => (gst2 .vector 2252301940#32 331845914#32 2385112244#32 (S j)).1 + (gst2 .vector 2252301940#32 331845914#32 2385112244#32 (S j)).2 := rfl
theorem g3_3a (S : S256x2048.Idx → BitVec 32 × BitVec 32) : k3_pay37 (fun j => (S j).2) (fun j => (S j).1 + (S j).2) = fun j => (gst3 .vector 2252301940#32 331845914#32 2385112244#32 (S j)).1 + (gst3 .vector 2252301940#32 331845914#32 2385112244#32 (S j)).2 := rfl
theorem g3_3b (S : S256x2048.Idx → BitVec 32 × BitVec 32) : k3_pay38 (fun j => (S j).2) (fun j => (S j).1 + (S j).2) = fun j => rot .vector (gst3 .vector 2252301940#32 331845914#32 2385112244#32 (S j)).2 29#32 3#32 := rfl
theorem g4_3a (S : S256x2048.Idx → BitVec 32 × BitVec 32) : k3_pay49 (fun j => (S j).1 + (S j).2) (fun j => rot .vector (S j).2 29#32 3#32) = fun j => (gst4 .vector 2252301940#32 331845914#32 2385112244#32 (S j)).2 := rfl
theorem g4_3b (S : S256x2048.Idx → BitVec 32 × BitVec 32) : k3_pay50 (fun j => (S j).1 + (S j).2) (fun j => rot .vector (S j).2 29#32 3#32) = fun j => (gst4 .vector 2252301940#32 331845914#32 2385112244#32 (S j)).1 + (gst4 .vector 2252301940#32 331845914#32 2385112244#32 (S j)).2 := rfl
theorem g4_3c (S : S256x2048.Idx → BitVec 32 × BitVec 32) : k3_pay51 (fun j => (S j).1 + (S j).2) (fun j => rot .vector (S j).2 29#32 3#32) = fun j => IntOp.shli .vector (gst4 .vector 2252301940#32 331845914#32 2385112244#32 (S j)).2 6#32 := rfl

theorem n1_3a (i : grid3.Coords) (v0 : Elt F .i32) : k3_pay59 (BitVec.ofNat 32 (i 1).val) (rowOff3 (F := F) i v0) = fun j => (nst1 .vector 2395792924#32 649865367#32 3013727569#32 (npos3 (F := F) i v0 j)).2 := rfl
theorem n1_3b (i : grid3.Coords) (v0 : Elt F .i32) : k3_pay60 (BitVec.ofNat 32 (i 1).val) (rowOff3 (F := F) i v0) = fun j => (nst1 .vector 2395792924#32 649865367#32 3013727569#32 (npos3 (F := F) i v0 j)).1 + (nst1 .vector 2395792924#32 649865367#32 3013727569#32 (npos3 (F := F) i v0 j)).2 := rfl
theorem n2_3a (S : S256x32.Idx → BitVec 32 × BitVec 32) : k3_pay71 (fun j => (S j).2) (fun j => (S j).1 + (S j).2) k3_pay61 = fun j => (nst2 .vector 2395792924#32 649865367#32 3013727569#32 (S j)).1 := rfl
theorem n2_3b (S : S256x32.Idx → BitVec 32 × BitVec 32) : k3_pay72 (fun j => (S j).2) (fun j => (S j).1 + (S j).2) k3_pay61 = fun j => (nst2 .vector 2395792924#32 649865367#32 3013727569#32 (S j)).2 := rfl
theorem n3_3a (S : S256x32.Idx → BitVec 32 × BitVec 32) : k3_pay82 (fun j => (S j).1) (fun j => (S j).2) 3013727569#32 = fun j => (nst3 .vector 2395792924#32 649865367#32 3013727569#32 (S j)).1 := rfl
theorem n3_3b (S : S256x32.Idx → BitVec 32 × BitVec 32) : k3_pay83 (fun j => (S j).1) (fun j => (S j).2) 3013727569#32 = fun j => (nst3 .vector 2395792924#32 649865367#32 3013727569#32 (S j)).2 := rfl
theorem n4_3a (S : S256x32.Idx → BitVec 32 × BitVec 32) : k3_pay94 (fun j => (S j).1) (fun j => (S j).2) = fun j => (nst4 .vector 2395792924#32 649865367#32 3013727569#32 (S j)).1 + (nst4 .vector 2395792924#32 649865367#32 3013727569#32 (S j)).2 := rfl
theorem n4_3b (S : S256x32.Idx → BitVec 32 × BitVec 32) : k3_pay95 (fun j => (S j).1) (fun j => (S j).2) = fun j => IntOp.shli .vector (nst4 .vector 2395792924#32 649865367#32 3013727569#32 (S j)).2 26#32 := rfl
theorem n4_3c (S : S256x32.Idx → BitVec 32 × BitVec 32) : k3_pay96 (fun j => (S j).1) (fun j => (S j).2) = fun j => IntOp.shrui .vector (nst4 .vector 2395792924#32 649865367#32 3013727569#32 (S j)).2 6#32 := rfl

end Cert.KernelIdeal.Region

end
-- ==== Proof.KernelIdeal.Draw3.lean ====
/- What the resampling call 3 stores at a step, element by element. -/
module

public import proofs.«01_k».proof.Proof.KernelIdeal.Hash3
public import proofs.«01_k».proof.Proof.KernelIdeal.Tail

@[expose] public section

set_option maxRecDepth 16384

noncomputable section

namespace Cert.KernelIdeal.Region

open Cert.KernelIdeal Cert.KernelIdeal.Gen
open Idealize.ShloMosaic
open Cert.Spec

section
variable {F : FTy → Type} [FloatOps F]

theorem g5_3 (S : S256x2048.Idx → BitVec 32 × BitVec 32) (e : Vec F S1x2048 .f32) :
    k3_pay53 lane (fun j => (S j).2) (fun j => (S j).1 + (S j).2) (fun j => IntOp.shli .vector (S j).2 6#32) k3_pay52 e
      = hotT lane (pertT (fun j => fin2 (inj 2385112244#32 (IntOp.addi 2252301940#32 5#32) (rnd .vector 6#32 26#32 (S j)))) e) := rfl
theorem n5_3 (S : S256x32.Idx → BitVec 32 × BitVec 32) :
    k3_pay97 (F := F) (fun j => (S j).1 + (S j).2) (fun j => IntOp.shli .vector (S j).2 26#32) (fun j => IntOp.shrui .vector (S j).2 6#32)
      = uniT (fun j => fin2 (inj 3013727569#32 (IntOp.addi 2395792924#32 5#32) (rnd .vector 6#32 26#32 (rnd .vector 26#32 6#32 (S j))))) := rfl
theorem n6_3 (a b c : IVec S256x32 32) : k3_pay99 (F := F) a b c = erfCT (F := F) (k3_pay97 a b c) := rfl
theorem n7_3 (a b c : IVec S256x32 32) : k3_pay100 (F := F) a b c = erfXT (F := F) (k3_pay97 a b c) := rfl
theorem n8_3 (g x : FVec F S256x32 .f32) (lo hi : Vec F S1x32 .f32) :
    k3_pay1 g x (k3_pay101 (erfCT x) (erfXT x) (Scalar.ofBits .f32 0x32F16588#32) (Scalar.ofBits .f32 0xB951F09B#32)) (k3_pay102 x) lo hi = outT 0x3DA8F5C3#32 g x lo hi := rfl

theorem pick3_eq (i : grid3.Coords) (v0 : Elt F .i32) (e : Vec F S1x2048 .f32) :
    pick3 i v0 e = hotT lane (pertT (fun j => Spec.hash .vector 2252301940#32 331845914#32 2385112244#32 (gpos3 (F := F) i v0 j)) e) := by
  unfold pick3 hC3 hD3 hA3 hB3
  rw [g1_3a, g1_3b, g2_3a, g2_3b, g3_3a, g3_3b, g4_3a, g4_3b, g4_3c, g5_3]
  unfold Spec.hash fin2
  simp only [mix_gst]
theorem noise3_eq (i : grid3.Coords) (v0 : Elt F .i32) :
    k3_pay97 (F := F) (nE3 (F := F) i v0) (nF3 (F := F) i v0) (nG3 (F := F) i v0) = uniT (fun j => Spec.hash .vector 2395792924#32 649865367#32 3013727569#32 (npos3 (F := F) i v0 j)) := by
  unfold nE3 nF3 nG3 nC3 nD3 nA3 nB3
  rw [n1_3a, n1_3b, n2_3a, n2_3b, n3_3a, n3_3b, n4_3a, n4_3b, n4_3c, n5_3]
  unfold Spec.hash fin2
  simp only [mix_nst]
theorem smp3_eq (i : grid3.Coords) (x0 : Vec F S1 .i32) (x8 : Vec F S2x32 .f32) (e : Vec F S1x2048 .f32) (hi mid lo : Vec F S2048x32 .bf16) :
    smp3 i x0 x8 e hi mid lo = outT 0x3DA8F5C3#32 (k1_pay54 (hotT lane (pertT (fun j => Spec.hash .vector 2252301940#32 331845914#32 2385112244#32 (gpos3 (F := F) i (offw3 x0) j)) e)) hi mid lo)
      (uniT (fun j => Spec.hash .vector 2395792924#32 649865367#32 3013727569#32 (npos3 (F := F) i (offw3 x0) j))) (rowLo3 x8) (rowHi3 x8) := by
  unfold smp3
  rw [n6_3, n7_3, noise3_eq, pick3_eq]
  exact n8_3 _ _ _ _
end

/-- What a step stores, at row `r` of its block and column `c`. -/
theorem smp3_apply (i : grid3.Coords) (x0 : Vec Ideal S1 .i32) (hx0 : x0 = fun _ => 0#32) (x8 : Vec Ideal S2x32 .f32) (e : Vec Ideal S1x2048 .f32)
    (hi mid lo : Vec Ideal S2048x32 .bf16) (r : Fin 256) (c : Fin 32) (n : Fin 2048)
    (hn : n = pick fun k => gum .vector (Spec.hash .vector 2252301940#32 331845914#32 2385112244#32 (BitVec.ofNat 32 (((i 0).val * 2048 + ((i 1).val * 256 + r.val)) * 2048 + k.val))) - e (ix2 0 k)) :
    smp3 i x0 x8 e hi mid lo (ix3 0 r c) = min (max ((hi (ix2 n c) + mid (ix2 n c) + lo (ix2 n c))
      + nrm .vector (Spec.hash .vector 2395792924#32 649865367#32 3013727569#32 (BitVec.ofNat 32 (((i 0).val * 2048 + ((i 1).val * 256 + r.val)) * 32 + c.val))) * Ideal.ofBits .f32 0x3DA8F5C3#32)
      (x8 (ix2 0 c))) (x8 (ix2 1 c)) := by
  have h0 : offw3 (F := Ideal) x0 = 0#32 := by rw [hx0]
  have hg : ∀ (q : Fin 256) (k : Fin 2048), gpos3 (F := Ideal) i (offw3 (F := Ideal) x0) (ix2 q k) = BitVec.ofNat 32 (((i 0).val * 2048 + ((i 1).val * 256 + q.val)) * 2048 + k.val) := fun q k => by
    rw [h0, gpos3, iota_g0, iota_g1]; exact pos_word _ _ _ _ _
  have hp : ∀ (q : Fin 256) (k : Fin 32), npos3 (F := Ideal) i (offw3 (F := Ideal) x0) (ix2 q k) = BitVec.ofNat 32 (((i 0).val * 2048 + ((i 1).val * 256 + q.val)) * 32 + k.val) := fun q k => by
    rw [h0, npos3, iota_n0, iota_n1]; exact pos_word _ _ _ _ _
  have hl : rowLo3 x8 (ix2 0 c) = x8 (ix2 0 c) := row_lo x8 c
  have hh : rowHi3 x8 (ix2 0 c) = x8 (ix2 1 c) := row_hi x8 c
  have hk : n = pick (fun k => pertT (F := Ideal) (fun j => Spec.hash .vector 2252301940#32 331845914#32 2385112244#32 (gpos3 (F := Ideal) i (offw3 (F := Ideal) x0) j)) e (ix2 r k)) := by
    rw [hn]
    simp only [pertT_apply, hg]
  rw [smp3_eq, outT_apply, pay54_apply _ _ (hotT_apply _), hl, hh, hp, ← hk]

end Cert.KernelIdeal.Region

end
-- ==== Proof.KernelIdeal.Array3.lean ====
/- The array that the resampling call 3 leaves: the points of one more round. -/
module

public import proofs.«01_k».proof.Proof.KernelIdeal.Draw3
public import proofs.«01_k».proof.Proof.KernelIdeal.Inputs

@[expose] public section

set_option maxRecDepth 16384

noncomputable section

namespace Cert.KernelIdeal.Region

open Cert.KernelIdeal Cert.KernelIdeal.Gen
open Idealize.ShloMosaic Idealize.ShloMosaic.TcCoe
open Cert.Spec

variable (W : Dev nD → Valuation τ sig (Elt Ideal))

theorem win3_at : ∀ t : Fin cfg3.N, (cfg3.win 9).index t = ![(grid3.coords t 0).val, (grid3.coords t 1).val, 0] ∧ (cfg3.win 7).index t = ![(grid3.coords t 0).val, 0, 0]
    ∧ (cfg3.win 1).index t = ![(grid3.coords t 0).val, 0, 0] ∧ (cfg3.win 2).index t = ![0, 0] ∧ (cfg3.win 3).index t = ![0, 0] ∧ (cfg3.win 4).index t = ![0, 0]
    ∧ (cfg3.win 5).index t = ![0, 0] ∧ (cfg3.win 6).index t = ![0, 0] ∧ (cfg3.win 8).index t = ![0, 0] ∧ (grid3.coords (row3 t.val) 0).val = (grid3.coords t 0).val := by decide +kernel

section
variable (c : Dev nD) (t : Fin cfg3.N) (b : Fin 16) (hb : (grid3.coords t 0).val = b.val)
include hb
theorem blk3_s (q : Fin 2048) (l : Fin 32) : (blk3 W c 7 t : Vec Ideal S1x2048x32 .f32) (ix3 0 q l) = (W c (Proc.devRef .tc main_v12) : Vec Ideal S16x2048x32 .f32) (ix3 b q l) := by
  blk_ext [blk3, (win3_at t).2.1, hb]
theorem blk3_x (d : Fin 256) : (blk3 W c 1 t : Vec Ideal S1x1x256 .bf16) (ix3 0 0 d) = (W c (Proc.devRef .tc main_v1) : Vec Ideal S16x1x256 .bf16) (ix3 b 0 d) := by
  blk_ext [blk3, (win3_at t).2.2.1, hb]
omit hb
theorem blk3_w1x (d k : Fin 256) : (blk3 W c 2 t : Vec Ideal S256x256 .bf16) (ix2 d k) = (W c (Proc.devRef .tc main_v3) : Vec Ideal S256x256 .bf16) (ix2 d k) := by
  blk_ext [blk3, (win3_at t).2.2.2.1]
theorem blk3_w1a (d : Fin 32) (k : Fin 256) : (blk3 W c 3 t : Vec Ideal S32x256 .bf16) (ix2 d k) = (W c (Proc.devRef .tc main_v5) : Vec Ideal S32x256 .bf16) (ix2 d k) := by
  blk_ext [blk3, (win3_at t).2.2.2.2.1]
theorem blk3_b1 (k : Fin 256) : (blk3 W c 4 t : Vec Ideal S1x256 .f32) (ix2 0 k) = (W c (Proc.devRef .tc main_v6) : Vec Ideal S1x256 .f32) (ix2 0 k) := by
  blk_ext [blk3, (win3_at t).2.2.2.2.2.1]
theorem blk3_w2 (k : Fin 256) : (blk3 W c 5 t : Vec Ideal S256x1 .bf16) (ix2 k 0) = (W c (Proc.devRef .tc main_v7) : Vec Ideal S256x1 .bf16) (ix2 k 0) := by
  blk_ext [blk3, (win3_at t).2.2.2.2.2.2.1]
theorem blk3_b2 : (blk3 W c 6 t : Vec Ideal S1x1 .f32) (ix2 0 0) = (W c (Proc.devRef .tc main_v8) : Vec Ideal S1x1 .f32) (ix2 0 0) := by
  blk_ext [blk3, (win3_at t).2.2.2.2.2.2.2.1]
theorem blk3_bounds (a : Fin 2) (l : Fin 32) : (blk3 W c 8 t : Vec Ideal S2x32 .f32) (ix2 a l) = (W c (Proc.devRef .tc main_arg5) : Vec Ideal S2x32 .f32) (ix2 a l) := by
  blk_ext [blk3, (win3_at t).2.2.2.2.2.2.2.2.1]
end

variable {x : Fin 16 → Fin 256 → EReal} {w1 : Fin 288 → Fin 256 → EReal} {b1 w2 : Fin 256 → EReal} {b2 : EReal} {bd : Fin 2 → Fin 32 → EReal}

/-- The energies in the scratch. -/
theorem energy3 (c : Dev nD) (hI : Ins (W c) x w1 b1 w2 b2 bd) (t : Fin cfg3.N) (b : Fin 16) (hb : (grid3.coords t 0).val = b.val)
    (S : Fin 16 → Fin 2048 → Fin 32 → EReal) (hS : ∀ b q l, (W c (Proc.devRef .tc main_v12) : Vec Ideal S16x2048x32 .f32) (ix3 b q l) = S b q l) (q : Fin 2048) :
    (scE3 W c t.val : Vec Ideal S1x2048 .f32) (ix2 0 q) = energy (x b) w1 b1 w2 b2 (S b q) := by
  have hb' : (grid3.coords (row3 t.val) 0).val = b.val := (win3_at t).2.2.2.2.2.2.2.2.2.trans hb
  unfold scE3 energy
  refine (pay3_apply _ _ _ _ _ _ _ q).trans ?_
  simp only [blk3_s W c (row3 t.val) b hb', blk3_x W c (row3 t.val) b hb', blk3_w1x, blk3_w1a, blk3_b1, blk3_w2, blk3_b2, hS, hI.x, hI.w1x, hI.w1a, hI.b1, hI.w2, hI.b2]

/-- One coordinate of the block that a step writes. -/
theorem wrote3 (c : Dev nD) (hI : Ins (W c) x w1 b1 w2 b2 bd) (t : Fin cfg3.N) (b : Fin 16) (hb : (grid3.coords t 0).val = b.val)
    (S : Fin 16 → Fin 2048 → Fin 32 → EReal) (hS : ∀ b q l, (W c (Proc.devRef .tc main_v12) : Vec Ideal S16x2048x32 .f32) (ix3 b q l) = S b q l) (hf : ∀ b q l, Fin' (S b q l))
    (r : Fin 256) (l : Fin 32) (R : Fin 2048) (hR : R.val = (grid3.coords t 1).val * 256 + r.val) :
    (smpAt3 W c t : Vec Ideal S1x256x32 .f32) (ix3 0 r l) = step 2252301940#32 331845914#32 2385112244#32 2395792924#32 649865367#32 3013727569#32 0x3DA8F5C3#32 bd (fun b => energy (x b) w1 b1 w2 b2) S b R l := by
  unfold smpAt3
  have hb' : (grid3.coords (row3 t.val) 0).val = b.val := (win3_at t).2.2.2.2.2.2.2.2.2.trans hb
  have ho : (blk3 W c 0 t : Vec Ideal S1 .i32) = fun _ => 0#32 := by funext z; unfold blk3; exact hI.off _
  refine (smp3_apply (grid3.coords t) (blk3 W c 0 t) ho (blk3 W c 8 t) (scE3 W c t.val) _ _ _ r l _ rfl).trans ?_
  have hs : ∀ q l, (scS3 W c t.val : Vec Ideal S1x2048x32 .f32) (ix3 0 q l) = S b q l := fun q l => (blk3_s W c _ b hb' q l).trans (hS _ _ _)
  have h5 : ∀ q l, k3_pay5 (scS3 W c t.val) (ix2 q l) = S b q l := fun q l => (pay5_apply _ q l).trans (hs q l)
  have h8 : ∀ q l, k3_pay8 (k3_pay2 (scS3 W c t.val)) (k3_pay4 (scS3 W c t.val)) (ix2 q l) = S b q l - S b q l := fun q l => (pay8_apply _ q l).trans (by rw [hs])
  have h9 : ∀ q l, k3_pay9 (k3_pay2 (scS3 W c t.val)) (k3_pay4 (scS3 W c t.val)) (ix2 q l) = S b q l - S b q l - (S b q l - S b q l) := fun q l => (pay9_apply _ q l).trans (by rw [hs])
  have he : ∀ q, (scE3 W c t.val : Vec Ideal S1x2048 .f32) (ix2 0 q) = energy (x b) w1 b1 w2 b2 (S b q) := energy3 W c hI t b hb S hS
  have h0 : ∀ a l, (blk3 W c 8 t : Vec Ideal S2x32 .f32) (ix2 a l) = bd a l := fun a l => (blk3_bounds W c t a l).trans (hI.bounds a l)
  rw [h5, h8, h9, h0, h0, (hf _ _ _).sub_self, sub_zero, add_zero, add_zero, ← hR, hb]
  simp only [he]
  rfl

theorem array3 (c : Dev nD) (hI : Ins (W c) x w1 b1 w2 b2 bd)
    (S : Fin 16 → Fin 2048 → Fin 32 → EReal) (hS : ∀ b q l, (W c (Proc.devRef .tc main_v12) : Vec Ideal S16x2048x32 .f32) (ix3 b q l) = S b q l) (hf : ∀ b q l, Fin' (S b q l)) :
    (dat3 W c).arrAt 9 cfg3.N = (fun j : S16x2048x32.Idx => step 2252301940#32 331845914#32 2385112244#32 2395792924#32 649865367#32 3013727569#32 0x3DA8F5C3#32 bd (fun b => energy (x b) w1 b1 w2 b2) S (j 0) (j 1) (j 2)) := by
  refine (dat3 W c).arrAt_eq_of_covers 9 _ (by decide +kernel) fun t hfl y => ?_
  blk_simp
  have e0 : ((win3_9.blk t).view.emb y 0).val = (grid3.coords t 0).val := by blk_simp [(win3_at t).1]
  have e1 : ((win3_9.blk t).view.emb y 1).val = (grid3.coords t 1).val * 256 + (y 1).val := by blk_simp [(win3_at t).1]
  have e2 : ((win3_9.blk t).view.emb y 2).val = (y 2).val := by blk_simp [(win3_at t).1]
  rw [after3_9, show (win3_9.blk t).view.emb y 2 = y 2 from Fin.ext e2]
  have hy : y = (ix3 0 (y 1) (y 2) : S1x256x32.Idx) := (eq_ix3 (n0 := 1) (n1 := 256) (n2 := 32) y).trans (congrArg (fun a : Fin 1 => (ix3 a (y 1) (y 2) : S1x256x32.Idx)) (Subsingleton.elim _ _))
  exact (congrArg _ hy).trans (wrote3 W c hI t _ e0.symm S hS hf (y 1) (y 2) _ e1)

end Cert.KernelIdeal.Region

end
-- ==== Proof.KernelIdeal.Array4.lean ====
/- The array that the last call leaves: of every row the best point. -/
module

public import proofs.«01_k».proof.Proof.KernelIdeal.Ends
public import proofs.«01_k».proof.Proof.KernelIdeal.Inputs

@[expose] public section

set_option maxRecDepth 16384

noncomputable section

namespace Cert.KernelIdeal.Region

open Cert.KernelIdeal Cert.KernelIdeal.Gen
open Idealize.ShloMosaic Idealize.ShloMosaic.TcCoe
open Cert.Spec

variable (W : Dev nD → Valuation τ sig (Elt Ideal))

theorem win4_at : ∀ t : Fin cfg4.N, (cfg4.win 7).index t = ![(grid4.coords t 0).val, 0, 0] ∧ (cfg4.win 6).index t = ![(grid4.coords t 0).val, 0, 0]
    ∧ (cfg4.win 0).index t = ![(grid4.coords t 0).val, 0, 0] ∧ (cfg4.win 1).index t = ![0, 0] ∧ (cfg4.win 2).index t = ![0, 0] ∧ (cfg4.win 3).index t = ![0, 0]
    ∧ (cfg4.win 4).index t = ![0, 0] ∧ (cfg4.win 5).index t = ![0, 0] := by decide +kernel

section
variable (c : Dev nD) (t : Fin cfg4.N) (b : Fin 16) (hb : (grid4.coords t 0).val = b.val)
include hb
theorem blk4_s (q : Fin 2048) (l : Fin 32) : (blk4 W c 6 t : Vec Ideal S1x2048x32 .f32) (ix3 0 q l) = (W c (Proc.devRef .tc main_v13) : Vec Ideal S16x2048x32 .f32) (ix3 b q l) := by
  blk_ext [blk4, (win4_at t).2.1, hb]
theorem blk4_x (d : Fin 256) : (blk4 W c 0 t : Vec Ideal S1x1x256 .bf16) (ix3 0 0 d) = (W c (Proc.devRef .tc main_v1) : Vec Ideal S16x1x256 .bf16) (ix3 b 0 d) := by
  blk_ext [blk4, (win4_at t).2.2.1, hb]
omit hb
theorem blk4_w1x (d k : Fin 256) : (blk4 W c 1 t : Vec Ideal S256x256 .bf16) (ix2 d k) = (W c (Proc.devRef .tc main_v3) : Vec Ideal S256x256 .bf16) (ix2 d k) := by
  blk_ext [blk4, (win4_at t).2.2.2.1]
theorem blk4_w1a (d : Fin 32) (k : Fin 256) : (blk4 W c 2 t : Vec Ideal S32x256 .bf16) (ix2 d k) = (W c (Proc.devRef .tc main_v5) : Vec Ideal S32x256 .bf16) (ix2 d k) := by
  blk_ext [blk4, (win4_at t).2.2.2.2.1]
theorem blk4_b1 (k : Fin 256) : (blk4 W c 3 t : Vec Ideal S1x256 .f32) (ix2 0 k) = (W c (Proc.devRef .tc main_v6) : Vec Ideal S1x256 .f32) (ix2 0 k) := by
  blk_ext [blk4, (win4_at t).2.2.2.2.2.1]
theorem blk4_w2 (k : Fin 256) : (blk4 W c 4 t : Vec Ideal S256x1 .bf16) (ix2 k 0) = (W c (Proc.devRef .tc main_v7) : Vec Ideal S256x1 .bf16) (ix2 k 0) := by
  blk_ext [blk4, (win4_at t).2.2.2.2.2.2.1]
theorem blk4_b2 : (blk4 W c 5 t : Vec Ideal S1x1 .f32) (ix2 0 0) = (W c (Proc.devRef .tc main_v8) : Vec Ideal S1x1 .f32) (ix2 0 0) := by
  blk_ext [blk4, (win4_at t).2.2.2.2.2.2.2]
end

variable {x : Fin 16 → Fin 256 → EReal} {w1 : Fin 288 → Fin 256 → EReal} {b1 w2 : Fin 256 → EReal} {b2 : EReal} {bd : Fin 2 → Fin 32 → EReal}

/-- One coordinate of the block that a step writes. -/
theorem wrote4 (c : Dev nD) (hI : Ins (W c) x w1 b1 w2 b2 bd) (t : Fin cfg4.N) (b : Fin 16) (hb : (grid4.coords t 0).val = b.val)
    (S : Fin 16 → Fin 2048 → Fin 32 → EReal) (hS : ∀ b q l, (W c (Proc.devRef .tc main_v13) : Vec Ideal S16x2048x32 .f32) (ix3 b q l) = S b q l) (l : Fin 32) :
    (valAt4 W c t : Vec Ideal S1x1x32 .f32) (ix3 0 0 l) = best (fun b => energy (x b) w1 b1 w2 b2) S b l := by
  unfold valAt4 val4
  have hen : ∀ q : Fin 2048, k1_pay3 (blk4 W c 6 t) (blk4 W c 0 t) (blk4 W c 1 t) (blk4 W c 2 t) (blk4 W c 3 t) (blk4 W c 4 t) (blk4 W c 5 t) (ix2 0 q) = energy (x b) w1 b1 w2 b2 (S b q) := by
    intro q
    unfold energy
    refine (pay3_apply _ _ _ _ _ _ _ q).trans ?_
    simp only [blk4_s W c t b hb, blk4_x W c t b hb, blk4_w1x, blk4_w1a, blk4_b1, blk4_w2, blk4_b2, hS, hI.x, hI.w1x, hI.w1a, hI.b1, hI.w2, hI.b2]
  rw [k4pay1_apply]
  simp only [k4pay2_apply _ _ _ _ _ _ _ _ hen, blk4_s W c t b hb, hS]
  rfl

theorem array4 (c : Dev nD) (hI : Ins (W c) x w1 b1 w2 b2 bd)
    (S : Fin 16 → Fin 2048 → Fin 32 → EReal) (hS : ∀ b q l, (W c (Proc.devRef .tc main_v13) : Vec Ideal S16x2048x32 .f32) (ix3 b q l) = S b q l) :
    (dat4 W c).arrAt 7 cfg4.N = (fun j : S16x1x32.Idx => best (fun b => energy (x b) w1 b1 w2 b2) S (j 0) (j 2)) := by
  refine (dat4 W c).arrAt_eq_of_covers 7 _ (by decide +kernel) fun t hfl y => ?_
  blk_simp
  have e0 : ((win4_7.blk t).view.emb y 0).val = (grid4.coords t 0).val := by blk_simp [(win4_at t).1]
  have e2 : ((win4_7.blk t).view.emb y 2).val = (y 2).val := by blk_simp [(win4_at t).1]
  rw [after4_7, show (win4_7.blk t).view.emb y 2 = y 2 from Fin.ext e2]
  have hy : y = (ix3 0 0 (y 2) : S1x1x32.Idx) := ((eq_ix3 (n0 := 1) (n1 := 1) (n2 := 32) y).trans (congrArg (fun a : Fin 1 => (ix3 a (y 1) (y 2) : S1x1x32.Idx)) (Subsingleton.elim _ _))).trans
    (congrArg (fun a : Fin 1 => (ix3 0 a (y 2) : S1x1x32.Idx)) (Subsingleton.elim _ _))
  exact (congrArg _ hy).trans (wrote4 W c hI t _ e0.symm S hS (y 2))

end Cert.KernelIdeal.Region

end
-- ==== Proof.Value.Answer.lean ====
/- The whole answer in scalars: four rounds of points, and the best of the last. -/
module

public import proofs.«01_k».proof.Proof.Value.Scalar

@[expose] public section

noncomputable section

namespace Cert.Spec

open Idealize.ShloMosaic

variable (en : Fin 16 → (Fin 32 → EReal) → EReal) (bd : Fin 2 → Fin 32 → EReal)

/-- The points after each of the three rounds. -/
def samp1 : Fin 16 → Fin 2048 → Fin 32 → EReal :=
  step 1705926158#32 899080142#32 1273600538#32 1712723395#32 2526649282#32 3948844507#32 0x3EA8F5C3#32 bd en (samp0 bd)
def samp2 : Fin 16 → Fin 2048 → Fin 32 → EReal :=
  step 2232176465#32 33846082#32 2631477193#32 767915537#32 735759787#32 500080736#32 0x3E28F5C3#32 bd en (samp1 en bd)
def samp3 : Fin 16 → Fin 2048 → Fin 32 → EReal :=
  step 2252301940#32 331845914#32 2385112244#32 2395792924#32 649865367#32 3013727569#32 0x3DA8F5C3#32 bd en (samp2 en bd)

/-- The answer: of every row the best of its last points. -/
def answer (x : Fin 16 → Fin 256 → EReal) (w1 : Fin 288 → Fin 256 → EReal) (b1 w2 : Fin 256 → EReal) (b2 : EReal) (bd : Fin 2 → Fin 32 → EReal) (b : Fin 16) (l : Fin 32) : EReal :=
  best (fun b => energy (x b) w1 b1 w2 b2) (samp3 (fun b => energy (x b) w1 b1 w2 b2) bd) b l

end Cert.Spec

end
-- ==== Proof.KernelIdeal.Closed.lean ====
/- What the program leaves in its result, in scalars. -/
module

public import proofs.«01_k».proof.Proof.KernelIdeal.Array0
public import proofs.«01_k».proof.Proof.KernelIdeal.Array1
public import proofs.«01_k».proof.Proof.KernelIdeal.Array2
public import proofs.«01_k».proof.Proof.KernelIdeal.Array3
public import proofs.«01_k».proof.Proof.KernelIdeal.Array4
public import proofs.«01_k».proof.Proof.Value.Answer

@[expose] public section

set_option maxRecDepth 16384

noncomputable section

namespace Cert.KernelIdeal.Region

open Cert.KernelIdeal Cert.KernelIdeal.Gen
open Idealize.ShloMosaic Idealize.ShloMosaic.TcCoe
open Cert.Spec

variable (m : (ℓ : Loc nD τ sig) → Buf (Elt Ideal) ℓ) (c : Dev nD)

abbrev fit : Fin 16 → (Fin 32 → EReal) → EReal := fun b => energy (ax m c b) (aw1 m c) (ab1 m c) (aw2 m c) (ab2 m c)

theorem ins2 : Ins (W2 m c) (ax m c) (aw1 m c) (ab1 m c) (aw2 m c) (ab2 m c) (abd m c) := (ins m c).update main_v10 (by decide) _
theorem ins3 : Ins (W3 m c) (ax m c) (aw1 m c) (ab1 m c) (aw2 m c) (ab2 m c) (abd m c) := (ins2 m c).update main_v11 (by decide) _
theorem ins4 : Ins (W4 m c) (ax m c) (aw1 m c) (ab1 m c) (aw2 m c) (ab2 m c) (abd m c) := (ins3 m c).update main_v12 (by decide) _
theorem ins5 : Ins (W5 m c) (ax m c) (aw1 m c) (ab1 m c) (aw2 m c) (ab2 m c) (abd m c) := (ins4 m c).update main_v13 (by decide) _

theorem w2_v10 (hf : ∀ a l, Fin' (abd m c a l)) (b : Fin 16) (q : Fin 2048) (l : Fin 32) :
    (W2 m c (Proc.devRef .tc main_v10) : Vec Ideal S16x2048x32 .f32) (ix3 b q l) = samp0 (abd m c) b q l := by
  have e : W2 m c (Proc.devRef .tc main_v10) = (dat0 (W1 m) c).arrAt 2 cfg0.N := Function.update_self _ _ _
  rw [e, array0 (W1 m) c (ins m c).off (m ((c : Thread nD τ).loc main_arg5)) (by funext j; exact (congrArg _ (eq_ix2 j)).trans (((ins m c).bounds (j 0) (j 1)).trans (congrArg _ (eq_ix2 j).symm)))]
  rfl
theorem w3_v11 (hf : ∀ a l, Fin' (abd m c a l)) (b : Fin 16) (q : Fin 2048) (l : Fin 32) :
    (W3 m c (Proc.devRef .tc main_v11) : Vec Ideal S16x2048x32 .f32) (ix3 b q l) = samp1 (fit m c) (abd m c) b q l := by
  have e : W3 m c (Proc.devRef .tc main_v11) = (dat1 (W2 m) c).arrAt 9 cfg1.N := Function.update_self _ _ _
  rw [e, array1 (W2 m) c (ins2 m c) _ (w2_v10 m c hf) (samp0_fin _ hf)]
  rfl
theorem w4_v12 (hf : ∀ a l, Fin' (abd m c a l)) (b : Fin 16) (q : Fin 2048) (l : Fin 32) :
    (W4 m c (Proc.devRef .tc main_v12) : Vec Ideal S16x2048x32 .f32) (ix3 b q l) = samp2 (fit m c) (abd m c) b q l := by
  have e : W4 m c (Proc.devRef .tc main_v12) = (dat2 (W3 m) c).arrAt 9 cfg2.N := Function.update_self _ _ _
  rw [e, array2 (W3 m) c (ins3 m c) _ (w3_v11 m c hf) (step_fin _ _ _ _ _ _ _ _ hf _ _)]
  rfl
theorem w5_v13 (hf : ∀ a l, Fin' (abd m c a l)) (b : Fin 16) (q : Fin 2048) (l : Fin 32) :
    (W5 m c (Proc.devRef .tc main_v13) : Vec Ideal S16x2048x32 .f32) (ix3 b q l) = samp3 (fit m c) (abd m c) b q l := by
  have e : W5 m c (Proc.devRef .tc main_v13) = (dat3 (W4 m) c).arrAt 9 cfg3.N := Function.update_self _ _ _
  rw [e, array3 (W4 m) c (ins4 m c) _ (w4_v12 m c hf) (step_fin _ _ _ _ _ _ _ _ hf _ _)]
  rfl
theorem w6_v14 (hf : ∀ a l, Fin' (abd m c a l)) (b : Fin 16) (l : Fin 32) :
    (W6 m c (Proc.devRef .tc main_v14) : Vec Ideal S16x1x32 .f32) (ix3 b 0 l) = answer (ax m c) (aw1 m c) (ab1 m c) (aw2 m c) (ab2 m c) (abd m c) b l := by
  have e : W6 m c (Proc.devRef .tc main_v14) = (dat4 (W5 m) c).arrAt 7 cfg4.N := Function.update_self _ _ _
  rw [e, array4 (W5 m) c (ins5 m c) _ (w5_v13 m c hf)]
  rfl

theorem value (hf : ∀ a l, Fin' (abd m c a l)) :
    V7 m (outs m) c (Proc.devRef .tc main_v15) = (fun j : S16x32.Idx => answer (ax m c) (aw1 m c) (ab1 m c) (aw2 m c) (ab2 m c) (abd m c) (j 0) (j 1)) := by
  have h : ∀ (b : Fin 16) (l : Fin 32), (V7 m (outs m) c (Proc.devRef .tc main_v15) : Vec Ideal S16x32 .f32) (ix2 b l) = (W6 m c (Proc.devRef .tc main_v14) : Vec Ideal S16x1x32 .f32) (ix3 b 0 l) := by
    intro b l
    unfold V7
    rw [V6_eq]
    generalize W6 m c = Y
    after_reads_at
  funext j
  exact (congrArg _ (eq_ix2 j)).trans ((h (j 0) (j 1)).trans (w6_v14 m c hf (j 0) (j 1)))

end Cert.KernelIdeal.Region

end
-- ==== Proof.RefFrame.lean ====
/- The reference's run, with its counters. -/
module

public import proofs.«01_k».proof.Proof.Gen.ReferenceIdeal.Run
public import Idealize.ShloMosaic.Lib.Claim
public import Idealize.ShloMosaic.Lib.Quiescent

@[expose] public section

noncomputable section

namespace Cert.ReferenceIdeal

open Idealize.ShloMosaic Idealize.SL.Sem Cert.ReferenceIdeal.Gen

variable {F : FTy → Type} [FloatOps F]

/-- The reference declares no counter and writes no argument. -/
theorem frame_run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => (h c).2, sem_eq_zero_of_no_sems rfl r.2⟩) (Value.run m ρ)

end Cert.ReferenceIdeal

end
-- ==== Proof.Reference.Hash.lean ====
/- The reference's hashes, element by element. -/
module

public import proofs.«01_k».proof.Proof.Gen.ReferenceIdeal.Read
public import proofs.«01_k».proof.Proof.Value.Scalar

@[expose] public section

set_option maxRecDepth 16384

noncomputable section

namespace Cert.ReferenceIdeal.Read

open Cert.ReferenceIdeal
open Idealize.ShloMosaic Idealize.ShloMosaic.TcCoe
open Cert.Spec

variable {F : FTy → Type} [FloatOps F]

section
variable (i : S4x16x2048x32.Idx)
theorem nh1 : (val_main_v54 (F := F) i, val_main_v60 (F := F) i) = odd .host (val_main_v29 (F := F) i, val_main_v32 (F := F) i) := rfl
theorem nh1i : (val_main_v62 (F := F) i, val_main_v66 (F := F) i) = inj (val_main_v31 (F := F) i) (IntOp.addi (val_main_v95 (F := F) i) 1#32) (val_main_v54 (F := F) i, val_main_v60 (F := F) i) := rfl
theorem nh2 : (val_main_v88 (F := F) i, val_main_v94 (F := F) i) = even .host (val_main_v62 (F := F) i, val_main_v66 (F := F) i) := rfl
theorem nh2i : (val_main_v96 (F := F) i, val_main_v100 (F := F) i) = inj (val_main_v95 (F := F) i) (IntOp.addi (val_main_v29 (F := F) i) 2#32) (val_main_v88 (F := F) i, val_main_v94 (F := F) i) := rfl
theorem nh3 : (val_main_v122 (F := F) i, val_main_v128 (F := F) i) = odd .host (val_main_v96 (F := F) i, val_main_v100 (F := F) i) := rfl
theorem nh3i : (val_main_v130 (F := F) i, val_main_v134 (F := F) i) = inj (val_main_v29 (F := F) i) (IntOp.addi (val_main_v31 (F := F) i) 3#32) (val_main_v122 (F := F) i, val_main_v128 (F := F) i) := rfl
theorem nh4 : (val_main_v156 (F := F) i, val_main_v162 (F := F) i) = even .host (val_main_v130 (F := F) i, val_main_v134 (F := F) i) := rfl
theorem nh4i : (val_main_v164 (F := F) i, val_main_v168 (F := F) i) = inj (val_main_v31 (F := F) i) (IntOp.addi (val_main_v95 (F := F) i) 4#32) (val_main_v156 (F := F) i, val_main_v162 (F := F) i) := rfl
theorem nh5 : (val_main_v190 (F := F) i, val_main_v196 (F := F) i) = odd .host (val_main_v164 (F := F) i, val_main_v168 (F := F) i) := rfl
theorem nh5i : (val_main_v198 (F := F) i, val_main_v202 (F := F) i) = inj (val_main_v95 (F := F) i) (IntOp.addi (val_main_v29 (F := F) i) 5#32) (val_main_v190 (F := F) i, val_main_v196 (F := F) i) := rfl
theorem nh_word : val_main_v203 (F := F) i = Spec.hash .host (val_main_v29 (F := F) i) (val_main_v31 (F := F) i) (val_main_v95 (F := F) i) (val_main_v30 (F := F) i) := by
  have e : val_main_v203 (F := F) i = fin2 (val_main_v198 (F := F) i, val_main_v202 (F := F) i) := rfl
  have z : (val_main_v29 (F := F) i, val_main_v32 (F := F) i) = (val_main_v29 (F := F) i, IntOp.addi (val_main_v30 (F := F) i) (val_main_v31 (F := F) i)) := rfl
  rw [e, nh5i, nh5, nh4i, nh4, nh3i, nh3, nh2i, nh2, nh1i, nh1, z]
  rfl
end

section
variable (i : S3x16x2048x2048.Idx)
theorem gh1 : (val_main_v336 (F := F) i, val_main_v342 (F := F) i) = odd .host (val_main_v311 (F := F) i, val_main_v314 (F := F) i) := rfl
theorem gh1i : (val_main_v344 (F := F) i, val_main_v348 (F := F) i) = inj (val_main_v313 (F := F) i) (IntOp.addi (val_main_v377 (F := F) i) 1#32) (val_main_v336 (F := F) i, val_main_v342 (F := F) i) := rfl
theorem gh2 : (val_main_v370 (F := F) i, val_main_v376 (F := F) i) = even .host (val_main_v344 (F := F) i, val_main_v348 (F := F) i) := rfl
theorem gh2i : (val_main_v378 (F := F) i, val_main_v382 (F := F) i) = inj (val_main_v377 (F := F) i) (IntOp.addi (val_main_v311 (F := F) i) 2#32) (val_main_v370 (F := F) i, val_main_v376 (F := F) i) := rfl
theorem gh3 : (val_main_v404 (F := F) i, val_main_v410 (F := F) i) = odd .host (val_main_v378 (F := F) i, val_main_v382 (F := F) i) := rfl
theorem gh3i : (val_main_v412 (F := F) i, val_main_v416 (F := F) i) = inj (val_main_v311 (F := F) i) (IntOp.addi (val_main_v313 (F := F) i) 3#32) (val_main_v404 (F := F) i, val_main_v410 (F := F) i) := rfl
theorem gh4 : (val_main_v438 (F := F) i, val_main_v444 (F := F) i) = even .host (val_main_v412 (F := F) i, val_main_v416 (F := F) i) := rfl
theorem gh4i : (val_main_v446 (F := F) i, val_main_v450 (F := F) i) = inj (val_main_v313 (F := F) i) (IntOp.addi (val_main_v377 (F := F) i) 4#32) (val_main_v438 (F := F) i, val_main_v444 (F := F) i) := rfl
theorem gh5 : (val_main_v472 (F := F) i, val_main_v478 (F := F) i) = odd .host (val_main_v446 (F := F) i, val_main_v450 (F := F) i) := rfl
theorem gh5i : (val_main_v480 (F := F) i, val_main_v484 (F := F) i) = inj (val_main_v377 (F := F) i) (IntOp.addi (val_main_v311 (F := F) i) 5#32) (val_main_v472 (F := F) i, val_main_v478 (F := F) i) := rfl
theorem gh_word : val_main_v485 (F := F) i = Spec.hash .host (val_main_v311 (F := F) i) (val_main_v313 (F := F) i) (val_main_v377 (F := F) i) (val_main_v312 (F := F) i) := by
  have e : val_main_v485 (F := F) i = fin2 (val_main_v480 (F := F) i, val_main_v484 (F := F) i) := rfl
  have z : (val_main_v311 (F := F) i, val_main_v314 (F := F) i) = (val_main_v311 (F := F) i, IntOp.addi (val_main_v312 (F := F) i) (val_main_v313 (F := F) i)) := rfl
  rw [e, gh5i, gh5, gh4i, gh4, gh3i, gh3, gh2i, gh2, gh1i, gh1, z]
  rfl
end

end Cert.ReferenceIdeal.Read

end
-- ==== Proof.Reference.Draws.lean ====
/- The reference's draws, element by element. -/
module

public import proofs.«01_k».proof.Proof.Reference.Hash

@[expose] public section

set_option maxRecDepth 16384

noncomputable section

namespace Cert.ReferenceIdeal.Read

open Cert.ReferenceIdeal
open Idealize.ShloMosaic Idealize.ShloMosaic.TcCoe
open Cert.Spec

/-! The key words of the hashes: a row for the first points and then a row for each round. -/
def na : Fin 4 → BitVec 32 := ![64467757#32, 1712723395#32, 767915537#32, 2395792924#32]
def nb : Fin 4 → BitVec 32 := ![2916123636#32, 2526649282#32, 735759787#32, 649865367#32]
def nc : Fin 4 → BitVec 32 := ![3050711811#32, 3948844507#32, 500080736#32, 3013727569#32]
def ga : Fin 3 → BitVec 32 := ![1705926158#32, 2232176465#32, 2252301940#32]
def gb : Fin 3 → BitVec 32 := ![899080142#32, 33846082#32, 331845914#32]
def gc : Fin 3 → BitVec 32 := ![1273600538#32, 2631477193#32, 2385112244#32]

section
variable (b : Fin 16) (r : Fin 2048)
theorem v29_at (s : Fin 4) (l : Fin 32) : val_main_v29 (F := Ideal) (ix4 s b r l) = na s := by fin_cases s <;> rfl
theorem v31_at (s : Fin 4) (l : Fin 32) : val_main_v31 (F := Ideal) (ix4 s b r l) = nb s := by fin_cases s <;> rfl
theorem v95_at (s : Fin 4) (l : Fin 32) : val_main_v95 (F := Ideal) (ix4 s b r l) = nc s := by fin_cases s <;> rfl
theorem v311_at (s : Fin 3) (l : Fin 2048) : val_main_v311 (F := Ideal) (ix4 s b r l) = ga s := by fin_cases s <;> rfl
theorem v313_at (s : Fin 3) (l : Fin 2048) : val_main_v313 (F := Ideal) (ix4 s b r l) = gb s := by fin_cases s <;> rfl
theorem v377_at (s : Fin 3) (l : Fin 2048) : val_main_v377 (F := Ideal) (ix4 s b r l) = gc s := by fin_cases s <;> rfl
theorem v30_at (s : Fin 4) (l : Fin 32) : val_main_v30 (F := Ideal) (ix4 s b r l) = BitVec.ofNat 32 ((b.val * 2048 + r.val) * 32 + l.val) := by
  pointwise [val_main_v30, val_main_v28, val_main_v27]
  exact congrArg _ (by omega)
theorem v312_at (s : Fin 3) (l : Fin 2048) : val_main_v312 (F := Ideal) (ix4 s b r l) = BitVec.ofNat 32 ((b.val * 2048 + r.val) * 2048 + l.val) := by
  pointwise [val_main_v312, val_main_v310, val_main_v309]
  exact congrArg _ (by omega)

/-- The words drawn. -/
theorem v203_at (s : Fin 4) (l : Fin 32) : val_main_v203 (F := Ideal) (ix4 s b r l) = Spec.hash .host (na s) (nb s) (nc s) (BitVec.ofNat 32 ((b.val * 2048 + r.val) * 32 + l.val)) := by
  rw [nh_word, v29_at, v31_at, v95_at, v30_at]
theorem v485_at (s : Fin 3) (l : Fin 2048) : val_main_v485 (F := Ideal) (ix4 s b r l) = Spec.hash .host (ga s) (gb s) (gc s) (BitVec.ofNat 32 ((b.val * 2048 + r.val) * 2048 + l.val)) := by
  rw [gh_word, v311_at, v313_at, v377_at, v312_at]
end

/-! The instance's own operations. -/
theorem iNeg (x : Ideal .f32) : FloatOps.hostNegf x = -x := rfl
theorem iAbs (x : Ideal .f32) : FloatOps.hostAbsf x = max x (-x) := rfl
theorem iCmp (p : CmpFPredicate) (x y : Ideal .f32) : FloatOps.cmpf p x y = Ideal.cmp p x y := rfl
/-- A word's uniform float, on either unit. -/
theorem uni_unit (u v : ArithUnit) (sc lo w : BitVec 32) : uni u sc lo w = uni v sc lo w := by unfold uni; rw [mant_unit u v]

theorem v205_at (b : Fin 16) (r : Fin 2048) (l : Fin 32) : val_main_v205 (F := Ideal) (ix3 b r l) = val_main_v203 (F := Ideal) (ix4 0 b r l) := by
  unfold val_main_v205 val_main_v204
  generalize val_main_v203 (F := Ideal) = h
  pointwise []
theorem v218_at (i : S16x2048x32.Idx) : val_main_v218 (F := Ideal) i = uni .host 0x3F800000#32 0x00000000#32 (val_main_v205 (F := Ideal) i) := by
  simp -implicitDefEqProofs only [val_main_c_56_apply, val_main_v206_apply, val_main_v207_apply, val_main_c_57_apply, val_main_v208_apply, val_main_v209_apply, val_main_v210_apply, val_main_cst_apply, val_main_v211_apply, val_main_v212_apply, val_main_cst_58_apply, val_main_v213_apply, val_main_v214_apply, val_main_cst_59_apply, val_main_v215_apply, val_main_v216_apply, val_main_cst_60_apply, val_main_v217_apply, val_main_v218_apply, Ideal.ofBits_def, Ideal.addf_def, Ideal.subf_def, Ideal.mulf_def, Ideal.maximumf_def, Ideal.hostUnary_log_def, Ideal.hostUnary_log1p_def, Ideal.hostUnary_sqrt_def, iNeg, iAbs, iCmp]
  simp -implicitDefEqProofs only [uni, mant]

theorem v502_at (i : S3x16x2048x2048.Idx) : val_main_v502 (F := Ideal) i = gum .host (val_main_v485 (F := Ideal) i) := by
  simp -implicitDefEqProofs only [val_main_c_145_apply, val_main_v486_apply, val_main_v487_apply, val_main_c_146_apply, val_main_v488_apply, val_main_v489_apply, val_main_v490_apply, val_main_cst_147_apply, val_main_v491_apply, val_main_v492_apply, val_main_cst_148_apply, val_main_v493_apply, val_main_v494_apply, val_main_cst_149_apply, val_main_v495_apply, val_main_v496_apply, val_main_cst_150_apply, val_main_v497_apply, val_main_v498_apply, val_main_v499_apply, val_main_v500_apply, val_main_v501_apply, val_main_v502_apply, Ideal.ofBits_def, Ideal.addf_def, Ideal.subf_def, Ideal.mulf_def, Ideal.maximumf_def, Ideal.hostUnary_log_def, Ideal.hostUnary_log1p_def, Ideal.hostUnary_sqrt_def, iNeg, iAbs, iCmp]
  simp -implicitDefEqProofs only [gum, uni, mant]
theorem v219_at (s : Fin 3) (b : Fin 16) (r : Fin 2048) (l : Fin 32) : val_main_v219 (F := Ideal) (ix4 s b r l) = val_main_v203 (F := Ideal) (ix4 s.succ b r l) := by
  unfold val_main_v219
  generalize val_main_v203 (F := Ideal) = h
  pointwise []
  exact congrArg (fun q : Fin 4 => h (ix4 q b r l)) (Fin.ext (Nat.add_comm _ _))
theorem v232_at (i : S3x16x2048x32.Idx) : val_main_v232 (F := Ideal) i = uni .host 0x40000000#32 0xBF7FFFFF#32 (val_main_v219 (F := Ideal) i) := by
  simp -implicitDefEqProofs only [val_main_c_61_apply, val_main_v220_apply, val_main_v221_apply, val_main_c_62_apply, val_main_v222_apply, val_main_v223_apply, val_main_v224_apply, val_main_cst_63_apply, val_main_v225_apply, val_main_v226_apply, val_main_cst_64_apply, val_main_v227_apply, val_main_v228_apply, val_main_cst_65_apply, val_main_v229_apply, val_main_v230_apply, val_main_cst_66_apply, val_main_v231_apply, val_main_v232_apply, Ideal.ofBits_def, Ideal.addf_def, Ideal.subf_def, Ideal.mulf_def, Ideal.maximumf_def, Ideal.hostUnary_log_def, Ideal.hostUnary_log1p_def, Ideal.hostUnary_sqrt_def, iNeg, iAbs, iCmp]
  simp -implicitDefEqProofs only [uni, mant]
theorem v236_at (i : S3x16x2048x32.Idx) : val_main_v236 (F := Ideal) i = erfW (val_main_v232 (F := Ideal) i) := by
  simp -implicitDefEqProofs only [val_main_v233_apply, val_main_v234_apply, val_main_v235_apply, val_main_v236_apply, Ideal.ofBits_def, Ideal.addf_def, Ideal.subf_def, Ideal.mulf_def, Ideal.maximumf_def, Ideal.hostUnary_log_def, Ideal.hostUnary_log1p_def, Ideal.hostUnary_sqrt_def, iNeg, iAbs, iCmp]
  unfold erfW
  rw [mul_comm]
theorem v238_at (i : S3x16x2048x32.Idx) : val_main_v238 (F := Ideal) i = erfC (val_main_v232 (F := Ideal) i) := by
  unfold erfC
  rw [← v236_at]
  simp -implicitDefEqProofs only [val_main_cst_67_apply, val_main_v237_apply, val_main_v238_apply, Ideal.ofBits_def, Ideal.addf_def, Ideal.subf_def, Ideal.mulf_def, Ideal.maximumf_def, Ideal.hostUnary_log_def, Ideal.hostUnary_log1p_def, Ideal.hostUnary_sqrt_def, iNeg, iAbs, iCmp]
theorem v244_at (i : S3x16x2048x32.Idx) : val_main_v244 (F := Ideal) i = erfX (val_main_v232 (F := Ideal) i) := by
  unfold erfX
  rw [← v238_at, ← v236_at]
  simp -implicitDefEqProofs only [val_main_cst_68_apply, val_main_v239_apply, val_main_v240_apply, val_main_v241_apply, val_main_cst_69_apply, val_main_v242_apply, val_main_v243_apply, val_main_v244_apply, Ideal.ofBits_def, Ideal.addf_def, Ideal.subf_def, Ideal.mulf_def, Ideal.maximumf_def, Ideal.hostUnary_log_def, Ideal.hostUnary_log1p_def, Ideal.hostUnary_sqrt_def, iNeg, iAbs, iCmp]
theorem v278_at (i : S3x16x2048x32.Idx) : val_main_v278 (F := Ideal) i = erfPoly (val_main_v238 (F := Ideal) i) (val_main_v244 (F := Ideal) i) := by
  simp -implicitDefEqProofs only [val_main_cst_70_apply, val_main_cst_71_apply, val_main_call1_v0_apply, val_main_call1_v1_apply, val_main_v245_apply, val_main_cst_72_apply, val_main_cst_73_apply, val_main_call2_v0_apply, val_main_call2_v1_apply, val_main_v246_apply, val_main_v247_apply, val_main_v248_apply, val_main_v249_apply, val_main_v250_apply, val_main_cst_74_apply, val_main_cst_75_apply, val_main_call3_v0_apply, val_main_call3_v1_apply, val_main_v251_apply, val_main_v252_apply, val_main_v253_apply, val_main_v254_apply, val_main_cst_76_apply, val_main_cst_77_apply, val_main_call4_v0_apply, val_main_call4_v1_apply, val_main_v255_apply, val_main_v256_apply, val_main_v257_apply, val_main_v258_apply, val_main_cst_78_apply, val_main_cst_79_apply, val_main_call5_v0_apply, val_main_call5_v1_apply, val_main_v259_apply, val_main_v260_apply, val_main_v261_apply, val_main_v262_apply, val_main_cst_80_apply, val_main_cst_81_apply, val_main_call6_v0_apply, val_main_call6_v1_apply, val_main_v263_apply, val_main_v264_apply, val_main_v265_apply, val_main_v266_apply, val_main_cst_82_apply, val_main_cst_83_apply, val_main_call7_v0_apply, val_main_call7_v1_apply, val_main_v267_apply, val_main_v268_apply, val_main_v269_apply, val_main_v270_apply, val_main_cst_84_apply, val_main_cst_85_apply, val_main_call8_v0_apply, val_main_call8_v1_apply, val_main_v271_apply, val_main_v272_apply, val_main_v273_apply, val_main_v274_apply, val_main_cst_86_apply, val_main_cst_87_apply, val_main_call9_v0_apply, val_main_call9_v1_apply, val_main_v275_apply, val_main_v276_apply, val_main_v277_apply, val_main_v278_apply, Ideal.ofBits_def, Ideal.addf_def, Ideal.subf_def, Ideal.mulf_def, Ideal.maximumf_def, Ideal.hostUnary_log_def, Ideal.hostUnary_log1p_def, Ideal.hostUnary_sqrt_def, iNeg, iAbs, iCmp]
  simp -implicitDefEqProofs only [id, erfPoly]
theorem v287_at (i : S3x16x2048x32.Idx) : val_main_v287 (F := Ideal) i = nrm .host (val_main_v219 (F := Ideal) i) := by
  unfold nrm erfInv
  rw [← v232_at, ← v238_at, ← v244_at, ← v278_at, mul_comm (Ideal.ofBits .f32 0x7F800000#32)]
  simp -implicitDefEqProofs only [val_main_v279_apply, val_main_cst_88_apply, val_main_v280_apply, val_main_v281_apply, val_main_cst_89_apply, val_main_v282_apply, val_main_v283_apply, val_main_v284_apply, val_main_v285_apply, val_main_cst_90_apply, val_main_v286_apply, val_main_v287_apply, Ideal.ofBits_def, Ideal.addf_def, Ideal.subf_def, Ideal.mulf_def, Ideal.maximumf_def, Ideal.hostUnary_log_def, Ideal.hostUnary_log1p_def, Ideal.hostUnary_sqrt_def, iNeg, iAbs, iCmp]

end Cert.ReferenceIdeal.Read

end
-- ==== Proof.Reference.Round.lean ====
/- One round of the reference, and its end, over any points: each piece as the operations give it, then read at an element. -/
module

public import proofs.«01_k».proof.Proof.Reference.Draws

@[expose] public section

set_option maxRecDepth 16384

noncomputable section

namespace Cert.ReferenceIdeal.Read

open Cert.ReferenceIdeal Cert.ReferenceIdeal.Gen
open Idealize.ShloMosaic Idealize.ShloMosaic.TcCoe
open Cert.Spec

/-- The energies of the points `S`. -/
def rEn (x0 : FVec Ideal S16x256 .f32) (x1 : FVec Ideal S288x256 .f32) (x2 : FVec Ideal S256 .f32) (x3 : FVec Ideal S256x1 .f32) (x4 : FVec Ideal S1 .f32) (S : FVec Ideal S16x2048x32 .f32) : FVec Ideal S16x2048 .f32 :=
  shapeCast _ (addf
    (Host.dotGeneral dot_S16x2048x256_S256x1_S16x2048x1_2_0_01_1_n_n none
      (maximumf
        (addf
          (Host.dotGeneral dot_S16x2048x288_S288x256_S16x2048x256_2_0_01_1_n_n none
            (concatenate S16x2048x288 2 [⟨S16x2048x256, broadcastInDim S16x2048x256 ![0, 1, 2] bcast_S16x1x256_S16x2048x256_0_1_2 (broadcastInDim S16x1x256 ![0, 2] bcast_S16x256_S16x1x256_0_2 x0)⟩, ⟨S16x2048x32, S⟩] concatenates_S16x2048x256_S16x2048x32_S16x2048x288_d2) x1)
          (broadcastInDim S16x2048x256 ![0, 1, 2] bcast_S1x1x256_S16x2048x256_0_1_2 (broadcastInDim S1x1x256 ![2] bcast_S256_S1x1x256_2 x2)))
        (broadcastInDim S16x2048x256 ![] bcast_S_S16x2048x256 (constant S_ .f32 0x00000000#32))) x3)
    (broadcastInDim S16x2048x1 ![0, 1, 2] bcast_S1x1x1_S16x2048x1_0_1_2 (broadcastInDim S1x1x1 ![2] bcast_S1_S1x1x1_2 x4))) shapeCasts_S16x2048x1_S16x2048

/-- The perturbed logits of every row: the draws `g` less the energies `e`. -/
def rPert (g : FVec Ideal S16x2048x2048 .f32) (e : FVec Ideal S16x2048 .f32) : FVec Ideal S16x2048x2048 .f32 :=
  addf g (broadcastInDim S16x2048x2048 ![0, 1, 2] bcast_S16x1x2048_S16x2048x2048_0_1_2 (broadcastInDim S16x1x2048 ![0, 2] bcast_S16x2048_S16x1x2048_0_2
    (mulf (broadcastInDim S16x2048 ![] bcast_S_S16x2048 (constant S_ .f32 0xBF800000#32)) e)))

/-- The word of the place of every row's largest. -/
def rSel (P : FVec Ideal S16x2048x2048 .f32) : IVec S16x2048 32 :=
  Host.reduce IntOp.minsi
    (select (cmpf .oeq P (broadcastInDim S16x2048x2048 ![0, 1, 2] bcast_S16x2048x1_S16x2048x2048_0_1_2 (broadcastInDim S16x2048x1 ![0, 1] bcast_S16x2048_S16x2048x1_0_1
        (Host.reduce FloatOps.maximumf P (constant S_ .f32 0xFF800000#32) reducesTo_S16x2048x2048_S16x2048_d2 h_S_))))
      (broadcastInDim S16x2048x2048 ![2] bcast_S2048_S16x2048x2048_2 (iotaInDim S2048 32 0))
      (broadcastInDim S16x2048x2048 ![] bcast_S_S16x2048x2048 (id (constantI S_ 32 2048#32))))
    (constantI S_ 32 2147483647#32) reducesTo_S16x2048x2048_S16x2048_d2 h_S_

/-- A place counted from the end where it is negative. -/
def rIdx (w : IVec S16x2048 32) : IVec S16x2048x1 32 :=
  select (cmpi .slt (broadcastInDim S16x2048x1 ![0, 1] bcast_S16x2048_S16x2048x1_0_1 w) (broadcastInDim S16x2048x1 ![] bcast_S_S16x2048x1 (constantI S_ 32 0#32)))
    (addi (broadcastInDim S16x2048x1 ![0, 1] bcast_S16x2048_S16x2048x1_0_1 w) (broadcastInDim S16x2048x1 ![] bcast_S_S16x2048x1 (constantI S_ 32 2048#32)))
    (broadcastInDim S16x2048x1 ![0, 1] bcast_S16x2048_S16x2048x1_0_1 w)
/-- Whether it is within the points. -/
def rOk (i : IVec S16x2048x1 32) : IVec S16x2048 1 :=
  Host.reduce IntOp.andi
    (andi (cmpi .sge i (broadcastInDim S16x2048x1 ![] bcast_S_S16x2048x1 (constantI S_ 32 0#32)))
      (cmpi .sle i (broadcastInDim S16x2048x1 ![0, 1, 2] bcast_S1x1x1_S16x2048x1_0_1_2 (broadcastInDim S1x1x1 ![2] bcast_S1_S1x1x1_2 (constantI S1 32 2047#32)))))
    (constantI S_ 1 1#1) reducesTo_S16x2048x1_S16x2048_d2 h_S_
/-- The points taken at the places. -/
def rTake (S : FVec Ideal S16x2048x32 .f32) (w : IVec S16x2048 32) : FVec Ideal S16x2048x32 .f32 :=
  select (broadcastInDim S16x2048x32 ![0, 1] bcast_S16x2048_S16x2048x32_0_1 (rOk (rIdx w)))
    (Host.gather gather_S16x2048x32_S16x2048x1_S16x2048x32_2_1_0_0_1_2_1132 S (rIdx w))
    (broadcastInDim S16x2048x32 ![] bcast_S_S16x2048x32 (constant S_ .f32 0x7FC00000#32))

/-- The points moved by the noise `z`, scaled by the number of the bits `sc`, and kept between the bounds. -/
def rMove (sc : BitVec 32) (T z : FVec Ideal S16x2048x32 .f32) (x5 : FVec Ideal S2x32 .f32) : FVec Ideal S16x2048x32 .f32 :=
  minimumf
    (broadcastInDim S16x2048x32 ![0, 1, 2] bcast_S1x1x32_S16x2048x32_0_1_2 (broadcastInDim S1x1x32 ![2] bcast_S32_S1x1x32_2 (shapeCast _ (extractStridedSlice S1x32 ![1, 0] x5 slices_S2x32_S1x32_1_0) shapeCasts_S1x32_S32)))
    (maximumf
      (broadcastInDim S16x2048x32 ![0, 1, 2] bcast_S1x1x32_S16x2048x32_0_1_2 (broadcastInDim S1x1x32 ![2] bcast_S32_S1x1x32_2 (shapeCast _ (extractStridedSlice S1x32 ![0, 0] x5 slices_S2x32_S1x32_0_0) shapeCasts_S1x32_S32)))
      (addf T (mulf z (broadcastInDim S16x2048x32 ![] bcast_S_S16x2048x32 (constant S_ .f32 sc)))))

theorem minus_one : Ideal.ofBits .f32 0xBF800000#32 = (-1 : EReal) := by
  simp [Ideal.ofBits, Ideal.ieee]
  exact_mod_cast (by norm_num : (8388608 : ℝ) * (2 ^ 23)⁻¹ = 1)

/-- The words of places are not negative and within the points. -/
theorem place (n : Fin 2048) : IntOp.cmpi .slt (BitVec.ofNat 32 n.val) 0#32 = 0#1 ∧ IntOp.cmpi .sge (BitVec.ofNat 32 n.val) 0#32 = 1#1 ∧ IntOp.cmpi .sle (BitVec.ofNat 32 n.val) 2047#32 = 1#1
    ∧ min (BitVec.ofNat 32 n.val).toInt.toNat 2047 = n.val := by
  revert n; decide +kernel

section
variable (b : Fin 16) (q : Fin 2048)

theorem rEn_at (x0 : FVec Ideal S16x256 .f32) (x1 : FVec Ideal S288x256 .f32) (x2 : FVec Ideal S256 .f32) (x3 : FVec Ideal S256x1 .f32) (x4 : FVec Ideal S1 .f32) (S : FVec Ideal S16x2048x32 .f32) :
    rEn x0 x1 x2 x3 x4 S (ix2 b q) = energy (fun d => x0 (ix2 b d)) (fun d k => x1 (ix2 d k)) (fun k => x2 (ix1 k)) (fun k => x3 (ix2 k 0)) (x4 (ix1 0)) (fun a => S (ix3 b q a)) := by
  pointwise [rEn, energy]
  have h : ∀ k : Fin 256, (∑ d : Fin 256, x0 (ix2 b d) * x1 (ix2 ⟨d.val, by have := d.isLt; omega⟩ k)) + (∑ a : Fin 32, S (ix3 b q a) * x1 (ix2 ⟨256 + a.val, by have := a.isLt; omega⟩ k))
      = (∑ a : Fin 32, S (ix3 b q a) * x1 (ix2 ⟨256 + a.val, by have := a.isLt; omega⟩ k)) + (∑ d : Fin 256, x0 (ix2 b d) * x1 (ix2 ⟨d.val, by have := d.isLt; omega⟩ k)) := fun k => add_comm _ _
  simp only [h]

theorem rPert_at (g : FVec Ideal S16x2048x2048 .f32) (e : FVec Ideal S16x2048 .f32) (k : Fin 2048) :
    rPert g e (ix3 b q k) = g (ix3 b q k) - e (ix2 b k) := by
  pointwise [rPert]
  rw [minus_one, neg_one_mul]
  rfl

theorem rSel_at (P : FVec Ideal S16x2048x2048 .f32) : rSel P (ix2 b q) = firstMax fun k => P (ix3 b q k) := by
  pointwise [rSel, firstMax, top]
  rfl

theorem rMove_at (sc : BitVec 32) (T z : FVec Ideal S16x2048x32 .f32) (x5 : FVec Ideal S2x32 .f32) (l : Fin 32) :
    rMove sc T z x5 (ix3 b q l) = min (max (T (ix3 b q l) + z (ix3 b q l) * Ideal.ofBits .f32 sc) (x5 (ix2 0 l))) (x5 (ix2 1 l)) := by
  pointwise [rMove]
  rw [min_comm, max_comm]

theorem rIdx_at (w : IVec S16x2048 32) (n : Fin 2048) (hn : w (ix2 b q) = BitVec.ofNat 32 n.val) : rIdx w (ix3 b q 0) = BitVec.ofNat 32 n.val := by
  pointwise [rIdx, hn]
  rw [(place n).1]
  rfl

theorem rOk_at (i : IVec S16x2048x1 32) (n : Fin 2048) (hn : i (ix3 b q 0) = BitVec.ofNat 32 n.val) : rOk i (ix2 b q) = 1#1 := by
  pointwise [rOk]
  have h : ∀ x : Fin 1, i (ix3 b q x) = BitVec.ofNat 32 n.val := fun x => by rw [Subsingleton.elim x 0]; exact hn
  simp only [h, (place n).2.1, (place n).2.2.1]
  rfl
end

section
variable {α : Type}

/-- The gather that takes one of 2048 points for each of `Q` places, row by row. -/
abbrev pointDims (Q : ℕ) (wf : GatherDims.WF ⟨3, ![16, 2048, 32]⟩ ⟨3, ![16, Q, 1]⟩ ⟨3, ![16, Q, 32]⟩ [2] [1] [0] [1] [0] 2 ![1, 1, 32]) :
    GatherDims ⟨3, ![16, 2048, 32]⟩ ⟨3, ![16, Q, 1]⟩ ⟨3, ![16, Q, 32]⟩ where
  offsetDims := [2]
  collapsedSliceDims := [1]
  operandBatchingDims := [0]
  startIndicesBatchingDims := [0]
  startIndexMap := [1]
  indexVectorDim := 2
  sliceSizes := ![1, 1, 32]
  wf := wf

/-- The points gathered at places, read at an element. -/
theorem gather_at (Q : ℕ) (wf) (x : (⟨3, ![16, 2048, 32]⟩ : Shape).Idx → α) (i : IVec ⟨3, ![16, Q, 1]⟩ 32) (b : Fin 16) (q : Fin Q) (l : Fin 32) (n : Fin 2048) (hn : i (ix3 b q 0) = BitVec.ofNat 32 n.val) :
    Host.gather (pointDims Q wf) x i (ix3 b q l) = x (ix3 b n l) := by
  unfold Host.gather
  congr 1
  funext a
  refine Fin.ext ?_
  show (pointDims Q wf).start (ix3 b q l) i a + (pointDims Q wf).batchCoord (ix3 b q l) a + (pointDims Q wf).offCoord (ix3 b q l) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (pointDims Q wf).operandBatchingDims from List.mem_singleton.mpr rfl)]
    rfl
  · rw [GatherDims.batchCoord_eq_zero _ _ _ (fun h : (1 : Fin 3) ∈ [(0 : Fin 3)] => absurd h (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (pointDims Q wf).startIndexMap from List.mem_singleton.mpr rfl)]
    have hsi : (pointDims Q wf).siIdx (ix3 b q l) ⟨List.idxOf (1 : Fin 3) (pointDims Q wf).startIndexMap, List.idxOf_lt_length_iff.2 (List.mem_singleton.mpr rfl)⟩ = ix3 b q 0 := by
      funext z; refine Fin.ext ?_
      match z with
      | ⟨0, _⟩ => rfl
      | ⟨1, _⟩ => rfl
      | ⟨2, _⟩ => rfl
    rw [hsi, hn]
    exact (place n).2.2.2
  · have e0 : (pointDims Q wf).start (ix3 b q l) i 2 = 0 := by
      unfold GatherDims.start
      rw [dif_neg (show (2 : Fin 3) ∉ (pointDims Q wf).startIndexMap from (by decide : (2 : Fin 3) ∉ [(1 : Fin 3)]))]
    rw [e0, GatherDims.batchCoord_eq_zero _ _ _ (fun h : (2 : Fin 3) ∈ [(0 : Fin 3)] => absurd h (by decide))]
    simp only [Nat.zero_add]
    rfl
end

theorem rTake_at (b : Fin 16) (q : Fin 2048) (S : FVec Ideal S16x2048x32 .f32) (w : IVec S16x2048 32) (n : Fin 2048) (hn : w (ix2 b q) = BitVec.ofNat 32 n.val) (l : Fin 32) :
    rTake S w (ix3 b q l) = S (ix3 b n l) := by
  have hi := rIdx_at b q w n hn
  have ho := rOk_at b q (rIdx w) n hi
  have hg : Host.gather gather_S16x2048x32_S16x2048x1_S16x2048x32_2_1_0_0_1_2_1132 S (rIdx w) (ix3 b q l) = S (ix3 b n l) := gather_at 2048 _ S (rIdx w) b q l n hi
  pointwise [rTake]
  rw [ho, hg]
  rfl

/-! The end: of every row's probabilities the largest. -/

/-- The probabilities of the points, of their energies. -/
def rNum (e : FVec Ideal S16x2048 .f32) : FVec Ideal S16x2048 .f32 :=
  Host.exp (subf (mulf (broadcastInDim S16x2048 ![] bcast_S_S16x2048 (constant S_ .f32 0xBF800000#32)) e)
    (broadcastInDim S16x2048 ![0, 1] bcast_S16x1_S16x2048_0_1 (broadcastInDim S16x1 ![0] bcast_S16_S16x1_0
      (maximumf (broadcastInDim S16 ![] bcast_S_S16 (constant S_ .f32 0xFF800000#32))
        (Host.reduce FloatOps.maximumf (mulf (broadcastInDim S16x2048 ![] bcast_S_S16x2048 (constant S_ .f32 0xBF800000#32)) e) (constant S_ .f32 0xFF800000#32) reducesTo_S16x2048_S16_d1 h_S_)))))
def rProb (e : FVec Ideal S16x2048 .f32) : FVec Ideal S16x2048 .f32 :=
  Host.divf (rNum e) (broadcastInDim S16x2048 ![0, 1] bcast_S16x1_S16x2048_0_1 (broadcastInDim S16x1 ![0] bcast_S16_S16x1_0
    (Host.reduceAdd (rNum e) (constant S_ .f32 0x00000000#32) reducesTo_S16x2048_S16_d1 h_S_)))
def rSel1 (P : FVec Ideal S16x2048 .f32) : IVec S16 32 :=
  Host.reduce IntOp.minsi
    (select (cmpf .oeq P (broadcastInDim S16x2048 ![0, 1] bcast_S16x1_S16x2048_0_1 (broadcastInDim S16x1 ![0] bcast_S16_S16x1_0
        (Host.reduce FloatOps.maximumf P (constant S_ .f32 0xFF800000#32) reducesTo_S16x2048_S16_d1 h_S_))))
      (broadcastInDim S16x2048 ![1] bcast_S2048_S16x2048_1 (iotaInDim S2048 32 0))
      (broadcastInDim S16x2048 ![] bcast_S_S16x2048 (id (constantI S_ 32 2048#32))))
    (constantI S_ 32 2147483647#32) reducesTo_S16x2048_S16_d1 h_S_
def rIdx1 (w : IVec S16 32) : IVec S16x1x1 32 :=
  select (cmpi .slt (broadcastInDim S16x1x1 ![0] bcast_S16_S16x1x1_0 w) (broadcastInDim S16x1x1 ![] bcast_S_S16x1x1 (constantI S_ 32 0#32)))
    (addi (broadcastInDim S16x1x1 ![0] bcast_S16_S16x1x1_0 w) (broadcastInDim S16x1x1 ![] bcast_S_S16x1x1 (constantI S_ 32 2048#32)))
    (broadcastInDim S16x1x1 ![0] bcast_S16_S16x1x1_0 w)
def rOk1 (i : IVec S16x1x1 32) : IVec S16x1 1 :=
  Host.reduce IntOp.andi
    (andi (cmpi .sge i (broadcastInDim S16x1x1 ![] bcast_S_S16x1x1 (constantI S_ 32 0#32)))
      (cmpi .sle i (broadcastInDim S16x1x1 ![0, 1, 2] bcast_S1x1x1_S16x1x1_0_1_2 (broadcastInDim S1x1x1 ![2] bcast_S1_S1x1x1_2 (constantI S1 32 2047#32)))))
    (constantI S_ 1 1#1) reducesTo_S16x1x1_S16x1_d2 h_S_
def rTake1 (S : FVec Ideal S16x2048x32 .f32) (w : IVec S16 32) : FVec Ideal S16x32 .f32 :=
  shapeCast _ (select (broadcastInDim S16x1x32 ![0, 1] bcast_S16x1_S16x1x32_0_1 (rOk1 (rIdx1 w)))
    (Host.gather gather_S16x2048x32_S16x1x1_S16x1x32_2_1_0_0_1_2_1132 S (rIdx1 w))
    (broadcastInDim S16x1x32 ![] bcast_S_S16x1x32 (constant S_ .f32 0x7FC00000#32))) shapeCasts_S16x1x32_S16x32

section
variable (b : Fin 16)

theorem top_bot (v : Fin 2048 → EReal) : max (Ideal.ofBits .f32 0xFF800000#32) (top v) = top v := by
  rw [ninf]; exact max_eq_right bot_le

theorem rNum_at (e : FVec Ideal S16x2048 .f32) (k : Fin 2048) : rNum e (ix2 b k) = Ideal.exp (-e (ix2 b k) - top fun q => -e (ix2 b q)) := by
  pointwise [rNum]
  simp only [minus_one, neg_one_mul]
  exact congrArg (fun z => Ideal.exp (-e (ix2 b k) - z)) (top_bot fun q => -e (ix2 b q))

theorem rProb_at (e : FVec Ideal S16x2048 .f32) (k : Fin 2048) : rProb e (ix2 b k) = Ideal.div (rNum e (ix2 b k)) (∑ q : Fin 2048, rNum e (ix2 b q)) := by
  pointwise [rProb]

theorem rSel1_at (P : FVec Ideal S16x2048 .f32) : rSel1 P (ix1 b) = firstMax fun k => P (ix2 b k) := by
  pointwise [rSel1, firstMax, top]
  rfl

theorem rIdx1_at (w : IVec S16 32) (n : Fin 2048) (hn : w (ix1 b) = BitVec.ofNat 32 n.val) : rIdx1 w (ix3 b 0 0) = BitVec.ofNat 32 n.val := by
  pointwise [rIdx1, hn]
  rw [(place n).1]
  rfl

theorem rOk1_at (i : IVec S16x1x1 32) (n : Fin 2048) (hn : i (ix3 b 0 0) = BitVec.ofNat 32 n.val) : rOk1 i (ix2 b 0) = 1#1 := by
  pointwise [rOk1]
  have h : ∀ x : Fin 1, i (ix3 b 0 x) = BitVec.ofNat 32 n.val := fun x => by rw [Subsingleton.elim x 0]; exact hn
  simp only [h, (place n).2.1, (place n).2.2.1]
  rfl

theorem rTake1_at (S : FVec Ideal S16x2048x32 .f32) (w : IVec S16 32) (n : Fin 2048) (hn : w (ix1 b) = BitVec.ofNat 32 n.val) (l : Fin 32) :
    rTake1 S w (ix2 b l) = S (ix3 b n l) := by
  have hi := rIdx1_at b w n hn
  have ho := rOk1_at b (rIdx1 w) n hi
  have hg : Host.gather gather_S16x2048x32_S16x1x1_S16x1x32_2_1_0_0_1_2_1132 S (rIdx1 w) (ix3 b 0 l) = S (ix3 b n l) := gather_at 1 _ S (rIdx1 w) b 0 l n hi
  pointwise [rTake1]
  rw [ho, hg]
  rfl
end

end Cert.ReferenceIdeal.Read

end
-- ==== Proof.Reference.Closed.lean ====
/- What the reference leaves in its result, in scalars. -/
module

public import proofs.«01_k».proof.Proof.Reference.Round
public import proofs.«01_k».proof.Proof.Value.Answer

@[expose] public section

set_option maxRecDepth 16384

noncomputable section

namespace Cert.ReferenceIdeal.Read

open Cert.ReferenceIdeal Cert.ReferenceIdeal.Gen
open Idealize.ShloMosaic Idealize.ShloMosaic.TcCoe
open Cert.Spec

/-- The first points, of their uniform draws `u`. -/
def rInit (u : FVec Ideal S16x2048x32 .f32) (x5 : FVec Ideal S2x32 .f32) : FVec Ideal S16x2048x32 .f32 :=
  addf (broadcastInDim S16x2048x32 ![0, 1, 2] bcast_S1x1x32_S16x2048x32_0_1_2 (broadcastInDim S1x1x32 ![2] bcast_S32_S1x1x32_2 (shapeCast _ (extractStridedSlice S1x32 ![0, 0] x5 slices_S2x32_S1x32_0_0) shapeCasts_S1x32_S32)))
    (mulf u (broadcastInDim S16x2048x32 ![0, 1, 2] bcast_S1x1x32_S16x2048x32_0_1_2 (broadcastInDim S1x1x32 ![2] bcast_S32_S1x1x32_2
      (subf (shapeCast _ (extractStridedSlice S1x32 ![1, 0] x5 slices_S2x32_S1x32_1_0) shapeCasts_S1x32_S32) (shapeCast _ (extractStridedSlice S1x32 ![0, 0] x5 slices_S2x32_S1x32_0_0) shapeCasts_S1x32_S32)))))

theorem rInit_at (u : FVec Ideal S16x2048x32 .f32) (x5 : FVec Ideal S2x32 .f32) (b : Fin 16) (r : Fin 2048) (l : Fin 32) :
    rInit u x5 (ix3 b r l) = x5 (ix2 0 l) + u (ix3 b r l) * (x5 (ix2 1 l) - x5 (ix2 0 l)) := by
  pointwise [rInit]

theorem v515_at (x5 : FVec Ideal S2x32 .f32) (b : Fin 16) (r : Fin 2048) (l : Fin 32) :
    val_main_v515 (F := Ideal) x5 (ix3 b r l) = samp0 (fun a c => x5 (ix2 a c)) b r l := by
  have e : val_main_v515 (F := Ideal) x5 = rInit (val_main_v218 (F := Ideal)) x5 := rfl
  rw [e, rInit_at, v218_at, v205_at, v203_at, uni_unit .host .vector, hash_unit .host .vector]
  rfl

/-! The draws of each round, cut from those of all the rounds. -/
section
variable {α : Type} (b : Fin 16) (r : Fin 2048)
theorem cutN0 (z : S3x16x2048x32.Idx → α) (l : Fin 32) : (shapeCast S16x2048x32 (extractStridedSlice S1x16x2048x32 ![0, 0, 0, 0] z slices_S3x16x2048x32_S1x16x2048x32_0_0_0_0) shapeCasts_S1x16x2048x32_S16x2048x32) (ix3 b r l) = z (ix4 0 b r l) := by pointwise []
theorem cutN1 (z : S3x16x2048x32.Idx → α) (l : Fin 32) : (shapeCast S16x2048x32 (extractStridedSlice S1x16x2048x32 ![1, 0, 0, 0] z slices_S3x16x2048x32_S1x16x2048x32_1_0_0_0) shapeCasts_S1x16x2048x32_S16x2048x32) (ix3 b r l) = z (ix4 1 b r l) := by pointwise []
theorem cutN2 (z : S3x16x2048x32.Idx → α) (l : Fin 32) : (shapeCast S16x2048x32 (extractStridedSlice S1x16x2048x32 ![2, 0, 0, 0] z slices_S3x16x2048x32_S1x16x2048x32_2_0_0_0) shapeCasts_S1x16x2048x32_S16x2048x32) (ix3 b r l) = z (ix4 2 b r l) := by pointwise []
theorem cutG0 (z : S3x16x2048x2048.Idx → α) (l : Fin 2048) : (shapeCast S16x2048x2048 (extractStridedSlice S1x16x2048x2048 ![0, 0, 0, 0] z slices_S3x16x2048x2048_S1x16x2048x2048_0_0_0_0) shapeCasts_S1x16x2048x2048_S16x2048x2048) (ix3 b r l) = z (ix4 0 b r l) := by pointwise []
theorem cutG1 (z : S3x16x2048x2048.Idx → α) (l : Fin 2048) : (shapeCast S16x2048x2048 (extractStridedSlice S1x16x2048x2048 ![1, 0, 0, 0] z slices_S3x16x2048x2048_S1x16x2048x2048_1_0_0_0) shapeCasts_S1x16x2048x2048_S16x2048x2048) (ix3 b r l) = z (ix4 1 b r l) := by pointwise []
theorem cutG2 (z : S3x16x2048x2048.Idx → α) (l : Fin 2048) : (shapeCast S16x2048x2048 (extractStridedSlice S1x16x2048x2048 ![2, 0, 0, 0] z slices_S3x16x2048x2048_S1x16x2048x2048_2_0_0_0) shapeCasts_S1x16x2048x2048_S16x2048x2048) (ix3 b r l) = z (ix4 2 b r l) := by pointwise []
end

theorem noise (s : Fin 3) (b : Fin 16) (r : Fin 2048) (l : Fin 32) :
    val_main_v287 (F := Ideal) (ix4 s b r l) = nrm .vector (Spec.hash .vector (na s.succ) (nb s.succ) (nc s.succ) (BitVec.ofNat 32 ((b.val * 2048 + r.val) * 32 + l.val))) := by
  rw [v287_at, v219_at, v203_at, nrm_unit .host .vector, hash_unit .host .vector]
theorem gumbel (s : Fin 3) (b : Fin 16) (r : Fin 2048) (l : Fin 2048) :
    val_main_v502 (F := Ideal) (ix4 s b r l) = gum .vector (Spec.hash .vector (ga s) (gb s) (gc s) (BitVec.ofNat 32 ((b.val * 2048 + r.val) * 2048 + l.val))) := by
  rw [v502_at, v485_at, gum_unit .host .vector, hash_unit .host .vector]

/-! The rounds. -/
section
variable (x0 : FVec Ideal S16x256 .f32) (x1 : FVec Ideal S288x256 .f32) (x2 : FVec Ideal S256 .f32) (x3 : FVec Ideal S256x1 .f32) (x4 : FVec Ideal S1 .f32) (x5 : FVec Ideal S2x32 .f32)

/-- One round as the operations give it: of the points `S`, the draws `g` and `z` and the scale's bits. -/
def rRound (sc : BitVec 32) (g : FVec Ideal S16x2048x2048 .f32) (z S : FVec Ideal S16x2048x32 .f32) : FVec Ideal S16x2048x32 .f32 :=
  rMove sc (rTake S (rSel (rPert g (rEn x0 x1 x2 x3 x4 S)))) z x5

abbrev rfit : Fin 16 → (Fin 32 → EReal) → EReal := fun b => energy (fun d => x0 (ix2 b d)) (fun d k => x1 (ix2 d k)) (fun k => x2 (ix1 k)) (fun k => x3 (ix2 k 0)) (x4 (ix1 0))

theorem rRound_at (sc : BitVec 32) (g : FVec Ideal S16x2048x2048 .f32) (z S : FVec Ideal S16x2048x32 .f32) (g0 g1 g2 n0 n1 n2 : BitVec 32) (S' : Fin 16 → Fin 2048 → Fin 32 → EReal)
    (hg : ∀ (b : Fin 16) (r k : Fin 2048), g (ix3 b r k) = gum .vector (Spec.hash .vector g0 g1 g2 (BitVec.ofNat 32 ((b.val * 2048 + r.val) * 2048 + k.val))))
    (hz : ∀ (b : Fin 16) (r : Fin 2048) (l : Fin 32), z (ix3 b r l) = nrm .vector (Spec.hash .vector n0 n1 n2 (BitVec.ofNat 32 ((b.val * 2048 + r.val) * 32 + l.val))))
    (hS : ∀ b r l, S (ix3 b r l) = S' b r l) (b : Fin 16) (r : Fin 2048) (l : Fin 32) :
    rRound x0 x1 x2 x3 x4 x5 sc g z S (ix3 b r l) = step g0 g1 g2 n0 n1 n2 sc (fun a c => x5 (ix2 a c)) (rfit x0 x1 x2 x3 x4) S' b r l := by
  have hP : ∀ k, rPert g (rEn x0 x1 x2 x3 x4 S) (ix3 b r k) = gum .vector (Spec.hash .vector g0 g1 g2 (BitVec.ofNat 32 ((b.val * 2048 + r.val) * 2048 + k.val))) - rfit x0 x1 x2 x3 x4 b (S' b k) := fun k => by
    rw [rPert_at, rEn_at, hg]
    simp only [hS]
  have hw := (rSel_at b r (rPert g (rEn x0 x1 x2 x3 x4 S))).trans (pick_word _)
  unfold rRound
  rw [rMove_at, rTake_at b r S _ _ hw, hz, hS]
  simp only [hP]
  rfl

theorem v554_at (b : Fin 16) (r : Fin 2048) (l : Fin 32) : val_main_v554 (F := Ideal) x0 x1 x2 x3 x4 x5 (ix3 b r l) = samp1 (rfit x0 x1 x2 x3 x4) (fun a c => x5 (ix2 a c)) b r l := by
  have e : val_main_v554 (F := Ideal) x0 x1 x2 x3 x4 x5 = rRound x0 x1 x2 x3 x4 x5 0x3EA8F5C3#32 (val_main_v532 (F := Ideal)) (val_main_v546 (F := Ideal)) (val_main_v515 (F := Ideal) x5) := rfl
  rw [e]
  exact rRound_at x0 x1 x2 x3 x4 x5 _ _ _ _ _ _ _ _ _ _ _ (fun b r k => (cutG0 b r _ k).trans (gumbel 0 b r k)) (fun b r k => (cutN0 b r _ k).trans (noise 0 b r k)) (v515_at x5) b r l
theorem v593_at (b : Fin 16) (r : Fin 2048) (l : Fin 32) : val_main_v593 (F := Ideal) x0 x1 x2 x3 x4 x5 (ix3 b r l) = samp2 (rfit x0 x1 x2 x3 x4) (fun a c => x5 (ix2 a c)) b r l := by
  have e : val_main_v593 (F := Ideal) x0 x1 x2 x3 x4 x5 = rRound x0 x1 x2 x3 x4 x5 0x3E28F5C3#32 (val_main_v571 (F := Ideal)) (val_main_v585 (F := Ideal)) (val_main_v554 (F := Ideal) x0 x1 x2 x3 x4 x5) := rfl
  rw [e]
  exact rRound_at x0 x1 x2 x3 x4 x5 _ _ _ _ _ _ _ _ _ _ _ (fun b r k => (cutG1 b r _ k).trans (gumbel 1 b r k)) (fun b r k => (cutN1 b r _ k).trans (noise 1 b r k)) (v554_at x0 x1 x2 x3 x4 x5) b r l
theorem v632_at (b : Fin 16) (r : Fin 2048) (l : Fin 32) : val_main_v632 (F := Ideal) x0 x1 x2 x3 x4 x5 (ix3 b r l) = samp3 (rfit x0 x1 x2 x3 x4) (fun a c => x5 (ix2 a c)) b r l := by
  have e : val_main_v632 (F := Ideal) x0 x1 x2 x3 x4 x5 = rRound x0 x1 x2 x3 x4 x5 0x3DA8F5C3#32 (val_main_v610 (F := Ideal)) (val_main_v624 (F := Ideal)) (val_main_v593 (F := Ideal) x0 x1 x2 x3 x4 x5) := rfl
  rw [e]
  exact rRound_at x0 x1 x2 x3 x4 x5 _ _ _ _ _ _ _ _ _ _ _ (fun b r k => (cutG2 b r _ k).trans (gumbel 2 b r k)) (fun b r k => (cutN2 b r _ k).trans (noise 2 b r k)) (v593_at x0 x1 x2 x3 x4 x5) b r l

theorem v668_at (b : Fin 16) (l : Fin 32) : val_main_v668 (F := Ideal) x0 x1 x2 x3 x4 x5 (ix2 b l)
    = answer (fun b d => x0 (ix2 b d)) (fun d k => x1 (ix2 d k)) (fun k => x2 (ix1 k)) (fun k => x3 (ix2 k 0)) (x4 (ix1 0)) (fun a c => x5 (ix2 a c)) b l := by
  have e : val_main_v668 (F := Ideal) x0 x1 x2 x3 x4 x5 = rTake1 (val_main_v632 (F := Ideal) x0 x1 x2 x3 x4 x5) (rSel1 (rProb (rEn x0 x1 x2 x3 x4 (val_main_v632 (F := Ideal) x0 x1 x2 x3 x4 x5)))) := rfl
  have hS := v632_at x0 x1 x2 x3 x4 x5
  rw [e]
  generalize val_main_v632 (F := Ideal) x0 x1 x2 x3 x4 x5 = S at hS
  have hw := (rSel1_at b (rProb (rEn x0 x1 x2 x3 x4 S))).trans (pick_word _)
  rw [rTake1_at b S _ _ hw, hS]
  simp only [rProb_at, rNum_at, rEn_at, hS]
  rfl
end

end Cert.ReferenceIdeal.Read

end
-- ==== Proof.Bounds.lean ====
/- The precondition, read: no bound is an infinity. -/
module

public import proofs.«01_k».proof.Pre_bounds_finite
public import proofs.«01_k».proof.Proof.Value.Scalar
public import Idealize.ShloMosaic.Lib.ReduceAll
public import Idealize.ShloMosaic.Lib.StableHlo.Predicate

@[expose] public section

noncomputable section

namespace Cert.Pre_bounds_finite

open Idealize.ShloMosaic Cert.Spec

theorem facts : Facts := ⟨by decide, by decide, by decide⟩

theorem infBits : Ideal.ofBits .f32 0x7F800000#32 = ⊤ := by
  unfold Ideal.ofBits Ideal.ieee
  simp

theorem fin_of_abs {x : EReal} (h : max x (-x) < ⊤) : Fin' x := by
  have h1 : x ≠ ⊤ := ne_of_lt (lt_of_le_of_lt (le_max_left _ _) h)
  have h2 : x ≠ ⊥ := by
    rintro rfl
    simp at h
  exact ⟨_, (EReal.coe_toReal h1 h2).symm⟩

theorem fin_of_fn [Facts] (x0 : FVec Ideal S16x256 .f32) (x1 : FVec Ideal S288x256 .f32) (x2 : FVec Ideal S256 .f32) (x3 : FVec Ideal S256x1 .f32) (x4 : FVec Ideal S1 .f32) (x5 : FVec Ideal S2x32 .f32)
    (h : fn (F := Ideal) x0 x1 x2 x3 x4 x5 = fun _ => 1#1) (i : S2x32.Idx) : Fin' (x5 i) := by
  refine fin_of_abs ?_
  have h0 : fn (F := Ideal) x0 x1 x2 x3 x4 x5 (fun a => a.elim0) = 1#1 := congrFun h _
  have h1 : Ideal.cmp .olt (max (x5 i) (-x5 i)) (Ideal.ofBits .f32 0x7F800000#32) = 1#1 := Host.reduce_andi_all _ _ _ _ _ h0 i
  rw [infBits] at h1
  exact of_decide_eq_true ((StableHlo.Predicate.ofBool_eq_one_iff _).1 h1)

end Cert.Pre_bounds_finite

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Read
public import proofs.«01_k».proof.Proof.Kernel.Frame
public import proofs.«01_k».proof.Proof.KernelIdeal.Frame
public import proofs.«01_k».proof.Proof.KernelIdeal.Closed
public import proofs.«01_k».proof.Proof.RefFrame
public import proofs.«01_k».proof.Proof.Reference.Closed
public import proofs.«01_k».proof.Proof.Bounds

@[expose] public section

noncomputable section

namespace Cert.Proof

open Idealize.ShloMosaic Idealize.SL.Sem

theorem quiet_Kernel : quiescent_Kernel (hKernel := Cert.Kernel.Gen.facts) := fun m g _ =>
  (θ_run _ _ _).mono (fun _ h => ⟨fun c => (h.1 c).2, h.2⟩) (Cert.Kernel.Region.run (F := Bits) m g)
theorem quiet_KernelIdeal : quiescent_KernelIdeal (hKernelIdeal := Cert.KernelIdeal.Gen.facts) := fun m g _ =>
  (θ_run _ _ _).mono (fun _ h => ⟨fun c => (h.1 c).2, h.2⟩) (Cert.KernelIdeal.Region.run (F := Ideal) m g)
theorem quiet_ReferenceIdeal : quiescent_ReferenceIdeal (hReferenceIdeal := Cert.ReferenceIdeal.Gen.facts) := fun m g _ =>
  Cert.ReferenceIdeal.frame_run (F := Ideal) m g

theorem quiet_KernelIdeal_pre : quiescent_KernelIdeal_pre_bounds_finite (hKernelIdeal := Cert.KernelIdeal.Gen.facts) (hPre_bounds_finite := Cert.Pre_bounds_finite.facts) := fun m g _ =>
  quiet_KernelIdeal m g trivial
theorem quiet_ReferenceIdeal_pre : quiescent_ReferenceIdeal_pre_bounds_finite (hReferenceIdeal := Cert.ReferenceIdeal.Gen.facts) (hPre_bounds_finite := Cert.Pre_bounds_finite.facts) := fun m g _ =>
  quiet_ReferenceIdeal m g trivial

/-- Kernel and reference leave the closed form `Spec.answer` of the same arguments. -/
theorem algebraic : algebraic_KernelIdeal_ReferenceIdeal_pre_bounds_finite (hKernelIdeal := Cert.KernelIdeal.Gen.facts) (hReferenceIdeal := Cert.ReferenceIdeal.Gen.facts) (hPre_bounds_finite := Cert.Pre_bounds_finite.facts) := by
  intro m g m' g' hpre hargs
  have hf : ∀ (c : Dev KernelIdeal.nD) (a : Fin 2) (l : Fin 32), Spec.Fin' (KernelIdeal.Region.abd m c a l) := fun c a l =>
    @Pre_bounds_finite.fin_of_fn Pre_bounds_finite.facts _ _ _ _ _ _ (hpre c) (ix2 a l)
  refine ⟨_, (θ_run _ _ _).mono (fun _ h c => h.1 c) (Cert.KernelIdeal.Region.run (F := Ideal) m g), (θ_run _ _ _).mono (fun r h c => ⟨?_, (h c).2⟩) (ReferenceIdeal.Value.run (F := Ideal) m' g')⟩
  obtain ⟨a0, a1, a2, a3, a4, a5⟩ := hargs c
  refine (h c).1.trans ((ReferenceIdeal.Read.val_main_v668_eq (F := Ideal) (StableHlo.launchContents m' c)).trans ?_)
  rw [KernelIdeal.Region.value m c (hf c)]
  funext j
  refine (congrArg _ (eq_ix2 j)).trans ((ReferenceIdeal.Read.v668_at _ _ _ _ _ _ (j 0) (j 1)).trans ?_)
  rw [show StableHlo.launchContents m' c (Proc.devRef .tc ReferenceIdeal.main_arg0) = _ from a0,
    show StableHlo.launchContents m' c (Proc.devRef .tc ReferenceIdeal.main_arg1) = _ from a1,
    show StableHlo.launchContents m' c (Proc.devRef .tc ReferenceIdeal.main_arg2) = _ from a2,
    show StableHlo.launchContents m' c (Proc.devRef .tc ReferenceIdeal.main_arg3) = _ from a3,
    show StableHlo.launchContents m' c (Proc.devRef .tc ReferenceIdeal.main_arg4) = _ from a4,
    show StableHlo.launchContents m' c (Proc.devRef .tc ReferenceIdeal.main_arg5) = _ from a5]

theorem claim : Cert.Claim :=
  ⟨Cert.Kernel.Gen.facts, Cert.KernelIdeal.Gen.facts, Cert.ReferenceIdeal.Gen.facts, Cert.Pre_bounds_finite.facts,
    quiet_Kernel, quiet_KernelIdeal, quiet_KernelIdeal_pre, quiet_ReferenceIdeal, quiet_ReferenceIdeal_pre, trivial, algebraic⟩

end Cert.Proof

end
